-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Reference5 (m : (ℓ : Loc Cert.Reference5.nD Cert.Reference5.τ Cert.Reference5.sig) → Buf (Elt Bits) ℓ) : Prop :=
  True

def Pre_Kernel6 (m : (ℓ : Loc Cert.Kernel6.nD Cert.Kernel6.τ Cert.Kernel6.sig) → Buf (Elt Bits) ℓ) : Prop :=
  True

def Pre_Reference6 (m : (ℓ : Loc Cert.Reference6.nD Cert.Reference6.τ Cert.Reference6.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def bitexact_Kernel5_Reference5 [hKernel5 : Cert.Kernel5.Facts] [hReference5 : Cert.Reference5.Facts] : Prop :=
  ∀ (m : (ℓ : Loc Cert.Kernel5.nD Cert.Kernel5.τ Cert.Kernel5.sig) → Buf (Elt Bits) ℓ) (g : Dev Cert.Kernel5.nD → PrngReg)
    (m' : (ℓ : Loc Cert.Reference5.nD Cert.Reference5.τ Cert.Reference5.sig) → Buf (Elt Bits) ℓ) (g' : Dev Cert.Reference5.nD → PrngReg), Pre_Kernel5 m →
    (∀ c : Dev Cert.Kernel5.nD,
      m' ((c.tc : Thread Cert.Reference5.nD Cert.Reference5.τ).loc Cert.Reference5.main_arg0) = m ((c.tc : Thread Cert.Kernel5.nD Cert.Kernel5.τ).loc Cert.Kernel5.main_arg0)) →
    ∃ (v0 : (c : Dev Cert.Kernel5.nD) → Buf (Elt Bits) ((c.tc : Thread Cert.Kernel5.nD Cert.Kernel5.τ).loc Cert.Kernel5.main_v0)),
      θ_run (Cert.Kernel5.defs (F := Bits)) (onTc (τ := Cert.Kernel5.τ) (Cert.Kernel5.main (F := Bits))) ⟨m, fun _ => 0, g⟩ (fun r => ∀ c : Dev Cert.Kernel5.nD,
          r.2.mem ((c.tc : Thread Cert.Kernel5.nD Cert.Kernel5.τ).loc Cert.Kernel5.main_v0) = v0 c
          ∧ r.2.mem ((c.tc : Thread Cert.Kernel5.nD Cert.Kernel5.τ).loc Cert.Kernel5.main_arg0) = m ((c.tc : Thread Cert.Kernel5.nD Cert.Kernel5.τ).loc Cert.Kernel5.main_arg0))
      ∧ θ_run (Cert.Reference5.defs (F := Bits)) (onTc (τ := Cert.Reference5.τ) (Cert.Reference5.main (F := Bits))) ⟨m', fun _ => 0, g'⟩ (fun r => ∀ c : Dev Cert.Reference5.nD,
          r.2.mem ((c.tc : Thread Cert.Reference5.nD Cert.Reference5.τ).loc Cert.Reference5.main_v3) = v0 c
          ∧ r.2.mem ((c.tc : Thread Cert.Reference5.nD Cert.Reference5.τ).loc Cert.Reference5.main_arg0) = m' ((c.tc : Thread Cert.Reference5.nD Cert.Reference5.τ).loc Cert.Reference5.main_arg0))

def bitexact_Kernel6_Reference6 [hKernel6 : Cert.Kernel6.Facts] [hReference6 : Cert.Reference6.Facts] : Prop :=
  ∀ (m : (ℓ : Loc Cert.Kernel6.nD Cert.Kernel6.τ Cert.Kernel6.sig) → Buf (Elt Bits) ℓ) (g : Dev Cert.Kernel6.nD → PrngReg)
    (m' : (ℓ : Loc Cert.Reference6.nD Cert.Reference6.τ Cert.Reference6.sig) → Buf (Elt Bits) ℓ) (g' : Dev Cert.Reference6.nD → PrngReg), Pre_Kernel6 m →
    (∀ c : Dev Cert.Kernel6.nD,
      m' ((c.tc : Thread Cert.Reference6.nD Cert.Reference6.τ).loc Cert.Reference6.main_arg0) = m ((c.tc : Thread Cert.Kernel6.nD Cert.Kernel6.τ).loc Cert.Kernel6.main_arg0)) →
    ∃ (v0 : (c : Dev Cert.Kernel6.nD) → Buf (Elt Bits) ((c.tc : Thread Cert.Kernel6.nD Cert.Kernel6.τ).loc Cert.Kernel6.main_v0)),
      θ_run (Cert.Kernel6.defs (F := Bits)) (onTc (τ := Cert.Kernel6.τ) (Cert.Kernel6.main (F := Bits))) ⟨m, fun _ => 0, g⟩ (fun r => ∀ c : Dev Cert.Kernel6.nD,
          r.2.mem ((c.tc : Thread Cert.Kernel6.nD Cert.Kernel6.τ).loc Cert.Kernel6.main_v0) = v0 c
          ∧ r.2.mem ((c.tc : Thread Cert.Kernel6.nD Cert.Kernel6.τ).loc Cert.Kernel6.main_arg0) = m ((c.tc : Thread Cert.Kernel6.nD Cert.Kernel6.τ).loc Cert.Kernel6.main_arg0))
      ∧ θ_run (Cert.Reference6.defs (F := Bits)) (onTc (τ := Cert.Reference6.τ) (Cert.Reference6.main (F := Bits))) ⟨m', fun _ => 0, g'⟩ (fun r => ∀ c : Dev Cert.Reference6.nD,
          r.2.mem ((c.tc : Thread Cert.Reference6.nD Cert.Reference6.τ).loc Cert.Reference6.main_v3) = v0 c
          ∧ r.2.mem ((c.tc : Thread Cert.Reference6.nD Cert.Reference6.τ).loc Cert.Reference6.main_arg0) = m' ((c.tc : Thread Cert.Reference6.nD Cert.Reference6.τ).loc Cert.Reference6.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hReference5 : Cert.Reference5.Facts) (hKernel6 : Cert.Kernel6.Facts) (hReference6 : Cert.Reference6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Reference5 (hReference5 := hReference5)
    ∧ quiescent_Kernel6 (hKernel6 := hKernel6)
    ∧ quiescent_Reference6 (hReference6 := hReference6)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ bitexact_Kernel5_Reference5 (hKernel5 := hKernel5) (hReference5 := hReference5)
    ∧ bitexact_Kernel6_Reference6 (hKernel6 := hKernel6) (hReference6 := hReference6)
-- ==== Kernel.lean ====
abbrev S16x2048x1024 : Shape := ⟨3, ![16, 2048, 1024]⟩
abbrev S32768x10240 : Shape := ⟨2, ![32768, 10240]⟩
abbrev S1024x10272 : Shape := ⟨2, ![1024, 10272]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S32768x1024 : Shape := ⟨2, ![32768, 1024]⟩
abbrev S_ : Shape := ⟨0, ![]⟩
abbrev S128x128 : Shape := ⟨2, ![128, 128]⟩
abbrev S1024x32 : Shape := ⟨2, ![1024, 32]⟩
abbrev S1024x128 : Shape := ⟨2, ![1024, 128]⟩
abbrev S128 : Shape := ⟨1, ![128]⟩
abbrev S128x1 : Shape := ⟨2, ![128, 1]⟩
abbrev S1x2048 : Shape := ⟨2, ![1, 2048]⟩
abbrev S128x2048 : Shape := ⟨2, ![128, 2048]⟩
abbrev S1x128x1x2048 : Shape := ⟨4, ![1, 128, 1, 2048]⟩
abbrev S3x128x1x2048 : Shape := ⟨4, ![3, 128, 1, 2048]⟩
abbrev S384x2048 : Shape := ⟨2, ![384, 2048]⟩
abbrev S1x4096 : Shape := ⟨2, ![1, 4096]⟩
abbrev S128x4096 : Shape := ⟨2, ![128, 4096]⟩
abbrev S1x128x1x4096 : Shape := ⟨4, ![1, 128, 1, 4096]⟩
abbrev S3x128x1x4096 : Shape := ⟨4, ![3, 128, 1, 4096]⟩
abbrev S384x4096 : Shape := ⟨2, ![384, 4096]⟩
abbrev S128x1024 : Shape := ⟨2, ![128, 1024]⟩
abbrev S1x32 : Shape := ⟨2, ![1, 32]⟩
abbrev S1x128 : Shape := ⟨2, ![1, 128]⟩
abbrev S32x64 : Shape := ⟨2, ![32, 64]⟩
abbrev S32768x2048 : Shape := ⟨2, ![32768, 2048]⟩
abbrev S136x4096 : Shape := ⟨2, ![136, 4096]⟩
abbrev S16x128x128 : Shape := ⟨3, ![16, 128, 128]⟩
abbrev S8x4096 : Shape := ⟨2, ![8, 4096]⟩
abbrev S128x384 : Shape := ⟨2, ![128, 384]⟩
abbrev S1x128x128 : Shape := ⟨3, ![1, 128, 128]⟩

abbrev nBuf : Space → Nat
  | .hbm => 110
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S32768x10240, .bf16⟩
  | .hbm, ⟨2, _⟩ => ⟨S1024x10272, .f32⟩
  | .hbm, ⟨3, _⟩ => ⟨S4x4096, .f32⟩
  | .hbm, ⟨4, _⟩ => ⟨S4096, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S32768x1024, .f32⟩
  | .hbm, ⟨10, _⟩ => ⟨S_, .i1⟩
  | .hbm, ⟨11, _⟩ => ⟨S128x128, .i1⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S_, .i1⟩
  | .hbm, ⟨19, _⟩ => ⟨S128x128, .i1⟩
  | .hbm, ⟨20, _⟩ => ⟨S128x128, .i1⟩
  | .hbm, ⟨21, _⟩ => ⟨S1024x32, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S128, .i32⟩
  | .hbm, ⟨26, _⟩ => ⟨S128x1, .i32⟩
  | .hbm, ⟨27, _⟩ => ⟨S2048, .i32⟩
  | .hbm, ⟨28, _⟩ => ⟨S1x2048, .i32⟩
  | .hbm, ⟨29, _⟩ => ⟨S_, .i32⟩
  | .hbm, ⟨30, _⟩ => ⟨S_, .i32⟩
  | .hbm, ⟨31, _⟩ => ⟨S1x2048, .i32⟩
  | .hbm, ⟨32, _⟩ => ⟨S1x2048, .i32⟩
  | .hbm, ⟨33, _⟩ => ⟨S1x2048, .i32⟩
  | .hbm, ⟨34, _⟩ => ⟨S_, .i32⟩
  | .hbm, ⟨35, _⟩ => ⟨S1x2048, .i32⟩
  | .hbm, ⟨36, _⟩ => ⟨S1x2048, .i1⟩
  | .hbm, ⟨37, _⟩ => ⟨S1x2048, .i32⟩
  | .hbm, ⟨38, _⟩ => ⟨S1x2048, .i32⟩
  | .hbm, ⟨39, _⟩ => ⟨S_, .i32⟩
  | .hbm, ⟨40, _⟩ => ⟨S1x2048, .i32⟩
  | .hbm, ⟨41, _⟩ => ⟨S1x2048, .i1⟩
  | .hbm, ⟨42, _⟩ => ⟨S1x2048, .i1⟩
  | .hbm, ⟨43, _⟩ => ⟨S_, .i32⟩
  | .hbm, ⟨44, _⟩ => ⟨S1x2048, .i32⟩
  | .hbm, ⟨45, _⟩ => ⟨S1x2048, .i32⟩
  | .hbm, ⟨46, _⟩ => ⟨S1x2048, .i32⟩
  | .hbm, ⟨47, _⟩ => ⟨S128x2048, .i32⟩
  | .hbm, ⟨48, _⟩ => ⟨S128x2048, .i32⟩
  | .hbm, ⟨49, _⟩ => ⟨S128x2048, .i1⟩
  | .hbm, ⟨50, _⟩ => ⟨S128x2048, .bf16⟩
  | .hbm, ⟨51, _⟩ => ⟨S1x128x1x2048, .bf16⟩
  | .hbm, ⟨52, _⟩ => ⟨S3x128x1x2048, .bf16⟩
  | .hbm, ⟨53, _⟩ => ⟨S384x2048, .bf16⟩
  | .hbm, ⟨54, _⟩ => ⟨S4096, .i32⟩
  | .hbm, ⟨55, _⟩ => ⟨S1x4096, .i32⟩
  | .hbm, ⟨56, _⟩ => ⟨S_, .i32⟩
  | .hbm, ⟨57, _⟩ => ⟨S_, .i32⟩
  | .hbm, ⟨58, _⟩ => ⟨S1x4096, .i32⟩
  | .hbm, ⟨59, _⟩ => ⟨S1x4096, .i32⟩
  | .hbm, ⟨60, _⟩ => ⟨S1x4096, .i32⟩
  | .hbm, ⟨61, _⟩ => ⟨S_, .i32⟩
  | .hbm, ⟨62, _⟩ => ⟨S1x4096, .i32⟩
  | .hbm, ⟨63, _⟩ => ⟨S1x4096, .i1⟩
  | .hbm, ⟨64, _⟩ => ⟨S1x4096, .i32⟩
  | .hbm, ⟨65, _⟩ => ⟨S1x4096, .i32⟩
  | .hbm, ⟨66, _⟩ => ⟨S_, .i32⟩
  | .hbm, ⟨67, _⟩ => ⟨S1x4096, .i32⟩
  | .hbm, ⟨68, _⟩ => ⟨S1x4096, .i1⟩
  | .hbm, ⟨69, _⟩ => ⟨S1x4096, .i1⟩
  | .hbm, ⟨70, _⟩ => ⟨S_, .i32⟩
  | .hbm, ⟨71, _⟩ => ⟨S1x4096, .i32⟩
  | .hbm, ⟨72, _⟩ => ⟨S1x4096, .i32⟩
  | .hbm, ⟨73, _⟩ => ⟨S1x4096, .i32⟩
  | .hbm, ⟨74, _⟩ => ⟨S128x4096, .i32⟩
  | .hbm, ⟨75, _⟩ => ⟨S128x4096, .i32⟩
  | .hbm, ⟨76, _⟩ => ⟨S128x4096, .i1⟩
  | .hbm, ⟨77, _⟩ => ⟨S128x4096, .bf16⟩
  | .hbm, ⟨78, _⟩ => ⟨S1x128x1x4096, .bf16⟩
  | .hbm, ⟨79, _⟩ => ⟨S3x128x1x4096, .bf16⟩
  | .hbm, ⟨80, _⟩ => ⟨S384x4096, .bf16⟩
  | .hbm, ⟨81, _⟩ => ⟨S128x128, .bf16⟩
  | .hbm, ⟨82, _⟩ => ⟨S1024x128, .bf16⟩
  | .hbm, ⟨83, _⟩ => ⟨S128x1024, .f32⟩
  | .hbm, ⟨84, _⟩ => ⟨S128x1024, .bf16⟩
  | .hbm, ⟨85, _⟩ => ⟨S1x32, .f32⟩
  | .hbm, ⟨86, _⟩ => ⟨S_, .i32⟩
  | .hbm, ⟨87, _⟩ => ⟨S_, .f32⟩
  | .hbm, ⟨88, _⟩ => ⟨S1x128, .f32⟩
  | .hbm, ⟨89, _⟩ => ⟨S1x32, .f32⟩
  | .hbm, ⟨90, _⟩ => ⟨S_, .i32⟩
  | .hbm, ⟨91, _⟩ => ⟨S_, .f32⟩
  | .hbm, ⟨92, _⟩ => ⟨S1x128, .f32⟩
  | .hbm, ⟨93, _⟩ => ⟨S128x1, .f32⟩
  | .hbm, ⟨94, _⟩ => ⟨S1x32, .f32⟩
  | .hbm, ⟨95, _⟩ => ⟨S_, .i32⟩
  | .hbm, ⟨96, _⟩ => ⟨S_, .f32⟩
  | .hbm, ⟨97, _⟩ => ⟨S1x128, .f32⟩
  | .hbm, ⟨98, _⟩ => ⟨S1x32, .f32⟩
  | .hbm, ⟨99, _⟩ => ⟨S_, .i32⟩
  | .hbm, ⟨100, _⟩ => ⟨S_, .f32⟩
  | .hbm, ⟨101, _⟩ => ⟨S1x128, .f32⟩
  | .hbm, ⟨102, _⟩ => ⟨S128x1, .f32⟩
  | .hbm, ⟨103, _⟩ => ⟨S1x4096, .f32⟩
  | .hbm, ⟨104, _⟩ => ⟨S32x64, .f32⟩
  | .hbm, ⟨105, _⟩ => ⟨S2048, .f32⟩
  | .hbm, ⟨106, _⟩ => ⟨S1x2048, .f32⟩
  | .hbm, ⟨107, _⟩ => ⟨S1x2048, .f32⟩
  | .hbm, ⟨108, _⟩ => ⟨S128x128, .bf16⟩
  | .hbm, ⟨109, _⟩ => ⟨S32768x2048, .f32⟩
  | .local _ .vmem, ⟨0, _⟩ => ⟨S128x1024, .f32⟩
  | .local _ .vmem, ⟨1, _⟩ => ⟨S128x1024, .f32⟩
  | .local _ .vmem, ⟨2, _⟩ => ⟨S128x2048, .bf16⟩
  | .local _ .vmem, ⟨3, _⟩ => ⟨S128x2048, .bf16⟩
  | .local _ .vmem, ⟨4, _⟩ => ⟨S128x4096, .bf16⟩
  | .local _ .vmem, ⟨5, _⟩ => ⟨S128x4096, .bf16⟩
  | .local _ .vmem, ⟨6, _⟩ => ⟨S1024x128, .bf16⟩
  | .local _ .vmem, ⟨7, _⟩ => ⟨S128x1024, .bf16⟩
  | .local _ .vmem, ⟨8, _⟩ => ⟨S1x128, .f32⟩
  | .local _ .vmem, ⟨9, _⟩ => ⟨S128x1, .f32⟩
  | .local _ .vmem, ⟨10, _⟩ => ⟨S1x128, .f32⟩
  | .local _ .vmem, ⟨11, _⟩ => ⟨S128x1, .f32⟩
  | .local _ .vmem, ⟨12, _⟩ => ⟨S4x4096, .f32⟩
  | .local _ .vmem, ⟨13, _⟩ => ⟨S1x4096, .f32⟩
  | .local _ .vmem, ⟨14, _⟩ => ⟨S1x2048, .f32⟩
  | .local _ .vmem, ⟨15, _⟩ => ⟨S1x2048, .f32⟩
  | .local _ .vmem, ⟨16, _⟩ => ⟨S384x2048, .bf16⟩
  | .local _ .vmem, ⟨17, _⟩ => ⟨S384x4096, .bf16⟩
  | .local _ .vmem, ⟨18, _⟩ => ⟨S128x128, .bf16⟩
  | .local _ .vmem, ⟨19, _⟩ => ⟨S128x128, .bf16⟩
  | .local _ .vmem, ⟨20, _⟩ => ⟨S128x2048, .f32⟩
  | .local _ .vmem, ⟨21, _⟩ => ⟨S128x2048, .f32⟩
  | .local _ .vmem, ⟨22, _⟩ => ⟨S136x4096, .f32⟩
  | .local _ .vmem, ⟨23, _⟩ => ⟨S16x128x128, .f32⟩
  | .local _ .vmem, ⟨24, _⟩ => ⟨S128x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_0 : Ref sig .tc := ⟨.hbm, 43, rfl⟩
abbrev main_call2_v12 : Ref sig .tc := ⟨.hbm, 44, rfl⟩
abbrev main_call2_v13 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_c_2 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_c : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_0 : Ref sig .tc := ⟨.hbm, 70, rfl⟩
abbrev main_call3_v12 : Ref sig .tc := ⟨.hbm, 71, rfl⟩
abbrev main_call3_v13 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_c_3 : Ref sig .tc := ⟨.hbm, 86, rfl⟩
abbrev main_call4_v0 : Ref sig .tc := ⟨.hbm, 87, rfl⟩
abbrev main_v32 : Ref sig .tc := ⟨.hbm, 88, rfl⟩
abbrev main_v33 : Ref sig .tc := ⟨.hbm, 89, rfl⟩
abbrev main_c_4 : Ref sig .tc := ⟨.hbm, 90, rfl⟩
abbrev main_call5_v0 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_c_5 : Ref sig .tc := ⟨.hbm, 95, rfl⟩
abbrev main_call6_v0 : Ref sig .tc := ⟨.hbm, 96, rfl⟩
abbrev main_v37 : Ref sig .tc := ⟨.hbm, 97, rfl⟩
abbrev main_v38 : Ref sig .tc := ⟨.hbm, 98, rfl⟩
abbrev main_c_6 : Ref sig .tc := ⟨.hbm, 99, rfl⟩
abbrev main_call7_v0 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S384x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S384x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S128x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S16x2048x1024 : Shape := ⟨3, ![16, 2048, 1024]⟩
abbrev S32768x10240 : Shape := ⟨2, ![32768, 10240]⟩
abbrev S1024x10272 : Shape := ⟨2, ![1024, 10272]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S16x2048x10240 : Shape := ⟨3, ![16, 2048, 10240]⟩
abbrev S16x2048x2048 : Shape := ⟨3, ![16, 2048, 2048]⟩
abbrev S16x2048x4096 : Shape := ⟨3, ![16, 2048, 4096]⟩
abbrev S1024x32 : Shape := ⟨2, ![1024, 32]⟩
abbrev S16x2048x32 : Shape := ⟨3, ![16, 2048, 32]⟩
abbrev S_ : Shape := ⟨0, ![]⟩
abbrev S16x3x4096 : Shape := ⟨3, ![16, 3, 4096]⟩
abbrev S16x2051x4096 : Shape := ⟨3, ![16, 2051, 4096]⟩
abbrev S1x4096 : Shape := ⟨2, ![1, 4096]⟩
abbrev S1x1x4096 : Shape := ⟨3, ![1, 1, 4096]⟩
abbrev S16x16x128x8x4x64 : Shape := ⟨6, ![16, 16, 128, 8, 4, 64]⟩
abbrev S16x16x128x8x128 : Shape := ⟨5, ![16, 16, 128, 8, 128]⟩
abbrev S1x1x32 : Shape := ⟨3, ![1, 1, 32]⟩
abbrev S16x16x128x8x4 : Shape := ⟨5, ![16, 16, 128, 8, 4]⟩
abbrev S8x4 : Shape := ⟨2, ![8, 4]⟩
abbrev S1x1x1x8x4 : Shape := ⟨5, ![1, 1, 1, 8, 4]⟩
abbrev S16x16x8x4x128 : Shape := ⟨5, ![16, 16, 8, 4, 128]⟩
abbrev S16x16x128x8x4x1 : Shape := ⟨6, ![16, 16, 128, 8, 4, 1]⟩
abbrev S128x128 : Shape := ⟨2, ![128, 128]⟩
abbrev S16x16x8x4x128x1 : Shape := ⟨6, ![16, 16, 8, 4, 128, 1]⟩
abbrev S16x16x8x4x1x128 : Shape := ⟨6, ![16, 16, 8, 4, 1, 128]⟩
abbrev S16x16x8x4x128x128 : Shape := ⟨6, ![16, 16, 8, 4, 128, 128]⟩
abbrev S16x16x8x128x128 : Shape := ⟨5, ![16, 16, 8, 128, 128]⟩
abbrev S16x16x8x1x128x128 : Shape := ⟨6, ![16, 16, 8, 1, 128, 128]⟩
abbrev S16x16x8x4x64x128 : Shape := ⟨6, ![16, 16, 8, 4, 64, 128]⟩
abbrev S16x16x8x4x1 : Shape := ⟨5, ![16, 16, 8, 4, 1]⟩
abbrev S16x16x8x4 : Shape := ⟨4, ![16, 16, 8, 4]⟩
abbrev S16x8x4x64x128 : Shape := ⟨5, ![16, 8, 4, 64, 128]⟩
abbrev S1x16x8x4 : Shape := ⟨4, ![1, 16, 8, 4]⟩
abbrev S16x8x4 : Shape := ⟨3, ![16, 8, 4]⟩
abbrev S16x8x4x1x1 : Shape := ⟨5, ![16, 8, 4, 1, 1]⟩
abbrev S1x16x8x4x64x128 : Shape := ⟨6, ![1, 16, 8, 4, 64, 128]⟩
abbrev S8x4x1 : Shape := ⟨3, ![8, 4, 1]⟩
abbrev S1x1x1x8x4x1 : Shape := ⟨6, ![1, 1, 1, 8, 4, 1]⟩
abbrev S16x2048 : Shape := ⟨2, ![16, 2048]⟩
abbrev S16x2048x1 : Shape := ⟨3, ![16, 2048, 1]⟩
abbrev S1x1x2048 : Shape := ⟨3, ![1, 1, 2048]⟩
abbrev S32768x2048 : Shape := ⟨2, ![32768, 2048]⟩

abbrev nBuf : Space → Nat
  | .hbm => 328
  | .vmem => 0
  | .smem => 0
  | _ => 0

abbrev hbmTy0_0 (i : Nat) : BufTy := match i % 128 with
  | 0 => ⟨S16x2048x1024, .f32⟩
  | 1 => ⟨S32768x10240, .bf16⟩
  | 2 => ⟨S1024x10272, .f32⟩
  | 3 => ⟨S4x4096, .f32⟩
  | 4 => ⟨S4096, .f32⟩
  | 5 => ⟨S32, .f32⟩
  | 6 => ⟨S32, .f32⟩
  | 7 => ⟨S32, .f32⟩
  | 8 => ⟨S2048, .f32⟩
  | 9 => ⟨S32768x10240, .f32⟩
  | 10 => ⟨S16x2048x10240, .f32⟩
  | 11 => ⟨S16x2048x2048, .f32⟩
  | 12 => ⟨S16x2048x4096, .f32⟩
  | 13 => ⟨S1024x32, .f32⟩
  | 14 => ⟨S16x2048x32, .f32⟩
  | 15 => ⟨S_, .f32⟩
  | 16 => ⟨S16x3x4096, .f32⟩
  | 17 => ⟨S16x2051x4096, .f32⟩
  | 18 => ⟨S1x4096, .f32⟩
  | 19 => ⟨S4096, .f32⟩
  | 20 => ⟨S16x2048x4096, .f32⟩
  | 21 => ⟨S1x1x4096, .f32⟩
  | 22 => ⟨S16x2048x4096, .f32⟩
  | 23 => ⟨S16x2048x4096, .f32⟩
  | 24 => ⟨S_, .f32⟩
  | 25 => ⟨S16x2048x4096, .f32⟩
  | 26 => ⟨S16x2048x4096, .f32⟩
  | 27 => ⟨S1x4096, .f32⟩
  | 28 => ⟨S4096, .f32⟩
  | 29 => ⟨S16x2048x4096, .f32⟩
  | 30 => ⟨S1x1x4096, .f32⟩
  | 31 => ⟨S16x2048x4096, .f32⟩
  | 32 => ⟨S16x2048x4096, .f32⟩
  | 33 => ⟨S16x2048x4096, .f32⟩
  | 34 => ⟨S1x4096, .f32⟩
  | 35 => ⟨S4096, .f32⟩
  | 36 => ⟨S16x2048x4096, .f32⟩
  | 37 => ⟨S1x1x4096, .f32⟩
  | 38 => ⟨S16x2048x4096, .f32⟩
  | 39 => ⟨S16x2048x4096, .f32⟩
  | 40 => ⟨S16x2048x4096, .f32⟩
  | 41 => ⟨S1x4096, .f32⟩
  | 42 => ⟨S4096, .f32⟩
  | 43 => ⟨S16x2048x4096, .f32⟩
  | 44 => ⟨S1x1x4096, .f32⟩
  | 45 => ⟨S16x2048x4096, .f32⟩
  | 46 => ⟨S16x2048x4096, .f32⟩
  | 47 => ⟨S16x2048x4096, .f32⟩
  | 48 => ⟨S1x1x4096, .f32⟩
  | 49 => ⟨S16x2048x4096, .f32⟩
  | 50 => ⟨S16x2048x4096, .f32⟩
  | 51 => ⟨S16x2048x4096, .f32⟩
  | 52 => ⟨S16x2048x4096, .f32⟩
  | 53 => ⟨S_, .f32⟩
  | 54 => ⟨S16x2048x4096, .f32⟩
  | 55 => ⟨S16x2048x4096, .f32⟩
  | 56 => ⟨S_, .f32⟩
  | 57 => ⟨S16x2048x4096, .f32⟩
  | 58 => ⟨S16x2048x4096, .f32⟩
  | 59 => ⟨S16x2048x4096, .f32⟩
  | 60 => ⟨S16x2048x2048, .f32⟩
  | 61 => ⟨S16x2048x1024, .f32⟩
  | 62 => ⟨S16x2048x1024, .f32⟩
  | 63 => ⟨S16x16x128x8x4x64, .f32⟩
  | 64 => ⟨S16x16x128x8x128, .f32⟩
  | 65 => ⟨S16x16x128x8x128, .f32⟩
  | 66 => ⟨S1x1x32, .f32⟩
  | 67 => ⟨S16x2048x32, .f32⟩
  | 68 => ⟨S16x2048x32, .f32⟩
  | 69 => ⟨S_, .f32⟩
  | 70 => ⟨S16x2048x32, .f32⟩
  | 71 => ⟨S16x2048x32, .f32⟩
  | 72 => ⟨S16x2048x32, .f32⟩
  | 73 => ⟨S16x2048x32, .f32⟩
  | 74 => ⟨S16x2048x32, .i1⟩
  | 75 => ⟨S16x2048x32, .f32⟩
  | 76 => ⟨S16x2048x32, .f32⟩
  | 77 => ⟨S16x2048x32, .f32⟩
  | 78 => ⟨S16x2048x32, .f32⟩
  | 79 => ⟨S16x2048x32, .f32⟩
  | 80 => ⟨S16x2048x32, .f32⟩
  | 81 => ⟨S16x2048x32, .f32⟩
  | 82 => ⟨S16x2048x32, .f32⟩
  | 83 => ⟨S16x16x128x8x4, .f32⟩
  | 84 => ⟨S32, .f32⟩
  | 85 => ⟨S8x4, .f32⟩
  | 86 => ⟨S8x4, .f32⟩
  | 87 => ⟨S1x1x1x8x4, .f32⟩
  | 88 => ⟨S16x16x128x8x4, .f32⟩
  | 89 => ⟨S16x16x128x8x4, .f32⟩
  | 90 => ⟨S_, .f32⟩
  | 91 => ⟨S_, .f32⟩
  | 92 => ⟨S16x16x128x8x4, .f32⟩
  | 93 => ⟨S16x16x8x4x128, .f32⟩
  | 94 => ⟨S16x16x128x8x4x1, .f32⟩
  | 95 => ⟨S16x16x128x8x4x64, .f32⟩
  | 96 => ⟨S16x16x128x8x4x64, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S16x16x8x4x128x1, .f32⟩
  | 109 => ⟨S16x16x8x4x1x128, .f32⟩
  | 110 => ⟨S16x16x8x4x128x128, .f32⟩
  | 111 => ⟨S16x16x8x4x128x128, .f32⟩
  | 112 => ⟨S16x16x8x4x128x128, .f32⟩
  | 113 => ⟨S_, .f32⟩
  | 114 => ⟨S_, .f32⟩
  | 115 => ⟨S16x16x8x4x128x128, .i1⟩
  | 116 => ⟨S16x16x8x4x128x128, .f32⟩
  | 117 => ⟨S16x16x8x4x128x128, .f32⟩
  | 118 => ⟨S16x16x8x4x128x128, .f32⟩
  | 119 => ⟨S16x16x8x128x128, .f32⟩
  | 120 => ⟨S16x16x8x1x128x128, .f32⟩
  | 121 => ⟨S16x16x8x4x128x128, .f32⟩
  | 122 => ⟨S16x16x8x4x128x128, .f32⟩
  | 123 => ⟨S16x16x8x4x64x128, .f32⟩
  | 124 => ⟨S16x16x128x8x4x64, .f32⟩
  | 125 => ⟨S16x16x8x4x1, .f32⟩
  | 126 => ⟨S16x16x8x4x128, .f32⟩
  | 127 => ⟨S16x16x8x4x128, .f32⟩
  | _ => ⟨S16x2048x1024, .f32⟩

abbrev hbmTy0_1 (i : Nat) : BufTy := match i % 128 with
  | 0 => ⟨S16x16x8x4x128, .f32⟩
  | 1 => ⟨S16x16x128x8x4, .f32⟩
  | 2 => ⟨S16x16x128x8x4x1, .f32⟩
  | 3 => ⟨S16x16x128x8x4x64, .f32⟩
  | 4 => ⟨S16x16x128x8x4x64, .f32⟩
  | 5 => ⟨S16x16x8x4x64x128, .f32⟩
  | 6 => ⟨S16x16x8x4x1, .f32⟩
  | 7 => ⟨S16x16x8x4, .f32⟩
  | 8 => ⟨S16x16x8x4, .f32⟩
  | 9 => ⟨S_, .f32⟩
  | 10 => ⟨S16x8x4x64x128, .f32⟩
  | 11 => ⟨S16x16x8x4x64x128, .f32⟩
  | 12 => ⟨S16x16x8x4, .f32⟩
  | 13 => ⟨S1x16x8x4, .f32⟩
  | 14 => ⟨S16x8x4, .f32⟩
  | 15 => ⟨S16x8x4x1x1, .f32⟩
  | 16 => ⟨S16x8x4x64x128, .f32⟩
  | 17 => ⟨S16x8x4x64x128, .f32⟩
  | 18 => ⟨S1x16x8x4x64x128, .f32⟩
  | 19 => ⟨S16x8x4x64x128, .f32⟩
  | 20 => ⟨S16x8x4x64x128, .f32⟩
  | 21 => ⟨S1x16x8x4, .f32⟩
  | 22 => ⟨S16x8x4, .f32⟩
  | 23 => ⟨S16x8x4x1x1, .f32⟩
  | 24 => ⟨S16x8x4x64x128, .f32⟩
  | 25 => ⟨S16x8x4x64x128, .f32⟩
  | 26 => ⟨S1x16x8x4x64x128, .f32⟩
  | 27 => ⟨S16x8x4x64x128, .f32⟩
  | 28 => ⟨S16x8x4x64x128, .f32⟩
  | 29 => ⟨S1x16x8x4, .f32⟩
  | 30 => ⟨S16x8x4, .f32⟩
  | 31 => ⟨S16x8x4x1x1, .f32⟩
  | 32 => ⟨S16x8x4x64x128, .f32⟩
  | 33 => ⟨S16x8x4x64x128, .f32⟩
  | 34 => ⟨S1x16x8x4x64x128, .f32⟩
  | 35 => ⟨S16x8x4x64x128, .f32⟩
  | 36 => ⟨S16x8x4x64x128, .f32⟩
  | 37 => ⟨S1x16x8x4, .f32⟩
  | 38 => ⟨S16x8x4, .f32⟩
  | 39 => ⟨S16x8x4x1x1, .f32⟩
  | 40 => ⟨S16x8x4x64x128, .f32⟩
  | 41 => ⟨S16x8x4x64x128, .f32⟩
  | 42 => ⟨S1x16x8x4x64x128, .f32⟩
  | 43 => ⟨S16x8x4x64x128, .f32⟩
  | 44 => ⟨S16x8x4x64x128, .f32⟩
  | 45 => ⟨S1x16x8x4, .f32⟩
  | 46 => ⟨S16x8x4, .f32⟩
  | 47 => ⟨S16x8x4x1x1, .f32⟩
  | 48 => ⟨S16x8x4x64x128, .f32⟩
  | 49 => ⟨S16x8x4x64x128, .f32⟩
  | 50 => ⟨S1x16x8x4x64x128, .f32⟩
  | 51 => ⟨S16x8x4x64x128, .f32⟩
  | 52 => ⟨S16x8x4x64x128, .f32⟩
  | 53 => ⟨S1x16x8x4, .f32⟩
  | 54 => ⟨S16x8x4, .f32⟩
  | 55 => ⟨S16x8x4x1x1, .f32⟩
  | 56 => ⟨S16x8x4x64x128, .f32⟩
  | 57 => ⟨S16x8x4x64x128, .f32⟩
  | 58 => ⟨S1x16x8x4x64x128, .f32⟩
  | 59 => ⟨S16x8x4x64x128, .f32⟩
  | 60 => ⟨S16x8x4x64x128, .f32⟩
  | 61 => ⟨S1x16x8x4, .f32⟩
  | 62 => ⟨S16x8x4, .f32⟩
  | 63 => ⟨S16x8x4x1x1, .f32⟩
  | 64 => ⟨S16x8x4x64x128, .f32⟩
  | 65 => ⟨S16x8x4x64x128, .f32⟩
  | 66 => ⟨S1x16x8x4x64x128, .f32⟩
  | 67 => ⟨S16x8x4x64x128, .f32⟩
  | 68 => ⟨S16x8x4x64x128, .f32⟩
  | 69 => ⟨S1x16x8x4, .f32⟩
  | 70 => ⟨S16x8x4, .f32⟩
  | 71 => ⟨S16x8x4x1x1, .f32⟩
  | 72 => ⟨S16x8x4x64x128, .f32⟩
  | 73 => ⟨S16x8x4x64x128, .f32⟩
  | 74 => ⟨S1x16x8x4x64x128, .f32⟩
  | 75 => ⟨S16x8x4x64x128, .f32⟩
  | 76 => ⟨S16x8x4x64x128, .f32⟩
  | 77 => ⟨S1x16x8x4, .f32⟩
  | 78 => ⟨S16x8x4, .f32⟩
  | 79 => ⟨S16x8x4x1x1, .f32⟩
  | 80 => ⟨S16x8x4x64x128, .f32⟩
  | 81 => ⟨S16x8x4x64x128, .f32⟩
  | 82 => ⟨S1x16x8x4x64x128, .f32⟩
  | 83 => ⟨S16x8x4x64x128, .f32⟩
  | 84 => ⟨S16x8x4x64x128, .f32⟩
  | 85 => ⟨S1x16x8x4, .f32⟩
  | 86 => ⟨S16x8x4, .f32⟩
  | 87 => ⟨S16x8x4x1x1, .f32⟩
  | 88 => ⟨S16x8x4x64x128, .f32⟩
  | 89 => ⟨S16x8x4x64x128, .f32⟩
  | 90 => ⟨S1x16x8x4x64x128, .f32⟩
  | 91 => ⟨S16x8x4x64x128, .f32⟩
  | 92 => ⟨S16x8x4x64x128, .f32⟩
  | 93 => ⟨S1x16x8x4, .f32⟩
  | 94 => ⟨S16x8x4, .f32⟩
  | 95 => ⟨S16x8x4x1x1, .f32⟩
  | 96 => ⟨S16x8x4x64x128, .f32⟩
  | 97 => ⟨S16x8x4x64x128, .f32⟩
  | 98 => ⟨S1x16x8x4x64x128, .f32⟩
  | 99 => ⟨S16x8x4x64x128, .f32⟩
  | 100 => ⟨S16x8x4x64x128, .f32⟩
  | 101 => ⟨S1x16x8x4, .f32⟩
  | 102 => ⟨S16x8x4, .f32⟩
  | 103 => ⟨S16x8x4x1x1, .f32⟩
  | 104 => ⟨S16x8x4x64x128, .f32⟩
  | 105 => ⟨S16x8x4x64x128, .f32⟩
  | 106 => ⟨S1x16x8x4x64x128, .f32⟩
  | 107 => ⟨S16x8x4x64x128, .f32⟩
  | 108 => ⟨S16x8x4x64x128, .f32⟩
  | 109 => ⟨S1x16x8x4, .f32⟩
  | 110 => ⟨S16x8x4, .f32⟩
  | 111 => ⟨S16x8x4x1x1, .f32⟩
  | 112 => ⟨S16x8x4x64x128, .f32⟩
  | 113 => ⟨S16x8x4x64x128, .f32⟩
  | 114 => ⟨S1x16x8x4x64x128, .f32⟩
  | 115 => ⟨S16x8x4x64x128, .f32⟩
  | 116 => ⟨S16x8x4x64x128, .f32⟩
  | 117 => ⟨S1x16x8x4, .f32⟩
  | 118 => ⟨S16x8x4, .f32⟩
  | 119 => ⟨S16x8x4x1x1, .f32⟩
  | 120 => ⟨S16x8x4x64x128, .f32⟩
  | 121 => ⟨S16x8x4x64x128, .f32⟩
  | 122 => ⟨S1x16x8x4x64x128, .f32⟩
  | 123 => ⟨S16x8x4x64x128, .f32⟩
  | 124 => ⟨S16x8x4x64x128, .f32⟩
  | 125 => ⟨S1x16x8x4, .f32⟩
  | 126 => ⟨S16x8x4, .f32⟩
  | 127 => ⟨S16x8x4x1x1, .f32⟩
  | _ => ⟨S16x2048x1024, .f32⟩

abbrev hbmTy0_2 (i : Nat) : BufTy := match i % 128 with
  | 0 => ⟨S16x8x4x64x128, .f32⟩
  | 1 => ⟨S16x8x4x64x128, .f32⟩
  | 2 => ⟨S1x16x8x4x64x128, .f32⟩
  | 3 => ⟨S16x8x4x64x128, .f32⟩
  | 4 => ⟨S16x8x4x64x128, .f32⟩
  | 5 => ⟨S1x16x8x4, .f32⟩
  | 6 => ⟨S16x8x4, .f32⟩
  | 7 => ⟨S16x8x4x1x1, .f32⟩
  | 8 => ⟨S16x8x4x64x128, .f32⟩
  | 9 => ⟨S16x8x4x64x128, .f32⟩
  | 10 => ⟨S1x16x8x4x64x128, .f32⟩
  | 11 => ⟨S16x8x4x64x128, .f32⟩
  | 12 => ⟨S16x8x4x64x128, .f32⟩
  | 13 => ⟨S1x16x8x4x64x128, .f32⟩
  | 14 => ⟨S1x16x8x4x64x128, .f32⟩
  | 15 => ⟨S1x16x8x4x64x128, .f32⟩
  | 16 => ⟨S1x16x8x4x64x128, .f32⟩
  | 17 => ⟨S1x16x8x4x64x128, .f32⟩
  | 18 => ⟨S1x16x8x4x64x128, .f32⟩
  | 19 => ⟨S1x16x8x4x64x128, .f32⟩
  | 20 => ⟨S1x16x8x4x64x128, .f32⟩
  | 21 => ⟨S1x16x8x4x64x128, .f32⟩
  | 22 => ⟨S1x16x8x4x64x128, .f32⟩
  | 23 => ⟨S1x16x8x4x64x128, .f32⟩
  | 24 => ⟨S1x16x8x4x64x128, .f32⟩
  | 25 => ⟨S1x16x8x4x64x128, .f32⟩
  | 26 => ⟨S1x16x8x4x64x128, .f32⟩
  | 27 => ⟨S1x16x8x4x64x128, .f32⟩
  | 28 => ⟨S1x16x8x4x64x128, .f32⟩
  | 29 => ⟨S16x16x8x4x64x128, .f32⟩
  | 30 => ⟨S16x16x8x4x64x128, .f32⟩
  | 31 => ⟨S16x16x8x4x64x128, .f32⟩
  | 32 => ⟨S16x16x128x8x4x64, .f32⟩
  | 33 => ⟨S16x16x128x8x4, .f32⟩
  | 34 => ⟨S16x16x128x8x4x1, .f32⟩
  | 35 => ⟨S16x16x128x8x4x64, .f32⟩
  | 36 => ⟨S16x16x128x8x4x64, .f32⟩
  | 37 => ⟨S16x16x128x8x4x64, .f32⟩
  | 38 => ⟨S8x4, .f32⟩
  | 39 => ⟨S8x4x1, .f32⟩
  | 40 => ⟨S1x1x1x8x4x1, .f32⟩
  | 41 => ⟨S16x16x128x8x4x64, .f32⟩
  | 42 => ⟨S16x16x128x8x4x64, .f32⟩
  | 43 => ⟨S16x16x128x8x4x64, .f32⟩
  | 44 => ⟨S16x2048x2048, .f32⟩
  | 45 => ⟨S16x2048x2048, .f32⟩
  | 46 => ⟨S16x2048x2048, .f32⟩
  | 47 => ⟨S_, .f32⟩
  | 48 => ⟨S16x2048x2048, .f32⟩
  | 49 => ⟨S16x2048x2048, .f32⟩
  | 50 => ⟨S_, .f32⟩
  | 51 => ⟨S16x2048x2048, .f32⟩
  | 52 => ⟨S16x2048x2048, .f32⟩
  | 53 => ⟨S16x2048x2048, .f32⟩
  | 54 => ⟨S16x2048x2048, .f32⟩
  | 55 => ⟨S16x2048x2048, .f32⟩
  | 56 => ⟨S_, .f32⟩
  | 57 => ⟨S16x2048, .f32⟩
  | 58 => ⟨S16x2048x1, .f32⟩
  | 59 => ⟨S_, .f32⟩
  | 60 => ⟨S16x2048x1, .f32⟩
  | 61 => ⟨S16x2048x1, .f32⟩
  | 62 => ⟨S_, .f32⟩
  | 63 => ⟨S16x2048x1, .f32⟩
  | 64 => ⟨S16x2048x1, .f32⟩
  | 65 => ⟨S16x2048x1, .f32⟩
  | 66 => ⟨S16x2048x2048, .f32⟩
  | 67 => ⟨S16x2048x2048, .f32⟩
  | 68 => ⟨S1x1x2048, .f32⟩
  | 69 => ⟨S16x2048x2048, .f32⟩
  | 70 => ⟨S16x2048x2048, .f32⟩
  | 71 => ⟨S32768x2048, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call2_call0_cst : Ref sig .tc := ⟨.hbm, 90, rfl⟩
abbrev main_call2_call0_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c : Ref sig .tc := ⟨.hbm, 97, rfl⟩
abbrev main_v63 : Ref sig .tc := ⟨.hbm, 98, rfl⟩
abbrev main_call3_v0 : Ref sig .tc := ⟨.hbm, 99, rfl⟩
abbrev main_call3_c : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_c_0 : Ref sig .tc := ⟨.hbm, 105, rfl⟩
abbrev main_call3_v5 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_1 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_2 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_call5_v0 : Ref sig .tc := ⟨.hbm, 301, rfl⟩
abbrev main_call5_v1 : Ref sig .tc := ⟨.hbm, 302, rfl⟩
abbrev main_call5_cst : Ref sig .tc := ⟨.hbm, 303, rfl⟩
abbrev main_call5_v2 : Ref sig .tc := ⟨.hbm, 304, rfl⟩
abbrev main_call5_v3 : Ref sig .tc := ⟨.hbm, 305, rfl⟩
abbrev main_call5_cst_0 : Ref sig .tc := ⟨.hbm, 306, rfl⟩
abbrev main_call5_v4 : Ref sig .tc := ⟨.hbm, 307, rfl⟩
abbrev main_call5_v5 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_cst_3 : Ref sig .tc := ⟨.hbm, 312, rfl⟩
abbrev main_v256 : Ref sig .tc := ⟨.hbm, 313, rfl⟩
abbrev main_v257 : Ref sig .tc := ⟨.hbm, 314, rfl⟩
abbrev main_cst_4 : Ref sig .tc := ⟨.hbm, 315, rfl⟩
abbrev main_v258 : Ref sig .tc := ⟨.hbm, 316, rfl⟩
abbrev main_v259 : Ref sig .tc := ⟨.hbm, 317, rfl⟩
abbrev main_cst_5 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024x10272 : Shape := ⟨2, ![1024, 10272]⟩
abbrev S32768x1024 : Shape := ⟨2, ![32768, 1024]⟩
abbrev S1024x8192 : Shape := ⟨2, ![1024, 8192]⟩
abbrev S1024x2048 : Shape := ⟨2, ![1024, 2048]⟩
abbrev S1024x10240 : Shape := ⟨2, ![1024, 10240]⟩
abbrev S32768x10240 : Shape := ⟨2, ![32768, 10240]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024x10272, .f32⟩
  | .hbm, ⟨2, _⟩ => ⟨S32768x1024, .f32⟩
  | .hbm, ⟨3, _⟩ => ⟨S1024x8192, .f32⟩
  | .hbm, ⟨4, _⟩ => ⟨S1024x2048, .f32⟩
  | .hbm, ⟨5, _⟩ => ⟨S1024x10240, .f32⟩
  | .hbm, ⟨6, _⟩ => ⟨S1024x10240, .bf16⟩
  | .hbm, ⟨7, _⟩ => ⟨S32768x10240, .bf16⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16x2048x1024 : Shape := ⟨3, ![16, 2048, 1024]⟩
abbrev S1024x10272 : Shape := ⟨2, ![1024, 10272]⟩
abbrev S16x2048x10272 : Shape := ⟨3, ![16, 2048, 10272]⟩
abbrev S16x2048x8192 : Shape := ⟨3, ![16, 2048, 8192]⟩
abbrev S16x2048x2048 : Shape := ⟨3, ![16, 2048, 2048]⟩
abbrev S16x2048x10240 : Shape := ⟨3, ![16, 2048, 10240]⟩
abbrev S32768x10240 : Shape := ⟨2, ![32768, 10240]⟩

abbrev nBuf : Space → Nat
  | .hbm => 8
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x10272, .f32⟩
  | .hbm, ⟨2, _⟩ => ⟨S16x2048x10272, .f32⟩
  | .hbm, ⟨3, _⟩ => ⟨S16x2048x8192, .f32⟩
  | .hbm, ⟨4, _⟩ => ⟨S16x2048x2048, .f32⟩
  | .hbm, ⟨5, _⟩ => ⟨S16x2048x10240, .f32⟩
  | .hbm, ⟨6, _⟩ => ⟨S16x2048x10240, .bf16⟩
  | .hbm, ⟨7, _⟩ => ⟨S32768x10240, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S32768x10240 : Shape := ⟨2, ![32768, 10240]⟩
abbrev S2048 : Shape := ⟨1, ![2048]⟩
abbrev S2048x1024 : Shape := ⟨2, ![2048, 1024]⟩
abbrev S1024x1024 : Shape := ⟨2, ![1024, 1024]⟩
abbrev S16x2048x1024 : Shape := ⟨3, ![16, 2048, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x2048, .f32⟩
  | .hbm, ⟨2, _⟩ => ⟨S32768x10240, .bf16⟩
  | .hbm, ⟨3, _⟩ => ⟨S2048, .f32⟩
  | .hbm, ⟨4, _⟩ => ⟨S2048x1024, .f32⟩
  | .hbm, ⟨5, _⟩ => ⟨S1024x1024, .f32⟩
  | .hbm, ⟨6, _⟩ => ⟨S16x2048x1024, .f32⟩
  | .hbm, ⟨7, _⟩ => ⟨S1024, .f32⟩
  | .hbm, ⟨8, _⟩ => ⟨S1024, .f32⟩
  | .hbm, ⟨9, _⟩ => ⟨S32768x1024, .f32⟩
  | .hbm, ⟨10, _⟩ => ⟨S1024, .f32⟩
  | .hbm, ⟨11, _⟩ => ⟨S1x1024, .f32⟩
  | .hbm, ⟨12, _⟩ => ⟨S2048x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S2048x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S32768x2048 : Shape := ⟨2, ![32768, 2048]⟩
abbrev S32768x10240 : Shape := ⟨2, ![32768, 10240]⟩
abbrev S2048 : Shape := ⟨1, ![2048]⟩
abbrev S2048x1024 : Shape := ⟨2, ![2048, 1024]⟩
abbrev S1024x1024 : Shape := ⟨2, ![1024, 1024]⟩
abbrev S16x2048x1024 : Shape := ⟨3, ![16, 2048, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .f32⟩
  | .hbm, ⟨2, _⟩ => ⟨S32768x10240, .bf16⟩
  | .hbm, ⟨3, _⟩ => ⟨S2048, .f32⟩
  | .hbm, ⟨4, _⟩ => ⟨S2048x1024, .f32⟩
  | .hbm, ⟨5, _⟩ => ⟨S1024x1024, .f32⟩
  | .hbm, ⟨6, _⟩ => ⟨S16x2048x1024, .f32⟩
  | .hbm, ⟨7, _⟩ => ⟨S1024, .f32⟩
  | .hbm, ⟨8, _⟩ => ⟨S1024, .f32⟩
  | .hbm, ⟨9, _⟩ => ⟨S32768x1024, .bf16⟩
  | .hbm, ⟨10, _⟩ => ⟨S32768x1024, .f32⟩
  | .hbm, ⟨11, _⟩ => ⟨S1024, .f32⟩
  | .hbm, ⟨12, _⟩ => ⟨S1x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel4.lean ====
abbrev S32768x10240 : Shape := ⟨2, ![32768, 10240]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S32768x1024 : Shape := ⟨2, ![32768, 1024]⟩
abbrev S512x2048 : Shape := ⟨2, ![512, 2048]⟩
abbrev S512x1024 : Shape := ⟨2, ![512, 1024]⟩
abbrev S128x2048 : Shape := ⟨2, ![128, 2048]⟩
abbrev S128 : Shape := ⟨1, ![128]⟩
abbrev S128x1 : Shape := ⟨2, ![128, 1]⟩

abbrev nBuf : Space → Nat
  | .hbm => 34
  | .vmem => 13
  | .smem => 0
  | _ => 0

abbrev bufTy : (tb : Table) → Fin (tcTables nBuf tb) → BufTy
  | .hbm, ⟨0, _⟩ => ⟨S32768x10240, .bf16⟩
  | .hbm, ⟨1, _⟩ => ⟨S2048, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S8x128x128, .bf16⟩
  | .hbm, ⟨25, _⟩ => ⟨S128x8, .f32⟩
  | .hbm, ⟨26, _⟩ => ⟨S128x8x128, .f32⟩
  | .hbm, ⟨27, _⟩ => ⟨S128x1024, .f32⟩
  | .hbm, ⟨28, _⟩ => ⟨S1x1024, .f32⟩
  | .hbm, ⟨29, _⟩ => ⟨S1x1024, .f32⟩
  | .hbm, ⟨30, _⟩ => ⟨S1024x1024, .bf16⟩
  | .hbm, ⟨31, _⟩ => ⟨S1024, .f32⟩
  | .hbm, ⟨32, _⟩ => ⟨S1x1024, .f32⟩
  | .hbm, ⟨33, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | _, _ => ⟨S32768x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32768x10240 : Shape := ⟨2, ![32768, 10240]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S32768x2048 : Shape := ⟨2, ![32768, 2048]⟩
abbrev S16x2048x2048 : Shape := ⟨3, ![16, 2048, 2048]⟩
abbrev S_ : Shape := ⟨0, ![]⟩
abbrev S16x2048x1024 : Shape := ⟨3, ![16, 2048, 1024]⟩
abbrev S16x2048 : Shape := ⟨2, ![16, 2048]⟩
abbrev S16x2048x1 : Shape := ⟨3, ![16, 2048, 1]⟩
abbrev S1x1x1024 : Shape := ⟨3, ![1, 1, 1024]⟩
abbrev S16x16x128x8x128 : Shape := ⟨5, ![16, 16, 128, 8, 128]⟩
abbrev S128x128 : Shape := ⟨2, ![128, 128]⟩
abbrev S1x128x128 : Shape := ⟨3, ![1, 128, 128]⟩
abbrev S8x16x16x128x128 : Shape := ⟨5, ![8, 16, 16, 128, 128]⟩
abbrev S128x8 : Shape := ⟨2, ![128, 8]⟩
abbrev S1x1x128x8x1 : Shape := ⟨5, ![1, 1, 128, 8, 1]⟩
abbrev S32768x1024 : Shape := ⟨2, ![32768, 1024]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S32768x10240, .bf16⟩
  | .hbm, ⟨1, _⟩ => ⟨S2048, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S32768x2048, .bf16⟩
  | .hbm, ⟨8, _⟩ => ⟨S32768x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S16x16x128x8x128, .f32⟩
  | .hbm, ⟨59, _⟩ => ⟨S_, .i1⟩
  | .hbm, ⟨60, _⟩ => ⟨S128x128, .i1⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .i1⟩
  | .hbm, ⟨68, _⟩ => ⟨S128x128, .i1⟩
  | .hbm, ⟨69, _⟩ => ⟨S128x128, .i1⟩
  | .hbm, ⟨70, _⟩ => ⟨S1x128x128, .i1⟩
  | .hbm, ⟨71, _⟩ => ⟨S_, .f32⟩
  | .hbm, ⟨72, _⟩ => ⟨S8x128x128, .f32⟩
  | .hbm, ⟨73, _⟩ => ⟨S8x128x128, .i1⟩
  | .hbm, ⟨74, _⟩ => ⟨S8x128x128, .f32⟩
  | .hbm, ⟨75, _⟩ => ⟨S8x16x16x128x128, .f32⟩
  | .hbm, ⟨76, _⟩ => ⟨S16x16x128x8x128, .f32⟩
  | .hbm, ⟨77, _⟩ => ⟨S128x8, .f32⟩
  | .hbm, ⟨78, _⟩ => ⟨S1x1x128x8x1, .f32⟩
  | .hbm, ⟨79, _⟩ => ⟨S16x16x128x8x128, .f32⟩
  | .hbm, ⟨80, _⟩ => ⟨S16x16x128x8x128, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S32768x1024, .bf16⟩
  | .hbm, ⟨85, _⟩ => ⟨S32768x1024, .f32⟩
  | .hbm, ⟨86, _⟩ => ⟨S1024, .f32⟩
  | .hbm, ⟨87, _⟩ => ⟨S1x1024, .f32⟩
  | .hbm, ⟨88, _⟩ => ⟨S32768x1024, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S_, .f32⟩
  | .hbm, ⟨93, _⟩ => ⟨S32768x1024, .f32⟩
  | .hbm, ⟨94, _⟩ => ⟨S32768x1024, .f32⟩
  | .hbm, ⟨95, _⟩ => ⟨S_, .f32⟩
  | .hbm, ⟨96, _⟩ => ⟨S32768x1024, .f32⟩
  | .hbm, ⟨97, _⟩ => ⟨S32768x1024, .f32⟩
  | .hbm, ⟨98, _⟩ => ⟨S32768x1024, .f32⟩
  | .hbm, ⟨99, _⟩ => ⟨S32768x1024, .f32⟩
  | _, _ => ⟨S32768x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c : Ref sig .tc := ⟨.hbm, 59, rfl⟩
abbrev main_v43 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_9 : Ref sig .tc := ⟨.hbm, 92, rfl⟩
abbrev main_v65 : Ref sig .tc := ⟨.hbm, 93, rfl⟩
abbrev main_v66 : Ref sig .tc := ⟨.hbm, 94, rfl⟩
abbrev main_cst_10 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== Kernel5.lean ====
abbrev S16384x1024 : Shape := ⟨2, ![16384, 1024]⟩
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S8192x1024, .i32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5.lean ====
abbrev S16384x1024 : Shape := ⟨2, ![16384, 1024]⟩
abbrev S8192x2x1024 : Shape := ⟨3, ![8192, 2, 1024]⟩
abbrev S8192x1024x2 : Shape := ⟨3, ![8192, 1024, 2]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8192x2x1024, .bf16⟩
  | .hbm, ⟨3, _⟩ => ⟨S8192x1024x2, .bf16⟩
  | .hbm, ⟨4, _⟩ => ⟨S8192x1024, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [BitOps F]
-- ==== Kernel6.lean ====
abbrev S16384x1024 : Shape := ⟨2, ![16384, 1024]⟩
abbrev S512x16384 : Shape := ⟨2, ![512, 16384]⟩
abbrev S1024x1024 : Shape := ⟨2, ![1024, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S512x16384, .i32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference6.lean ====
abbrev S16384x1024 : Shape := ⟨2, ![16384, 1024]⟩
abbrev S16384x512x2 : Shape := ⟨3, ![16384, 512, 2]⟩
abbrev S512x16384x2 : Shape := ⟨3, ![512, 16384, 2]⟩
abbrev S512x16384 : Shape := ⟨2, ![512, 16384]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512x2, .bf16⟩
  | .hbm, ⟨3, _⟩ => ⟨S512x16384x2, .bf16⟩
  | .hbm, ⟨4, _⟩ => ⟨S512x16384, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [BitOps F]
-- ==== Proof.SsdRunA.lean ====
/- The run of the SSD kernel's body at the first chunk of a sequence, with a larger elaboration budget. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE A (`scf.if` 0 taken: points 0, 16, … 240: 16 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) :
    Σ' (L17 : List (View.Piece (Elt F) S128x2048 .f32)), Σ' (LS0 : List (View.Piece (Elt F) S136x4096 .f32)), Σ' (LS1 : List (View.Piece (Elt F) S16x128x128 .f32)), { LT2 : List (View.Piece (Elt F) S128x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LT2)) -∗ K ⟨⟩))
          ⊢ wp frame (wpE (defs₀ (F := F)) Variants.none c none) E (cc0_ssd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_ssd_eq_skeleton]; unfold cc0_ssd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [HS0]; · iexists _; iexact HS0
    isplitl [HS1]; · iexists _; iexact HS1
    iexists _; iexact HS2

end Cert.KernelIdeal.Gen

end
-- ==== Proof.SsdFrame.lean ====
/- The frame of the SSD program over the two runs of its body. -/
module

public import proofs.«01_k».proof.Proof.SsdRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 17 tile its block (1 store of `S128x2048`, checked by the kernel's evaluation: Lib/Ring.lean `Piece.tiledL`, linear in the pieces, through a loop's `@[irreducible]` trip theorem too), so they cover it. -/
theorem cover0_A_17 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16).1 S128x2048.size (by sl_kernel_rfl) y

/-- What case A leaves in output 17's staging buffer: its pieces read back over junk. -/
def out0_A_17 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) : Vec F S128x2048 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16).1)

/-- Case A's pieces for scratch `arg20`, which the kernel carries between points, cover it: 3 pieces (stores and landed copies) of several sizes (`S128x4096`, `S8x4096`) tiling it when cut into blocks of `![8, 4096]` (Lib/Ring.lean `Piece.tiledBy`). -/
theorem scover0_A_0 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (y : S136x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16).2.1 ![8, 4096] (by sl_kernel_rfl) y

/-- What case A leaves in scratch `arg20`: its pieces read back over junk. -/
def sout0_A_0 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) : Vec F S136x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16).2.1)

/-- Case A's pieces for scratch `arg21`, which the kernel carries between points, cover it: one of them a store of the WHOLE buffer (Lib/Ring.lean `sl_whole_mem`). -/
theorem scover0_A_1 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (y : S16x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16).2.2.1 (by sl_whole_mem) y

/-- What case A leaves in scratch `arg21`: its pieces read back over junk. -/
def sout0_A_1 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) : Vec F S16x128x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16).2.2.1)

/-- Case B's pieces for output 17 tile its block (1 store of `S128x2048`, checked by the kernel's evaluation: Lib/Ring.lean `Piece.tiledL`, linear in the pieces, through a loop's `@[irreducible]` trip theorem too), so they cover it. -/
theorem cover0_B_17 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : ¬cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (xs0 : Vec F S136x4096 .f32) (xs1 : Vec F S16x128x128 .f32) (y : S128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1).1 S128x2048.size (by sl_kernel_rfl) y

/-- What case B leaves in output 17's staging buffer: its pieces read back over junk. -/
def out0_B_17 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : ¬cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (xs0 : Vec F S136x4096 .f32) (xs1 : Vec F S16x128x128 .f32) : Vec F S128x2048 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1).1)

/-- Case B's pieces for scratch `arg20`, which the kernel carries between points, cover it: 2 pieces (stores and landed copies) of several sizes (`S128x4096`, `S8x4096`) tiling it when cut into blocks of `![8, 4096]` (Lib/Ring.lean `Piece.tiledBy`). -/
theorem scover0_B_0 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : ¬cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (xs0 : Vec F S136x4096 .f32) (xs1 : Vec F S16x128x128 .f32) (y : S136x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1).2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1).2.1 ![8, 4096] (by sl_kernel_rfl) y

/-- What case B leaves in scratch `arg20`: its pieces read back over junk. -/
def sout0_B_0 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : ¬cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (xs0 : Vec F S136x4096 .f32) (xs1 : Vec F S16x128x128 .f32) : Vec F S136x4096 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1).2.1)

/-- Case B's pieces for scratch `arg21`, which the kernel carries between points, cover it: 16 pieces of `S1x128x128` tiling it (Lib/Ring.lean `Piece.tiledL`). -/
theorem scover0_B_1 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : ¬cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (xs0 : Vec F S136x4096 .f32) (xs1 : Vec F S16x128x128 .f32) (y : S16x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1).2.2.1 S1x128x128.size (by sl_kernel_rfl) y

/-- What case B leaves in scratch `arg21`: its pieces read back over junk. -/
def sout0_B_1 (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : ¬cond0_0 i)
    (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (xs0 : Vec F S136x4096 .f32) (xs1 : Vec F S16x128x128 .f32) : Vec F S16x128x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x2048 .f32 × Vec F S136x4096 .f32 × Vec F S16x128x128 .f32
  | 0, hn => (out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩))
  | n + 1, hn =>
    if h0 : (n + 1) % 16 = 0 then
      (out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩))
    else
      (out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 16 = 0) :
    outsAt0 m c t.val t.isLt = (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t.val t.isLt).1
    | ⟨_ + 18, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases hz : t.val = 0
    · rw [PhiS_castSucc m c t, PhiS_zero m c _ _ hz, PhiA0_eq]
      rw [outsAt0_A m c t h0]
      unfold out0_A_17 sout0_A_0 sout0_A_1; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [HS0]; · iexact HS0
      isplitl [HS1]; · iexact HS1
      isplitl [HS2]; · iexact HS2
      iintro ⟨H0, H1, H2, H3, H4, H5, H6, H7, H8, H9, H10, H11, H12, H13, H14, H15, H16, ⟨%e17, H17⟩, ⟨%es0, HS0⟩, ⟨%es1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_17 sout0_A_0 sout0_A_1; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [HS0]; · iexists _; iexact HS0
      isplitl [HS1]; · iexists _; iexact HS1
      isplitl [HS2]; · iexact HS2
      iintro ⟨H0, H1, H2, H3, H4, H5, H6, H7, H8, H9, H10, H11, H12, H13, H14, H15, H16, ⟨%e17, H17⟩, ⟨%es0, HS0⟩, ⟨%es1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 256 := lt_of_lt_of_eq t.isLt (show cfg0.N = 256 from N_0); omega
    · rw [PhiS_castSucc m c t, PhiS_pos m c _ _ hz]
      rw [outsAt0_B m c t h0]
      unfold out0_B_17 sout0_B_0 sout0_B_1; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [HS0]; · iexact HS0
      isplitl [HS1]; · iexact HS1
      isplitl [HS2]; · iexact HS2
      iintro ⟨H0, H1, H2, H3, H4, H5, H6, H7, H8, H9, H10, H11, H12, H13, H14, H15, H16, ⟨%e17, H17⟩, ⟨%es0, HS0⟩, ⟨%es1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.SsdValue.lean ====
/- The result array of the SSD program as the fold of its body's runs over the grid. -/
module

public import proofs.«01_k».proof.Proof.SsdFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 17's array: the run's contents for that window after the body (`Gen.outsAt0`: its component 0), read through the window's block. -/
theorem flushed17 (c : Dev nD) (t : Fin cfg0.N) :
    (dats m 0 c).flushed 17 t = (cfg0.win 17).cut (grid0.coords t) ((outsAt0 m c t.val t.isLt).1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — by the frame's rewriting lemma for the case. -/
theorem flushed17_A (c : Dev nD) (t : Fin cfg0.N) (h0 : t.val % 16 = 0) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed17, outsAt0_A m c t h0]

/-- … so at a point where case B runs, what its write-back would write is that case's NAMED TERM for the window (`Gen.out0_B_17`: the pieces
    its run found, read back) at the point's memrefs and input blocks, and for an output the case reads back what the point before left (`Gen.outsAt0` at `t - 1`) — by the frame's rewriting lemma for the case. -/
theorem flushed17_B (c : Dev nD) (t : Fin cfg0.N) (h0 : ¬t.val % 16 = 0) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed17, outsAt0_B m c t h0]

/-- The block index on axis 0 is the point's position in the pipeline's order, `t.val` (decided over the 256 points), -/
theorem idx_pt17 : ∀ t : Fin cfg0.N, win0_17.index t ⟨0, by decide⟩ = t.val :=
  (by decide +kernel : ∀ t : Fin grid0.N, win0_17.index t ⟨0, by decide⟩ = t.val)

/-- so the index map sends distinct grid points to distinct block indices. -/
theorem idx_inj17 : ∀ t t' : Fin cfg0.N, win0_17.index t = win0_17.index t' → t = t' :=
  fun t t' h => Fin.ext (by rw [← idx_pt17 t, ← idx_pt17 t', h])

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S32768x2048.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v47) = (dats m 0 c).arrAt 17 cfg0.N :=
  (h c).1 17

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 9 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 9).trans (((dats m 0 c).arrAt_in 9 rfl _).trans ((A_eq m c 9).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v47) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 16)
    stores the scratch whole without reading what it held, and `acc` does not enter there (nor where no point meets the
    conditions: `acc`, never read). -/
def scAt0_0 (c : Dev nD) (n : ℕ) (hb : n < cfg0.N) (acc : Vec F S136x4096 .f32) : Vec F S136x4096 .f32 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.1) 16 (fun n h => scAt0_0 m c n h (VS0_0.read (Elt F) VS0_0.junk)) (scAt0_0 m c)
    (fun n h hn => by
      have hN := lt_of_lt_of_eq h (show cfg0.N = 256 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 256 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 16)
    stores the scratch whole without reading what it held, and `acc` does not enter there (nor where no point meets the
    conditions: `acc`, never read). -/
def scAt0_1 (c : Dev nD) (n : ℕ) (hb : n < cfg0.N) (acc : Vec F S16x128x128 .f32) : Vec F S16x128x128 .f32 :=
  if h0 : n % 16 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc

/-- WHAT CARRIED SCRATCH 1 HOLDS after point `t`: the fold of its run up to `t`, from the reset at the run's first point
    `16·(t / 16)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2 = Pipeline.accAt (fun n h => scAt0_1 m c n h (VS0_1.read (Elt F) VS0_1.junk)) (scAt0_1 m c) (16 * (t.val / 16)) (t.val % 16)
      (by have h1 := t.isLt; have h2 := Nat.div_add_mod t.val 16; omega) :=
  Pipeline.eq_accAt_of_mod (fun n h => (outsAt0 m c n h).2.2) 16 (fun n h => scAt0_1 m c n h (VS0_1.read (Elt F) VS0_1.junk)) (scAt0_1 m c)
    (fun n h hn => by
      have hN := lt_of_lt_of_eq h (show cfg0.N = 256 from N_0)
      by_cases h0 : n % 16 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 256 from N_0)
      by_cases h0 : (n + 1) % 16 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S128x2048 .f32 × Vec F S136x4096 .f32 × Vec F S16x128x128 .f32 :=
  ((VO0_17.read (Elt F) VO0_17.junk, VS0_0.read (Elt F) VS0_0.junk, VS0_1.read (Elt F) VS0_1.junk) : Vec F S128x2048 .f32 × Vec F S136x4096 .f32 × Vec F S16x128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S128x2048 .f32 × Vec F S136x4096 .f32 × Vec F S16x128x128 .f32) : Vec F S128x2048 .f32 × Vec F S136x4096 .f32 × Vec F S16x128x128 .f32 :=
  if h0 : n % 16 = 0 then
    (out0_A_17 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)))
  else
    (out0_B_17 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) acc.2.1 acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) acc.2.1 acc.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) acc.2.1 acc.2.2)

/-- `stAt0` at a point of case A: that case's contents. -/
theorem stAt0_A (c : Dev nD) (t : Fin cfg0.N) (acc : Vec F S128x2048 .f32 × Vec F S136x4096 .f32 × Vec F S16x128x128 .f32) (h0 : t.val % 16 = 0) :
    stAt0 m c t.val t.isLt acc = (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) :=
  (dif_pos h0).trans rfl

/-- `stAt0` at a point of case B: that case's contents, over `acc`. -/
theorem stAt0_B (c : Dev nD) (t : Fin cfg0.N) (acc : Vec F S128x2048 .f32 × Vec F S136x4096 .f32 × Vec F S16x128x128 .f32) (h0 : ¬t.val % 16 = 0) :
    stAt0 m c t.val t.isLt acc = (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) acc.2.1 acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) acc.2.1 acc.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun h => h0 ((hcond0_0 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) acc.2.1 acc.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 256 from N_0)
  have e := Pipeline.eq_accAt_of_mod (fun n h => outsAt0 m c n h) 256 (fun n h => stAt0 m c n h junk0) (stAt0 m c)
    (fun n h _ => by
      have hN := lt_of_lt_of_eq h (show cfg0.N = 256 from N_0)
      obtain rfl : n = 0 := by omega
      exact outsAt0_zero m c h)
    (fun n h _ => outsAt0_succ m c n h)
    (by decide) n hn (by have := Nat.div_add_mod n 256; omega)
  have hd : n / 256 = 0 := Nat.div_eq_of_lt hN
  have hm : n % 256 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 17 -/

/-- The block of the array that holds index `i`, numbered in the order the points write the blocks back (one per point),
    `i`'s place in it, and the point that writes it back. -/
abbrev run17Of (i : S32768x2048.Idx) : ℕ := 1 * ((i 0).val / 128 - 0) + 1 * ((i 1).val / 2048 - 0)
set_option backward.proofsInPublic true in
abbrev loc17Of (i : S32768x2048.Idx) : S128x2048.Idx := fun a => match a with
  | ⟨0, _⟩ => ⟨(i 0).val % 128, Nat.mod_lt _ (by decide)⟩
  | ⟨1, _⟩ => ⟨(i 1).val % 2048, Nat.mod_lt _ (by decide)⟩
abbrev pt17Of (i : S32768x2048.Idx) : ℕ := run17Of i

/-- WHAT THE ARRAY ENDS HOLDING at index `i` inside the box the flushing blocks fill: output 17's component of the carried
    state's fold at the point that writes `i`'s block back, at `i`'s place in the block. `G17` states the array's contents
    only inside the box. -/
def G17 (c : Dev nD) : Buf (Elt F) ((c : Thread nD τ).loc main_v47) := fun i =>
  if h : pt17Of i < cfg0.N then
    (Pipeline.accAt (fun n h => stAt0 m c n h junk0) (stAt0 m c) 0 (pt17Of i) (by omega)).1 (loc17Of i)
  else V m c (Pipeline.arrRef spec0 17) i

/-- The printed index map, decided over the grid: output window 17's block indices stay in the box, and the block number
    read off them is the point's (`t`). -/
theorem idx_facts17 : ∀ t : Fin cfg0.N, 0 ≤ win0_17.index t (0 : Fin 2) ∧ win0_17.index t (0 : Fin 2) ≤ 255
    ∧ 0 ≤ win0_17.index t (1 : Fin 2) ∧ win0_17.index t (1 : Fin 2) ≤ 0
    ∧ 1 * (win0_17.index t (0 : Fin 2) - 0) + 1 * (win0_17.index t (1 : Fin 2) - 0) = t.val :=
  (by decide +kernel : ∀ t : Fin grid0.N, _)

/-- Every block of the box is SOME flushing point's: `onto17Pt`, the point that writes back the block at place `q` of the box. -/
abbrev onto17Pt (q0 : Fin 256) (q1 : Fin 1) : Fin grid0.N :=
  ⟨1 * q0.val + 1 * q1.val, lt_of_lt_of_eq (by omega) N_0.symm⟩
theorem idx_onto17 : ∀ (q0 : Fin 256) (q1 : Fin 1), ∃ t : Fin cfg0.N, (cfg0.win 17).flush t = true ∧ win0_17.index t = ![q0.val + 0, q1.val + 0] :=
  fun q0 q1 => ⟨onto17Pt q0 q1, (by decide +kernel : ∀ (q0 : Fin 256) (q1 : Fin 1), win0_17.flush (onto17Pt q0 q1) = true ∧ win0_17.index (onto17Pt q0 q1) = ![q0.val + 0, q1.val + 0]) q0 q1⟩

/-- WHAT A FLUSHING POINT `t` WRITES BACK is block `t` of `G17`: output 17's component of the fold up to `t`. -/
theorem flushed17_eq (c : Dev nD) (t : Fin cfg0.N) (hf : (cfg0.win 17).flush t = true) :
    (dats m 0 c).flushed 17 t = ((cfg0.win 17).blk t).view.read (Elt F) (G17 m c) := by
  show (cfg0.win 17).cut (grid0.coords t) ((dats m 0 c).after 17 t) = _
  rw [after0_17, outsAt0_sweep]
  obtain ⟨e0, e1, e2⟩ := idx_facts17 t
  funext y
  have hy0 : (y 0).val < 128 := (y 0).isLt
  have hy1 : (y 1).val < 2048 := (y 1).isLt
  have hb0 : (((cfg0.win 17).blk t).view.emb y 0).val = win0_17.index t (0 : Fin 2) * 128 + 1 * (y 0).val := rfl
  have hb1 : (((cfg0.win 17).blk t).view.emb y 1).val = win0_17.index t (1 : Fin 2) * 2048 + 1 * (y 1).val := rfl
  have hr : run17Of (((cfg0.win 17).blk t).view.emb y) = t.val := by
    show 1 * ((((cfg0.win 17).blk t).view.emb y 0).val / 128 - 0) + 1 * ((((cfg0.win 17).blk t).view.emb y 1).val / 2048 - 0) = _
    rw [hb0, hb1]
    rw [show (win0_17.index t (0 : Fin 2) * 128 + 1 * (y 0).val) / 128 = win0_17.index t (0 : Fin 2) from by omega]; rw [show (win0_17.index t (1 : Fin 2) * 2048 + 1 * (y 1).val) / 2048 = win0_17.index t (1 : Fin 2) from by omega]
    omega
  have hl : loc17Of (((cfg0.win 17).blk t).view.emb y) = (cfg0.win 17).xinj (grid0.coords t) y := by
    funext a; apply Fin.ext
    match a with
    | ⟨0, _⟩ => show (((cfg0.win 17).blk t).view.emb y 0).val % 128 = (y 0).val; rw [hb0]; omega
    | ⟨1, _⟩ => show (((cfg0.win 17).blk t).view.emb y 1).val % 2048 = (y 1).val; rw [hb1]; omega
  have hp : pt17Of (((cfg0.win 17).blk t).view.emb y) = t.val := by
    exact hr
  show (Pipeline.accAt (fun n h => stAt0 m c n h junk0) (stAt0 m c) 0 t.val _).1 ((cfg0.win 17).xinj (grid0.coords t) y) = G17 m c (((cfg0.win 17).blk t).view.emb y)
  unfold G17
  rw [dif_pos (by rw [hp]; exact t.isLt), hl, fold0_congr m c _ _ _ _ hp.symm]

/-- An index of the array is in point `t`'s block iff each coordinate is in the block's range on its axis. -/
theorem mem_blk17 (t : Fin cfg0.N) (i : S32768x2048.Idx) :
    i ∈ ((cfg0.win 17).blk t).view.set ↔ ∀ a : Fin 2, win0_17.index t a * S128x2048.size a ≤ (i a).val ∧ (i a).val < win0_17.index t a * S128x2048.size a + S128x2048.size a := by
  show i ∈ ((View.whole main_v47).slice (win0_17.rect t)).set ↔ _
  rw [View.set_slice_whole, Rect.mem_set_unit]
  exact Iff.rfl

/-- THE COVERED INDICES: in some flushing point's block iff inside the box those blocks fill. -/
theorem covered_iff17 (i : S32768x2048.Idx) :
    (∃ t : Fin cfg0.N, (cfg0.win 17).flush t = true ∧ i ∈ ((cfg0.win 17).blk t).view.set) ↔ 0 ≤ (i 0).val ∧ (i 0).val < 32768 ∧ 0 ≤ (i 1).val ∧ (i 1).val < 2048 := by
  constructor
  · rintro ⟨t, -, hi⟩
    rw [mem_blk17] at hi
    have b0 : win0_17.index t (0 : Fin 2) * 128 ≤ (i 0).val ∧ (i 0).val < win0_17.index t (0 : Fin 2) * 128 + 128 := hi 0
    have b1 : win0_17.index t (1 : Fin 2) * 2048 ≤ (i 1).val ∧ (i 1).val < win0_17.index t (1 : Fin 2) * 2048 + 2048 := hi 1
    obtain ⟨e0, e1, e2⟩ := idx_facts17 t
    omega
  · intro h
    have hi0 : (i 0).val < 32768 := (i 0).isLt
    have hi1 : (i 1).val < 2048 := (i 1).isLt
    obtain ⟨t, hft, ht⟩ := idx_onto17 ⟨(i 0).val / 128 - 0, by omega⟩ ⟨(i 1).val / 2048 - 0, by omega⟩
    have q0 : win0_17.index t (0 : Fin 2) = (i 0).val / 128 - 0 + 0 := congrFun ht 0
    have q1 : win0_17.index t (1 : Fin 2) = (i 1).val / 2048 - 0 + 0 := congrFun ht 1
    refine ⟨t, hft, ?_⟩
    rw [mem_blk17]
    intro a
    match a with
    | ⟨0, _⟩ => show win0_17.index t (0 : Fin 2) * 128 ≤ (i 0).val ∧ (i 0).val < win0_17.index t (0 : Fin 2) * 128 + 128; omega
    | ⟨1, _⟩ => show win0_17.index t (1 : Fin 2) * 2048 ≤ (i 1).val ∧ (i 1).val < win0_17.index t (1 : Fin 2) * 2048 + 2048; omega

/-- THE ARRAY after the run: `G17` (the flushing blocks tile it). -/
theorem final17 (c : Dev nD) : (dats m 0 c).arrAt 17 cfg0.N = G17 m c :=
  (dats m 0 c).arrAt_eq_of_cover 17 _ (fun t hf => flushed17_eq m c t hf) (fun i => (covered_iff17 i).2 (by
    have h0 : (i 0).val < 32768 := (i 0).isLt; have h1 : (i 1).val < 2048 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v47) = G17 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post17 m r h c).trans (final17 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelIdeal.Value

end
-- ==== Proof.SsdPair.lean ====
/- What one pass of the SSD body over a pair of heads computes. The body is written out for the sixteen pairs; each of its
   passes is the one function below at that pair's offsets, and here that function is read at an index. -/
module

public import proofs.«01_k».proof.Proof.SsdFrame
public import Idealize.ShloMosaic.Lib.Pointwise
public import Idealize.ShloMosaic.Lib.ValueIdx

@[expose] public section

set_option maxRecDepth 16384

noncomputable section

namespace Cert.KernelIdeal.Ssd

open Cert.KernelIdeal Cert.KernelIdeal.Gen
open Idealize.ShloMosaic Idealize.ShloMosaic.TcCoe Idealize.ShloMosaic.Tactic Idealize.SL.Sem

section Defs
variable {F : FTy → Type} [FloatOps F]

/-- The group's scores: C of row i against B of row k, the state's 128 dimensions summed. -/
def pairCB (pr : Fin 16) (xbc : Vec F S128x4096 .f32) : Vec F S128x128 .f32 :=
  matmul dot_S128x128_S128x128_S128x128_1_1_0_0_n_n none
    (truncf .bf16 (extractStridedSlice S128x128 ![0, 3072 + 128 * (pr.val / 2)] xbc ((by decide : ∀ pr : Fin 16, Shape.Slices S128x4096 ![0, 3072 + 128 * (pr.val / 2)] S128x128) pr)) bitsLt_bf16_f32)
    (truncf .bf16 (extractStridedSlice S128x128 ![0, 2048 + 128 * (pr.val / 2)] xbc ((by decide : ∀ pr : Fin 16, Shape.Slices S128x4096 ![0, 2048 + 128 * (pr.val / 2)] S128x128) pr)) bitsLt_bf16_f32)
    (constant S128x128 .f32 0x00000000#32)

/-- One head's decayed scores (`e` is 0 or 1: the pair's first or second head). -/
def pairW (pr : Fin 16) (e : Fin 2) (acum acumT : Vec F S128x128 .f32) (causal : IVec S128x128 1) (cb : Vec F S128x128 .f32) : Vec F S128x128 .bf16 :=
  truncf .bf16 (mulf cb (exp (select causal (subf
    (broadcastTo S128x128 (shapeCast S128x1 (extractStridedSlice S128x1 ![0, 2 * pr.val + e.val] acum ((by decide : ∀ (pr : Fin 16) (e : Fin 2), Shape.Slices S128x128 ![0, 2 * pr.val + e.val] S128x1) pr e)) shapeCasts_S128x1_S128x1) broadcasts_S128x1_S128x128)
    (broadcastTo S128x128 (extractStridedSlice S1x128 ![2 * pr.val + e.val, 0] acumT ((by decide : ∀ (pr : Fin 16) (e : Fin 2), Shape.Slices S128x128 ![2 * pr.val + e.val, 0] S1x128) pr e)) broadcasts_S1x128_S128x128))
    (broadcast S128x128 (Scalar.ofBits .f32 0xFF800000#32))))) bitsLt_bf16_f32

/-- A pair's columns of an array of 2048. -/
def pairCols {e : EltTy} (pr : Fin 16) (v : Vec F S128x2048 e) : Vec F S128x128 e :=
  extractStridedSlice S128x128 ![0, 128 * pr.val] v ((by decide : ∀ pr : Fin 16, Shape.Slices S128x2048 ![0, 128 * pr.val] S128x128) pr)

/-- A pair's columns of a row of 2048, on every row of a block. -/
def pairRow (pr : Fin 16) (v : Vec F S1x2048 .f32) : Vec F S128x128 .f32 :=
  broadcastTo S128x128 (extractStridedSlice S1x128 ![0, 128 * pr.val] v ((by decide : ∀ pr : Fin 16, Shape.Slices S1x2048 ![0, 128 * pr.val] S1x128) pr)) broadcasts_S1x128_S128x128

/-- What a pass stores of the output: the two heads' part within the chunk, each on its half of the lanes, what the entering
    state gives, and the skip. -/
def pairY (pr : Fin 16) (acum acumT : Vec F S128x128 .f32) (xbc : Vec F S128x4096 .f32) (xs : Vec F S128x2048 .f32) (xdt : Vec F S128x2048 .bf16)
    (ea : Vec F S128x2048 .f32) (dskip : Vec F S1x2048 .f32) (causal half : IVec S128x128 1) (st : Vec F S1x128x128 .f32) : Vec F S128x128 .f32 :=
  shapeCast S128x128 (addf (addf (addf
    (matmul dot_S128x128_S128x128_S128x128_1_0_0_1_n_n none (pairW pr 0 acum acumT causal (pairCB pr xbc))
      (select half (pairCols pr xdt) (broadcast S128x128 (Scalar.ofBits .bf16 0x0000#16))) (constant S128x128 .f32 0x00000000#32))
    (matmul dot_S128x128_S128x128_S128x128_1_0_0_1_n_n none (pairW pr 1 acum acumT causal (pairCB pr xbc))
      (select (xori half (constantI S128x128 1 1#1)) (pairCols pr xdt) (broadcast S128x128 (Scalar.ofBits .bf16 0x0000#16))) (constant S128x128 .f32 0x00000000#32)))
    (mulf (matmul dot_S128x128_S128x128_S128x128_1_0_0_1_n_n none
      (truncf .bf16 (extractStridedSlice S128x128 ![0, 3072 + 128 * (pr.val / 2)] xbc ((by decide : ∀ pr : Fin 16, Shape.Slices S128x4096 ![0, 3072 + 128 * (pr.val / 2)] S128x128) pr)) bitsLt_bf16_f32)
      (truncf .bf16 (shapeCast S128x128 st shapeCasts_S1x128x128_S128x128) bitsLt_bf16_f32) (constant S128x128 .f32 0x00000000#32))
      (pairCols pr ea)))
    (mulf (pairCols pr xs) (pairRow pr dskip))) shapeCasts_S128x128_S128x128

/-- What a pass stores of the state: the decayed entering state and the chunk's own contribution. -/
def pairS (pr : Fin 16) (xbc : Vec F S128x4096 .f32) (xw : Vec F S128x2048 .bf16) (dec : Vec F S1x2048 .f32) (st : Vec F S1x128x128 .f32) : Vec F S1x128x128 .f32 :=
  shapeCast S1x128x128 (addf (mulf (pairRow pr dec) (shapeCast S128x128 st shapeCasts_S1x128x128_S128x128))
    (matmul dot_S128x128_S128x128_S128x128_1_0_0_1_n_n none
      (truncf .bf16 (transpose S128x128 [1, 0] (extractStridedSlice S128x128 ![0, 2048 + 128 * (pr.val / 2)] xbc ((by decide : ∀ pr : Fin 16, Shape.Slices S128x4096 ![0, 2048 + 128 * (pr.val / 2)] S128x128) pr)) transposes_S128x128_p1_0_S128x128) bitsLt_bf16_f32)
      (pairCols pr xw) (constant S128x128 .f32 0x00000000#32))) shapeCasts_S128x128_S1x128x128

end Defs

/-! ## At an index, over the reals -/

/-- The columns of the convolved activations that hold B and C of pair `pr`'s group. -/
abbrev colB (pr : Fin 16) (n : Fin 128) : Fin 4096 := ⟨2048 + 128 * (pr.val / 2) + n.val, by omega⟩
abbrev colC (pr : Fin 16) (n : Fin 128) : Fin 4096 := ⟨3072 + 128 * (pr.val / 2) + n.val, by omega⟩
/-- Lane `l` of pair `pr` as a column of 2048, and the head it belongs to. -/
abbrev lane (pr : Fin 16) (l : Fin 128) : Fin 2048 := ⟨128 * pr.val + l.val, by omega⟩
abbrev headOf (pr : Fin 16) (l : Fin 128) : Fin 128 := ⟨2 * pr.val + l.val / 64, by omega⟩

theorem pairCB_apply (pr : Fin 16) (xbc : S128x4096.Idx → EReal) (i k : Fin 128) :
    pairCB (F := Ideal) pr xbc (ix2 i k) = ∑ n : Fin 128, xbc (ix2 i (colC pr n)) * xbc (ix2 k (colB pr n)) := by
  unfold pairCB
  pointwise [dot_S128x128_S128x128_S128x128_1_1_0_0_n_n]

/-- The mask's fill is −∞. -/
theorem fill_eq : Ideal.ofBits FTy.f32 0xFF800000#32 = (⊥ : EReal) := by
  simp [Ideal.ofBits, Ideal.ieee]

/-- The causal mask, as a condition on the rows. -/
theorem causal_select {α : Type} (i k : Fin 128) (a b : α) :
    Scalar.select (IntOp.cmpi CmpIPredicate.sge (BitVec.ofNat 32 i.val) (BitVec.ofNat 32 k.val)) a b = if k ≤ i then a else b := by
  rw [WordCmp.cmpi_sge_ofNat (by omega) (by omega)]
  by_cases h : k ≤ i
  · rw [if_pos h, decide_eq_true (Fin.le_def.mp h)]; rfl
  · rw [if_neg h, decide_eq_false (fun h' => h (Fin.le_def.mpr h'))]; rfl

theorem pairW_apply (pr : Fin 16) (e : Fin 2) (acum acumT cb : S128x128.Idx → EReal) (i k : Fin 128) :
    pairW (F := Ideal) pr e acum acumT k0_pay36 cb (ix2 i k)
      = cb (ix2 i k) * Ideal.exp (if k ≤ i then acum (ix2 i ⟨2 * pr.val + e.val, by omega⟩) - acumT (ix2 ⟨2 * pr.val + e.val, by omega⟩ k) else ⊥) := by
  unfold pairW k0_pay36
  pointwise
  rw [causal_select, fill_eq]

theorem pairS_apply (pr : Fin 16) (xbc : S128x4096.Idx → EReal) (xw : S128x2048.Idx → EReal) (dec : S1x2048.Idx → EReal) (st : S1x128x128.Idx → EReal)
    (n l : Fin 128) :
    pairS (F := Ideal) pr xbc xw dec st (ix3 0 n l)
      = dec (ix2 0 (lane pr l)) * st (ix3 0 n l) + ∑ k : Fin 128, xbc (ix2 k (colB pr n)) * xw (ix2 k (lane pr l)) := by
  unfold pairS pairRow pairCols
  pointwise [dot_S128x128_S128x128_S128x128_1_0_0_1_n_n]

theorem pairY_apply (pr : Fin 16) (acum acumT : S128x128.Idx → EReal) (xbc : S128x4096.Idx → EReal) (xs xdt ea : S128x2048.Idx → EReal)
    (dskip : S1x2048.Idx → EReal) (st : S1x128x128.Idx → EReal) (i l : Fin 128) :
    pairY (F := Ideal) pr acum acumT xbc xs xdt ea dskip k0_pay36 k0_pay37 st (ix2 i l)
      = (∑ k : Fin 128, ((∑ n : Fin 128, xbc (ix2 i (colC pr n)) * xbc (ix2 k (colB pr n)))
            * Ideal.exp (if k ≤ i then acum (ix2 i (headOf pr l)) - acumT (ix2 (headOf pr l) k) else ⊥)) * xdt (ix2 k (lane pr l)))
        + (∑ n : Fin 128, xbc (ix2 i (colC pr n)) * st (ix3 0 n l)) * ea (ix2 i (lane pr l))
        + xs (ix2 i (lane pr l)) * dskip (ix2 0 (lane pr l)) := by
  unfold pairY pairRow pairCols k0_pay37
  pointwise [dot_S128x128_S128x128_S128x128_1_0_0_1_n_n]
  have term : ∀ (e : Fin 2) (k : Fin 128), e.val = l.val / 64 →
      pairW (F := Ideal) pr e acum acumT k0_pay36 (pairCB (F := Ideal) pr xbc) (ix2 i k)
        = (∑ n : Fin 128, xbc (ix2 i (colC pr n)) * xbc (ix2 k (colB pr n)))
            * Ideal.exp (if k ≤ i then acum (ix2 i (headOf pr l)) - acumT (ix2 (headOf pr l) k) else ⊥) := by
    intro e k he
    rw [pairW_apply, pairCB_apply]
    have hh : (⟨2 * pr.val + e.val, by omega⟩ : Fin 128) = headOf pr l := Fin.ext (by show 2 * pr.val + e.val = 2 * pr.val + l.val / 64; omega)
    rw [hh]
  congr 2
  rw [WordCmp.cmpi_slt_ofNat (a := l.val) (b := 64) (by omega) (by omega)]
  by_cases h : l.val < 64
  · rw [decide_eq_true h]
    refine (congrArg₂ (· + ·) (Finset.sum_congr rfl fun k _ => ?_) (Finset.sum_eq_zero fun k _ => rfl)).trans (add_zero _)
    exact congrArg (· * _) (term 0 k (by show 0 = l.val / 64; omega))
  · rw [decide_eq_false h]
    refine (congrArg₂ (· + ·) (Finset.sum_eq_zero fun k _ => rfl) (Finset.sum_congr rfl fun k _ => ?_)).trans (zero_add _)
    exact congrArg (· * _) (term 1 k (by show 1 = l.val / 64; omega))

end Cert.KernelIdeal.Ssd

end
-- ==== Proof.SsdSlabs.lean ====
/- Reading back what is stored tile by tile: the state is stored as sixteen slabs of its first axis, the output's rows as
   sixteen groups of 128 columns. -/
module

public import proofs.«01_k».proof.Proof.SsdFrame
public import Idealize.ShloMosaic.Lib.Pointwise
public import Idealize.ShloMosaic.Lib.ValueIdx
public import Idealize.ShloMosaic.Lib.Pipeline.ValueKit

@[expose] public section

set_option maxRecDepth 16384

noncomputable section

namespace Cert.KernelIdeal.Ssd

open Cert.KernelIdeal Cert.KernelIdeal.Gen
open Idealize.ShloMosaic Idealize.ShloMosaic.TcCoe Idealize.ShloMosaic.Tactic Idealize.SL.Sem

variable {F : FTy → Type} [FloatOps F]

/-- An index off the last store reads the earlier ones. -/
theorem canon_skip {S : Shape} {e : EltTy} (r : Rect S) (w : r.shape.Idx → Elt F e) (L : List (View.Piece (Elt F) S e)) {y : S.Idx} (h : y ∉ r.set) :
    View.canon ((⟨r, w⟩ : View.Piece (Elt F) S e) :: L) y = View.canon L y :=
  View.canon_cons_of_not_mem ⟨r, w⟩ L h

/-- The array whose slab `k` is `T k`. -/
def ofSlabs (T : Fin 16 → Vec F S1x128x128 .f32) : Vec F S16x128x128 .f32 := fun y => T (y 0) (ix3 (0 : Fin 1) (y 1) (y 2))

/-- The array whose columns `128 k …` are `T k`. -/
def ofCols (T : Fin 16 → Vec F S128x128 .f32) : Vec F S128x2048 .f32 := fun y =>
  T ⟨(y 1).val / 128, by have := (y 1).isLt; change (y 1).val < 2048 at this; omega⟩
    (ix2 (y 0) (⟨(y 1).val % 128, Nat.mod_lt _ (by decide)⟩ : Fin 128))

theorem mem_slab {k : ℕ} (inb : ∀ a, (![k, 0, 0] : Fin 3 → Nat) a + S1x128x128.size a ≤ S16x128x128.size a) (y : S16x128x128.Idx) :
    y ∈ (Rect.unit (s := S16x128x128) ![k, 0, 0] S1x128x128.size inb).set ↔ (y 0).val = k := by
  rw [Rect.mem_set_unit]
  have h1 : (y 1).val < 128 := (y 1).isLt
  have h2 : (y 2).val < 128 := (y 2).isLt
  constructor
  · intro h
    have h0 := h (0 : Fin 3)
    change k ≤ (y 0).val ∧ (y 0).val < k + 1 at h0
    omega
  · intro h a
    match a with
    | ⟨0, _⟩ => show k ≤ (y 0).val ∧ (y 0).val < k + 1; omega
    | ⟨1, _⟩ => show 0 ≤ (y 1).val ∧ (y 1).val < 0 + 128; omega
    | ⟨2, _⟩ => show 0 ≤ (y 2).val ∧ (y 2).val < 0 + 128; omega

/-- One more slab stored in front: what holds of the slabs below `k` and of slab `k` holds below `k + 1`. -/
theorem slab_cons (T : Fin 16 → Vec F S1x128x128 .f32) {k : ℕ} (hk : k < 16)
    (inb : ∀ a, (![k, 0, 0] : Fin 3 → Nat) a + S1x128x128.size a ≤ S16x128x128.size a) (w : Vec F S1x128x128 .f32)
    (L : List (View.Piece (Elt F) S16x128x128 .f32)) (hL : ∀ y : S16x128x128.Idx, (y 0).val < k → View.canon L y = ofSlabs T y) (hw : w = T ⟨k, hk⟩) :
    ∀ y : S16x128x128.Idx, (y 0).val < k + 1 →
      View.canon ((⟨Rect.unit ![k, 0, 0] S1x128x128.size inb, w⟩ : View.Piece (Elt F) S16x128x128 .f32) :: L) y = ofSlabs T y := by
  intro y hy
  by_cases h : (y 0).val = k
  · subst hw
    have e : y = (Rect.unit (s := S16x128x128) ![k, 0, 0] S1x128x128.size inb).emb (ix3 (0 : Fin 1) (y 1) (y 2)) := by
      funext a
      match a with
      | ⟨0, _⟩ => exact Fin.ext (by show (y 0).val = k + 1 * 0; omega)
      | ⟨1, _⟩ => exact Fin.ext (by show (y 1).val = 0 + 1 * (y 1).val; omega)
      | ⟨2, _⟩ => exact Fin.ext (by show (y 2).val = 0 + 1 * (y 2).val; omega)
    refine (congrArg _ e).trans ((View.canon_cons_emb _ _ _ _).trans ?_)
    show T ⟨k, hk⟩ _ = T (y 0) _
    rw [show (⟨k, hk⟩ : Fin 16) = y 0 from Fin.ext h.symm]
  · have hn : y ∉ (Rect.unit (s := S16x128x128) ![k, 0, 0] S1x128x128.size inb).set := fun hm => h ((mem_slab inb y).mp hm)
    exact (canon_skip (Rect.unit (s := S16x128x128) ![k, 0, 0] S1x128x128.size inb) w L hn).trans (hL y (by omega))

theorem mem_cols {k : ℕ} (inb : ∀ a, (![0, 128 * k] : Fin 2 → Nat) a + S128x128.size a ≤ S128x2048.size a) (y : S128x2048.Idx) :
    y ∈ (Rect.unit (s := S128x2048) ![0, 128 * k] S128x128.size inb).set ↔ (y 1).val / 128 = k := by
  rw [Rect.mem_set_unit]
  have h0 : (y 0).val < 128 := (y 0).isLt
  constructor
  · intro h
    have h1 := h (1 : Fin 2)
    change 128 * k ≤ (y 1).val ∧ (y 1).val < 128 * k + 128 at h1
    omega
  · intro h a
    match a with
    | ⟨0, _⟩ => show 0 ≤ (y 0).val ∧ (y 0).val < 0 + 128; omega
    | ⟨1, _⟩ => show 128 * k ≤ (y 1).val ∧ (y 1).val < 128 * k + 128; omega

/-- One more group of columns stored in front. -/
theorem cols_cons (T : Fin 16 → Vec F S128x128 .f32) {k : ℕ} (hk : k < 16)
    (inb : ∀ a, (![0, 128 * k] : Fin 2 → Nat) a + S128x128.size a ≤ S128x2048.size a) (w : Vec F S128x128 .f32)
    (L : List (View.Piece (Elt F) S128x2048 .f32)) (hL : ∀ y : S128x2048.Idx, (y 1).val < 128 * k → View.canon L y = ofCols T y) (hw : w = T ⟨k, hk⟩) :
    ∀ y : S128x2048.Idx, (y 1).val < 128 * (k + 1) →
      View.canon ((⟨Rect.unit ![0, 128 * k] S128x128.size inb, w⟩ : View.Piece (Elt F) S128x2048 .f32) :: L) y = ofCols T y := by
  intro y hy
  by_cases h : (y 1).val / 128 = k
  · subst hw
    have e : y = (Rect.unit (s := S128x2048) ![0, 128 * k] S128x128.size inb).emb (ix2 (y 0) (⟨(y 1).val % 128, Nat.mod_lt _ (by decide)⟩ : Fin 128)) := by
      funext a
      match a with
      | ⟨0, _⟩ => exact Fin.ext (by show (y 0).val = 0 + 1 * (y 0).val; omega)
      | ⟨1, _⟩ => exact Fin.ext (by show (y 1).val = 128 * k + 1 * ((y 1).val % 128); omega)
    refine (congrArg _ e).trans ((View.canon_cons_emb _ _ _ _).trans ?_)
    exact congrArg (fun q => T q _) (Fin.ext h.symm)
  · have hn : y ∉ (Rect.unit (s := S128x2048) ![0, 128 * k] S128x128.size inb).set := fun hm => h ((mem_cols inb y).mp hm)
    exact (canon_skip (Rect.unit (s := S128x2048) ![0, 128 * k] S128x128.size inb) w L hn).trans (hL y (by omega))

end Cert.KernelIdeal.Ssd

end
-- ==== Proof.SsdBody.lean ====
/- The SSD body's results as functions of the blocks it reads: the output block, the state and the rows carried to the next
   chunk, for a first chunk (nothing carried) and for a later one. -/
module

public import proofs.«01_k».proof.Proof.SsdPair
public import proofs.«01_k».proof.Proof.SsdSlabs
public import Idealize.ShloMosaic.Lib.WritesUnit

@[expose] public section

set_option maxRecDepth 16384

noncomputable section

namespace Cert.KernelIdeal.Ssd

open Cert.KernelIdeal Cert.KernelIdeal.Gen
open Idealize.ShloMosaic Idealize.ShloMosaic.TcCoe Idealize.ShloMosaic.Tactic Idealize.SL.Sem

variable {F : FTy → Type} [FloatOps F]

section Words
variable (x0 : Vec F S128x1024 .f32) (x2 : Vec F S128x4096 .bf16) (x3 : Vec F S1024x128 .bf16) (x4 : Vec F S128x1024 .bf16) (x5 : Vec F S1x128 .f32) (x6 : Vec F S128x1 .f32)
  (x7 : Vec F S1x128 .f32) (x8 : Vec F S128x1 .f32) (w0 w1 w2 w3 : Vec F S1x4096 .f32) (x10 : Vec F S1x4096 .f32) (x11 : Vec F S1x2048 .f32) (x13 : Vec F S384x2048 .bf16)
  (x15 x16 : Vec F S128x128 .bf16) (xe : Vec F S136x4096 .f32)

/-- The running sums of dt·A down the chunk, a head to a column; -/
def wAcum : Vec F S128x128 .f32 := k0_pay12 (k0_pay5 x0 x3 x5) x7 x15
/-- the same, a head to a row. -/
def wAcumT : Vec F S128x128 .f32 :=
  k0_pay18 (k0_pay13 x16)
    (k0_pay14 (k0_pay6 x0 x4 x6) (k0_pay7 x0 x4 x6) (k0_pay8 x0 x4 x6) (k0_pay9 x0 x4 x6) k0_pay10 x8)
    (k0_pay15 (k0_pay6 x0 x4 x6) (k0_pay7 x0 x4 x6) (k0_pay8 x0 x4 x6) (k0_pay9 x0 x4 x6) k0_pay10 x8)
    (k0_pay16 (k0_pay6 x0 x4 x6) (k0_pay7 x0 x4 x6) (k0_pay8 x0 x4 x6) (k0_pay9 x0 x4 x6) k0_pay10 x8)
    (k0_pay17 (k0_pay6 x0 x4 x6) (k0_pay7 x0 x4 x6) (k0_pay8 x0 x4 x6) (k0_pay9 x0 x4 x6) k0_pay10 x8)
/-- The convolved activations, and their first 2048 columns. -/
def wXbc : Vec F S128x4096 .f32 := k0_pay28 xe (k0_pay25 x10) (k0_pay26 x2 w3) w0 w1 w2
def wXs : Vec F S128x2048 .f32 := k0_pay29 xe (k0_pay25 x10) (k0_pay26 x2 w3) w0 w1 w2
/-- Those columns scaled by dt, and scaled again by the decay to the chunk's end. -/
def wXdt : Vec F S128x2048 .bf16 := k0_pay31 (k0_pay20 (k0_pay5 x0 x3 x5) x13) xe (k0_pay25 x10) (k0_pay26 x2 w3) w0 w1 w2
def wXw : Vec F S128x2048 .bf16 :=
  k0_pay32 (k0_pay20 (k0_pay5 x0 x3 x5) x13) (k0_pay21 (wAcum x0 x3 x5 x7 x15) x13) (k0_pay22 (wAcum x0 x3 x5 x7 x15) x13) xe (k0_pay25 x10) (k0_pay26 x2 w3) w0 w1 w2
/-- The decay from the chunk's start, on each row, and over the whole chunk. -/
def wEa : Vec F S128x2048 .f32 := k0_pay33 (k0_pay21 (wAcum x0 x3 x5 x7 x15) x13)
def wDec : Vec F S1x2048 .f32 := k0_pay34 (k0_pay22 (wAcum x0 x3 x5 x7 x15) x13)

/-- What the pass of pair `pr` stores of the output and of the state, given the entering state's slab. -/
def yTile (pr : Fin 16) (st : Vec F S1x128x128 .f32) : Vec F S128x128 .f32 :=
  pairY pr (wAcum x0 x3 x5 x7 x15) (wAcumT x0 x4 x6 x8 x16) (wXbc x2 w0 w1 w2 w3 x10 xe) (wXs x2 w0 w1 w2 w3 x10 xe) (wXdt x0 x2 x3 x5 w0 w1 w2 w3 x10 x13 xe) (wEa x0 x3 x5 x7 x13 x15)
    (k0_pay35 x11) k0_pay36 k0_pay37 st
def sTile (pr : Fin 16) (st : Vec F S1x128x128 .f32) : Vec F S1x128x128 .f32 :=
  pairS pr (wXbc x2 w0 w1 w2 w3 x10 xe) (wXw x0 x2 x3 x5 x7 w0 w1 w2 w3 x10 x13 x15 xe) (wDec x0 x3 x5 x7 x13 x15) st
end Words

/-- A chunk's rows under the eight rows before it. -/
def extend (xs0 : Vec F S136x4096 .f32) (x2 : Vec F S128x4096 .bf16) : Vec F S136x4096 .f32 := fun y =>
  if h : 8 ≤ (y 0).val then k0_pay24 x2 (ix2 (⟨(y 0).val - 8, by have := (y 0).isLt; change (y 0).val < 136 at this; omega⟩ : Fin 128) (y 1)) else xs0 y

/-- The rows left for the next chunk: the chunk's last eight in front. -/
def carried (x2 : Vec F S128x4096 .bf16) : Vec F S136x4096 .f32 := fun y =>
  if h : 8 ≤ (y 0).val then k0_pay24 x2 (ix2 (⟨(y 0).val - 8, by have := (y 0).isLt; change (y 0).val < 136 at this; omega⟩ : Fin 128) (y 1))
  else k0_pay24 x2 (ix2 (⟨120 + (y 0).val, by omega⟩ : Fin 128) (y 1))

/-- A slab of the state. -/
def slab (xs1 : Vec F S16x128x128 .f32) (pr : Fin 16) : Vec F S1x128x128 .f32 := fun y => xs1 (ix3 pr (y 1) (y 2))

theorem ld_slab (xs1 : Vec F S16x128x128 .f32) (pr : Fin 16) (inb : ∀ a, (![pr.val, 0, 0] : Fin 3 → Nat) a + (![1, 128, 128] : Fin 3 → Nat) a ≤ S16x128x128.size a) :
    View.ld (Val := Elt F) (e' := .f32) xs1 (Rect.unit (s := S16x128x128) ![pr.val, 0, 0] ![1, 128, 128] inb) = slab xs1 pr :=
  funext fun y => congrArg xs1 (funext fun a => match a with
    | ⟨0, _⟩ => Fin.ext (by have h := (y 0).isLt; change (y 0).val < 1 at h; show pr.val + 1 * (y 0).val = pr.val; omega)
    | ⟨1, _⟩ => Fin.ext (by show 0 + 1 * (y 1).val = (y 1).val; omega)
    | ⟨2, _⟩ => Fin.ext (by show 0 + 1 * (y 2).val = (y 2).val; omega))

/-- No rows, and no state. -/
def noRows : Vec F S136x4096 .f32 := fun _ => Scalar.ofBits .f32 0x00000000#32
def noState : Vec F S16x128x128 .f32 := fun _ => Scalar.ofBits .f32 0x00000000#32

/-- The chunk's rows stored over others, read back: at their place, -/
theorem rows_at (w : Vec F S128x4096 .f32) (L : List (View.Piece (Elt F) S136x4096 .f32)) (y : S136x4096.Idx) (i : Fin 128) (j : Fin 4096) (hi : (y 0).val = 8 + i.val) (hj : y 1 = j) :
    View.canon ((⟨Rect.unit (s := S136x4096) ![8, 0] ![128, 4096] inb_S136x4096_S128x4096_8_0, w⟩ : View.Piece (Elt F) S136x4096 .f32) :: L) y = w (ix2 i j) := by
  have e : y = (Rect.unit (s := S136x4096) ![8, 0] ![128, 4096] inb_S136x4096_S128x4096_8_0).emb (ix2 i j) := by
    funext a
    match a with
    | ⟨0, _⟩ => exact Fin.ext (by show (y 0).val = 8 + 1 * i.val; omega)
    | ⟨1, _⟩ => exact Fin.ext (by show (y 1).val = 0 + 1 * j.val; rw [hj]; omega)
  exact (congrArg _ e).trans (View.canon_cons_emb _ _ _ _)

/-- and before it. -/
theorem rows_before (w : Vec F S128x4096 .f32) (L : List (View.Piece (Elt F) S136x4096 .f32)) (y : S136x4096.Idx) (h : (y 0).val < 8) :
    View.canon ((⟨Rect.unit (s := S136x4096) ![8, 0] ![128, 4096] inb_S136x4096_S128x4096_8_0, w⟩ : View.Piece (Elt F) S136x4096 .f32) :: L) y = View.canon L y :=
  canon_skip (Rect.unit (s := S136x4096) ![8, 0] ![128, 4096] inb_S136x4096_S128x4096_8_0) w L fun hm => by
    have h0 := Rect.mem_set_unit.mp hm (0 : Fin 2)
    change 8 ≤ (y 0).val ∧ _ at h0
    omega

/-- The first eight rows, stored last. -/
theorem front_at (w : Vec F S8x4096 .f32) (L : List (View.Piece (Elt F) S136x4096 .f32)) (y : S136x4096.Idx) (h : (y 0).val < 8) :
    View.canon ((⟨Rect.unit (s := S136x4096) ![0, 0] ![8, 4096] inb_S136x4096_S8x4096_0_0, w⟩ : View.Piece (Elt F) S136x4096 .f32) :: L) y = w (ix2 (⟨(y 0).val, h⟩ : Fin 8) (y 1)) := by
  have e : y = (Rect.unit (s := S136x4096) ![0, 0] ![8, 4096] inb_S136x4096_S8x4096_0_0).emb (ix2 (⟨(y 0).val, h⟩ : Fin 8) (y 1)) := by
    funext a
    match a with
    | ⟨0, _⟩ => exact Fin.ext (by show (y 0).val = 0 + 1 * (y 0).val; omega)
    | ⟨1, _⟩ => exact Fin.ext (by show (y 1).val = 0 + 1 * (y 1).val; omega)
  exact (congrArg _ e).trans (View.canon_cons_emb _ _ _ _)

theorem canon_extend (x2 : Vec F S128x4096 .bf16) :
    View.canon [(⟨Rect.unit (s := S136x4096) ![8, 0] ![128, 4096] inb_S136x4096_S128x4096_8_0, k0_pay24 x2⟩ : View.Piece (Elt F) S136x4096 .f32),
      ⟨Rect.unit (s := S136x4096) ![0, 0] ![8, 4096] inb_S136x4096_S8x4096_0_0, k0_pay2⟩] = extend noRows x2 := by
  funext y
  by_cases h : 8 ≤ (y 0).val
  · refine (rows_at _ _ y (⟨(y 0).val - 8, by have := (y 0).isLt; change (y 0).val < 136 at this; omega⟩ : Fin 128) (y 1) (by show (y 0).val = 8 + ((y 0).val - 8); omega) rfl).trans ?_
    unfold extend; rw [dif_pos h]
  · refine (rows_before _ _ y (by omega)).trans ((front_at _ _ y (by omega)).trans ?_)
    unfold extend; rw [dif_neg h]; rfl

theorem canon_carried (x2 : Vec F S128x4096 .bf16) (L : List (View.Piece (Elt F) S136x4096 .f32)) :
    View.canon ((⟨Rect.unit (s := S136x4096) ![0, 0] ![8, 4096] inb_S136x4096_S8x4096_0_0, k0_pay27 fun j =>
        View.canon ((⟨Rect.unit (s := S136x4096) ![8, 0] ![128, 4096] inb_S136x4096_S128x4096_8_0, k0_pay24 x2⟩ : View.Piece (Elt F) S136x4096 .f32) :: L)
          ((Rect.unit (s := S136x4096) ![128, 0] ![8, 4096] inb_S136x4096_S8x4096_128_0).idx j)⟩ : View.Piece (Elt F) S136x4096 .f32)
      :: ⟨Rect.unit (s := S136x4096) ![8, 0] ![128, 4096] inb_S136x4096_S128x4096_8_0, k0_pay24 x2⟩ :: L) = carried x2 := by
  funext y
  by_cases h : 8 ≤ (y 0).val
  · refine (canon_skip (Rect.unit (s := S136x4096) ![0, 0] ![8, 4096] inb_S136x4096_S8x4096_0_0) _ _ fun hm => ?_).trans
      ((rows_at _ _ y (⟨(y 0).val - 8, by have := (y 0).isLt; change (y 0).val < 136 at this; omega⟩ : Fin 128) (y 1) (by show (y 0).val = 8 + ((y 0).val - 8); omega) rfl).trans ?_)
    · have h0 := Rect.mem_set_unit.mp hm (0 : Fin 2)
      change _ ∧ (y 0).val < 0 + 8 at h0
      omega
    · unfold carried; rw [dif_pos h]
  · refine (front_at _ _ y (by omega)).trans ?_
    unfold k0_pay27
    refine (congrFun (shapeCast_self _ _) _).trans ?_
    refine (rows_at _ _ _ (⟨120 + (y 0).val, by omega⟩ : Fin 128) (y 1) ?_ ?_).trans ?_
    · show 128 + 1 * (y 0).val = 8 + (120 + (y 0).val); omega
    · exact Fin.ext (by show 0 + 1 * (y 1).val = (y 1).val; omega)
    · unfold carried; rw [dif_neg h]

/-- A slab read of the state after other slabs were stored over the cleared state: zero. -/
theorem slab_skip {sp : Space} (v : View sig .tc sp S16x128x128 .f32) {k k' : ℕ} (h : k ≠ k')
    (inb : ∀ a, (![k, 0, 0] : Fin 3 → Nat) a + (![1, 128, 128] : Fin 3 → Nat) a ≤ S16x128x128.size a)
    (inb' : ∀ a, (![k', 0, 0] : Fin 3 → Nat) a + (![1, 128, 128] : Fin 3 → Nat) a ≤ S16x128x128.size a)
    (w : Vec F S1x128x128 .f32) (L : List (View.Piece (Elt F) S16x128x128 .f32)) :
    v.readCov ((⟨Rect.unit (s := S16x128x128) ![k, 0, 0] ![1, 128, 128] inb, w⟩ : View.Piece (Elt F) S16x128x128 .f32) :: L) (Rect.unit (s := S16x128x128) ![k', 0, 0] ![1, 128, 128] inb').toLoadRect
      = v.readCov L (Rect.unit (s := S16x128x128) ![k', 0, 0] ![1, 128, 128] inb').toLoadRect := by
  simp only [View.readCov_eq_canon']
  refine funext fun j => canon_skip (Rect.unit (s := S16x128x128) ![k, 0, 0] ![1, 128, 128] inb) w L fun hm => h ?_
  have h0 := (mem_slab inb _).mp hm
  have hj : (j 0).val < 1 := (j 0).isLt
  change k' + 1 * (j 0).val = k at h0
  omega

theorem slab_cleared {sp : Space} (v : View sig .tc sp S16x128x128 .f32) {k' : ℕ}
    (inb : ∀ a, (![0, 0, 0] : Fin 3 → Nat) a + (![16, 128, 128] : Fin 3 → Nat) a ≤ S16x128x128.size a)
    (inb' : ∀ a, (![k', 0, 0] : Fin 3 → Nat) a + (![1, 128, 128] : Fin 3 → Nat) a ≤ S16x128x128.size a) :
    v.readCov [(⟨Rect.unit (s := S16x128x128) ![0, 0, 0] ![16, 128, 128] inb, k0_pay3⟩ : View.Piece (Elt F) S16x128x128 .f32)] (Rect.unit (s := S16x128x128) ![k', 0, 0] ![1, 128, 128] inb').toLoadRect
      = fun _ => Scalar.ofBits .f32 0x00000000#32 := by
  simp only [View.readCov_eq_canon']
  refine funext fun j => (congrFun (View.canon_cons_unit_zero (by decide) _ _ _) _).trans rfl

theorem rows_read {sp : Space} (v : View sig .tc sp S136x4096 .f32) (x2 : Vec F S128x4096 .bf16) (inb : ∀ a, (![0, 0] : Fin 2 → Nat) a + (![136, 4096] : Fin 2 → Nat) a ≤ S136x4096.size a) :
    v.readCov [(⟨Rect.unit (s := S136x4096) ![8, 0] ![128, 4096] inb_S136x4096_S128x4096_8_0, k0_pay24 x2⟩ : View.Piece (Elt F) S136x4096 .f32),
        ⟨Rect.unit (s := S136x4096) ![0, 0] ![8, 4096] inb_S136x4096_S8x4096_0_0, k0_pay2⟩] (Rect.unit (s := S136x4096) ![0, 0] ![136, 4096] inb).toLoadRect
      = View.ld (Val := Elt F) (e' := .f32) (extend noRows x2) (Rect.unit (s := S136x4096) ![0, 0] ![136, 4096] inb) := by
  simp only [View.readCov_eq_canon']
  rw [canon_extend]

theorem read_extend {sp : Space} (m : Memref sig .tc sp S136x4096 .f32) (hm : m.IsWhole) (xs0 : Vec F S136x4096 .f32) (x2 : Vec F S128x4096 .bf16) :
    View.read (Elt F) m.view (m.view.writes (Elt F) (hm.unread xs0) [⟨Rect.unit ![8, 0] ![128, 4096] inb_S136x4096_S128x4096_8_0, k0_pay24 x2⟩]) = extend xs0 x2 := by
  funext y
  have h1 : (y 1).val < 4096 := (y 1).isLt
  by_cases h : 8 ≤ (y 0).val
  · refine (View.read_writes_cons_unit_of_mem _ _ _ _ _ y (ix2 (⟨(y 0).val - 8, by have := (y 0).isLt; change (y 0).val < 136 at this; omega⟩ : Fin 128) (y 1)) rfl ?_).trans ?_
    · intro a
      match a with
      | ⟨0, _⟩ => show (y 0).val = 8 + ((y 0).val - 8); omega
      | ⟨1, _⟩ => show (y 1).val = 0 + (y 1).val; omega
    · unfold extend; rw [dif_pos h]; rfl
  · refine (View.read_writes_cons_unit_of_not_mem _ _ _ _ _ y rfl (0 : Fin 2) (.inl (by show (y 0).val < 8; omega))).trans ?_
    unfold extend; rw [dif_neg h]
    exact congrFun (hm.read_unread xs0) y

set_option maxHeartbeats 800000 in
theorem out_B (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : ¬cond0_0 i) (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (xs0 : Vec F S136x4096 .f32) (xs1 : Vec F S16x128x128 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1 = k0_pay1 (k0_pay159 (ofCols (fun pr => yTile x0 x2 x3 x4 x5 x6 x7 x8 (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) x10 x11 x13 x15 x16 (extend xs0 x2) pr (slab xs1 pr))) x1)
      (k0_pay160 (ofCols (fun pr => yTile x0 x2 x3 x4 x5 x6 x7 x8 (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) x10 x11 x13 x15 x16 (extend xs0 x2) pr (slab xs1 pr))) x1) x12 := by
  unfold out0_B_17
  refine Eq.trans (b := k0_pay1 (k0_pay159 (ofCols (fun pr => yTile (View.ld (Val := Elt F) (e' := .f32) x0 (Rect.unit (s := S128x1024) ![0, 0] ![128, 1024] inb_S128x1024_S128x1024_0_0)) (View.ld (Val := Elt F) (e' := .bf16) x2 (Rect.unit (s := S128x4096) ![0, 0] ![128, 4096] inb_S128x4096_S128x4096_0_0)) (View.ld (Val := Elt F) (e' := .bf16) x3 (Rect.unit (s := S1024x128) ![0, 0] ![1024, 128] inb_S1024x128_S1024x128_0_0)) (View.ld (Val := Elt F) (e' := .bf16) x4 (Rect.unit (s := S128x1024) ![0, 0] ![128, 1024] inb_S128x1024_S128x1024_0_0)) (View.ld (Val := Elt F) (e' := .f32) x5 (Rect.unit (s := S1x128) ![0, 0] ![1, 128] inb_S1x128_S1x128_0_0)) (View.ld (Val := Elt F) (e' := .f32) x6 (Rect.unit (s := S128x1) ![0, 0] ![128, 1] inb_S128x1_S128x1_0_0)) (View.ld (Val := Elt F) (e' := .f32) x7 (Rect.unit (s := S1x128) ![0, 0] ![1, 128] inb_S1x128_S1x128_0_0)) (View.ld (Val := Elt F) (e' := .f32) x8 (Rect.unit (s := S128x1) ![0, 0] ![128, 1] inb_S128x1_S128x1_0_0)) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) (View.ld (Val := Elt F) (e' := .f32) x10 (Rect.unit (s := S1x4096) ![0, 0] ![1, 4096] inb_S1x4096_S1x4096_0_0)) (View.ld (Val := Elt F) (e' := .f32) x11 (Rect.unit (s := S1x2048) ![0, 0] ![1, 2048] inb_S1x2048_S1x2048_0_0)) (View.ld (Val := Elt F) (e' := .bf16) x13 (Rect.unit (s := S384x2048) ![0, 0] ![384, 2048] inb_S384x2048_S384x2048_0_0)) (View.ld (Val := Elt F) (e' := .bf16) x15 (Rect.unit (s := S128x128) ![0, 0] ![128, 128] inb_S128x128_S128x128_0_0)) (View.ld (Val := Elt F) (e' := .bf16) x16 (Rect.unit (s := S128x128) ![0, 0] ![128, 128] inb_S128x128_S128x128_0_0)) (View.ld (Val := Elt F) (e' := .f32) (extend xs0 (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) pr (View.ld (Val := Elt F) (e' := .f32) xs1 (Rect.unit (s := S16x128x128) ![pr.val, 0, 0] ![1, 128, 128] ((by decide : ∀ pr : Fin 16, ∀ a, (![pr.val, 0, 0] : Fin 3 → Nat) a + (![1, 128, 128] : Fin 3 → Nat) a ≤ S16x128x128.size a) pr))))) (View.ld (Val := Elt F) (e' := .bf16) x1 (Rect.unit (s := S128x2048) ![0, 0] ![128, 2048] inb_S128x2048_S128x2048_0_0)))
      (k0_pay160 (ofCols (fun pr => yTile (View.ld (Val := Elt F) (e' := .f32) x0 (Rect.unit (s := S128x1024) ![0, 0] ![128, 1024] inb_S128x1024_S128x1024_0_0)) (View.ld (Val := Elt F) (e' := .bf16) x2 (Rect.unit (s := S128x4096) ![0, 0] ![128, 4096] inb_S128x4096_S128x4096_0_0)) (View.ld (Val := Elt F) (e' := .bf16) x3 (Rect.unit (s := S1024x128) ![0, 0] ![1024, 128] inb_S1024x128_S1024x128_0_0)) (View.ld (Val := Elt F) (e' := .bf16) x4 (Rect.unit (s := S128x1024) ![0, 0] ![128, 1024] inb_S128x1024_S128x1024_0_0)) (View.ld (Val := Elt F) (e' := .f32) x5 (Rect.unit (s := S1x128) ![0, 0] ![1, 128] inb_S1x128_S1x128_0_0)) (View.ld (Val := Elt F) (e' := .f32) x6 (Rect.unit (s := S128x1) ![0, 0] ![128, 1] inb_S128x1_S128x1_0_0)) (View.ld (Val := Elt F) (e' := .f32) x7 (Rect.unit (s := S1x128) ![0, 0] ![1, 128] inb_S1x128_S1x128_0_0)) (View.ld (Val := Elt F) (e' := .f32) x8 (Rect.unit (s := S128x1) ![0, 0] ![128, 1] inb_S128x1_S128x1_0_0)) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) (View.ld (Val := Elt F) (e' := .f32) x10 (Rect.unit (s := S1x4096) ![0, 0] ![1, 4096] inb_S1x4096_S1x4096_0_0)) (View.ld (Val := Elt F) (e' := .f32) x11 (Rect.unit (s := S1x2048) ![0, 0] ![1, 2048] inb_S1x2048_S1x2048_0_0)) (View.ld (Val := Elt F) (e' := .bf16) x13 (Rect.unit (s := S384x2048) ![0, 0] ![384, 2048] inb_S384x2048_S384x2048_0_0)) (View.ld (Val := Elt F) (e' := .bf16) x15 (Rect.unit (s := S128x128) ![0, 0] ![128, 128] inb_S128x128_S128x128_0_0)) (View.ld (Val := Elt F) (e' := .bf16) x16 (Rect.unit (s := S128x128) ![0, 0] ![128, 128] inb_S128x128_S128x128_0_0)) (View.ld (Val := Elt F) (e' := .f32) (extend xs0 (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) pr (View.ld (Val := Elt F) (e' := .f32) xs1 (Rect.unit (s := S16x128x128) ![pr.val, 0, 0] ![1, 128, 128] ((by decide : ∀ pr : Fin 16, ∀ a, (![pr.val, 0, 0] : Fin 3 → Nat) a + (![1, 128, 128] : Fin 3 → Nat) a ≤ S16x128x128.size a) pr))))) (View.ld (Val := Elt F) (e' := .bf16) x1 (Rect.unit (s := S128x2048) ![0, 0] ![128, 2048] inb_S128x2048_S128x2048_0_0))) (View.ld (Val := Elt F) (e' := .f32) x12 (Rect.unit (s := S1x2048) ![0, 0] ![1, 2048] inb_S1x2048_S1x2048_0_0))) ?_ ?_
  · rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1)]
    unfold kernelRun0_B
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread, harg21.read_unread, View.readCov_eq_canon']
    refine (View.canon_cons_unit_zero (by decide) _ _ _).trans ?_
    rw [read_extend arg20 harg20 xs0]
    refine (congrArg (fun z => k0_pay1 (k0_pay159 z (View.ld (Val := Elt F) (e' := .bf16) x1 (Rect.unit (s := S128x2048) ![0, 0] ![128, 2048] inb_S128x2048_S128x2048_0_0))) (k0_pay160 z (View.ld (Val := Elt F) (e' := .bf16) x1 (Rect.unit (s := S128x2048) ![0, 0] ![128, 2048] inb_S128x2048_S128x2048_0_0))) (View.ld (Val := Elt F) (e' := .f32) x12 (Rect.unit (s := S1x2048) ![0, 0] ![1, 2048] inb_S1x2048_S1x2048_0_0))) ?_)
    refine (View.ld_unit_zero (S := S128x2048) (by decide) _ _).trans (funext fun y => ?_)
    have hy : (y 1).val < 128 * 16 := (y 1).isLt
    unfold yTile wAcum wAcumT wXbc wXs wXdt wEa wAcum
    generalize k0_pay18 (k0_pay13 (View.ld (Val := Elt F) (e' := .bf16) x16 (Rect.unit (s := S128x128) ![0, 0] ![128, 128] inb_S128x128_S128x128_0_0))) (k0_pay14 (k0_pay6 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay7 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay8 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay9 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) k0_pay10 (View.ld (Val := Elt F) (e' := .f32) x8 (Rect.unit (s := S128x1) ![0, 0] ![128, 1] inb_S128x1_S128x1_0_0))) (k0_pay15 (k0_pay6 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay7 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay8 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay9 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) k0_pay10 (View.ld (Val := Elt F) (e' := .f32) x8 (Rect.unit (s := S128x1) ![0, 0] ![128, 1] inb_S128x1_S128x1_0_0))) (k0_pay16 (k0_pay6 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay7 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay8 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay9 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) k0_pay10 (View.ld (Val := Elt F) (e' := .f32) x8 (Rect.unit (s := S128x1) ![0, 0] ![128, 1] inb_S128x1_S128x1_0_0))) (k0_pay17 (k0_pay6 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay7 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay8 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay9 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) k0_pay10 (View.ld (Val := Elt F) (e' := .f32) x8 (Rect.unit (s := S128x1) ![0, 0] ![128, 1] inb_S128x1_S128x1_0_0))) = acumT
    generalize k0_pay5 (View.ld (Val := Elt F) (e' := .f32) x0 (Rect.unit (s := S128x1024) ![0, 0] ![128, 1024] inb_S128x1024_S128x1024_0_0)) (View.ld (Val := Elt F) (e' := .bf16) x3 (Rect.unit (s := S1024x128) ![0, 0] ![1024, 128] inb_S1024x128_S1024x128_0_0)) (View.ld (Val := Elt F) (e' := .f32) x5 (Rect.unit (s := S1x128) ![0, 0] ![1, 128] inb_S1x128_S1x128_0_0)) = dt
    generalize k0_pay12 dt (View.ld (Val := Elt F) (e' := .f32) x7 (Rect.unit (s := S1x128) ![0, 0] ![1, 128] inb_S1x128_S1x128_0_0)) (View.ld (Val := Elt F) (e' := .bf16) x15 (Rect.unit (s := S128x128) ![0, 0] ![128, 128] inb_S128x128_S128x128_0_0)) = acum
    generalize k0_pay21 acum (View.ld (Val := Elt F) (e' := .bf16) x13 (Rect.unit (s := S384x2048) ![0, 0] ![384, 2048] inb_S384x2048_S384x2048_0_0)) = aX
    generalize k0_pay33 aX = ea
    generalize k0_pay20 dt (View.ld (Val := Elt F) (e' := .bf16) x13 (Rect.unit (s := S384x2048) ![0, 0] ![384, 2048] inb_S384x2048_S384x2048_0_0)) = dtX
    generalize k0_pay28 (View.ld (Val := Elt F) (e' := .f32) (extend xs0 (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xbc
    generalize k0_pay29 (View.ld (Val := Elt F) (e' := .f32) (extend xs0 (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xs
    generalize k0_pay31 dtX (View.ld (Val := Elt F) (e' := .f32) (extend xs0 (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xdt
    generalize k0_pay35 (View.ld (Val := Elt F) (e' := .f32) x11 (Rect.unit (s := S1x2048) ![0, 0] ![1, 2048] inb_S1x2048_S1x2048_0_0)) = dskip
    revert hy; revert y
    iterate 16 (refine cols_cons _ (by decide) _ _ _ ?_ ?_; swap; · rfl)
    exact fun _ h => absurd h (Nat.not_lt_zero _)
  · rw [View.ld_unit_zero (S := S128x1024) (by decide) _ x0, View.ld_unit_zero (S := S128x2048) (by decide) _ x1, View.ld_unit_zero (S := S128x4096) (by decide) _ x2, View.ld_unit_zero (S := S1024x128) (by decide) _ x3, View.ld_unit_zero (S := S128x1024) (by decide) _ x4, View.ld_unit_zero (S := S1x128) (by decide) _ x5, View.ld_unit_zero (S := S128x1) (by decide) _ x6, View.ld_unit_zero (S := S1x128) (by decide) _ x7, View.ld_unit_zero (S := S128x1) (by decide) _ x8, View.ld_unit_zero (S := S1x4096) (by decide) _ x10, View.ld_unit_zero (S := S1x2048) (by decide) _ x11, View.ld_unit_zero (S := S1x2048) (by decide) _ x12, View.ld_unit_zero (S := S384x2048) (by decide) _ x13, View.ld_unit_zero (S := S128x128) (by decide) _ x15, View.ld_unit_zero (S := S128x128) (by decide) _ x16, View.ld_unit_zero (S := S136x4096) (by decide) _ (extend xs0 x2)]
    simp only [ld_slab]

set_option maxHeartbeats 800000 in
theorem state_B (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : ¬cond0_0 i) (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (xs0 : Vec F S136x4096 .f32) (xs1 : Vec F S16x128x128 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1 = ofSlabs (fun pr => sTile x0 x2 x3 x5 x7 (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) x10 x13 x15 (extend xs0 x2) pr (slab xs1 pr)) := by
  unfold sout0_B_1
  refine Eq.trans (b := ofSlabs (fun pr => sTile (View.ld (Val := Elt F) (e' := .f32) x0 (Rect.unit (s := S128x1024) ![0, 0] ![128, 1024] inb_S128x1024_S128x1024_0_0)) (View.ld (Val := Elt F) (e' := .bf16) x2 (Rect.unit (s := S128x4096) ![0, 0] ![128, 4096] inb_S128x4096_S128x4096_0_0)) (View.ld (Val := Elt F) (e' := .bf16) x3 (Rect.unit (s := S1024x128) ![0, 0] ![1024, 128] inb_S1024x128_S1024x128_0_0)) (View.ld (Val := Elt F) (e' := .f32) x5 (Rect.unit (s := S1x128) ![0, 0] ![1, 128] inb_S1x128_S1x128_0_0)) (View.ld (Val := Elt F) (e' := .f32) x7 (Rect.unit (s := S1x128) ![0, 0] ![1, 128] inb_S1x128_S1x128_0_0)) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) (View.ld (Val := Elt F) (e' := .f32) x10 (Rect.unit (s := S1x4096) ![0, 0] ![1, 4096] inb_S1x4096_S1x4096_0_0)) (View.ld (Val := Elt F) (e' := .bf16) x13 (Rect.unit (s := S384x2048) ![0, 0] ![384, 2048] inb_S384x2048_S384x2048_0_0)) (View.ld (Val := Elt F) (e' := .bf16) x15 (Rect.unit (s := S128x128) ![0, 0] ![128, 128] inb_S128x128_S128x128_0_0)) (View.ld (Val := Elt F) (e' := .f32) (extend xs0 (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) pr (View.ld (Val := Elt F) (e' := .f32) xs1 (Rect.unit (s := S16x128x128) ![pr.val, 0, 0] ![1, 128, 128] ((by decide : ∀ pr : Fin 16, ∀ a, (![pr.val, 0, 0] : Fin 3 → Nat) a + (![1, 128, 128] : Fin 3 → Nat) a ≤ S16x128x128.size a) pr))))) ?_ ?_
  · rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1)]
    unfold kernelRun0_B
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread, harg21.read_unread, View.readCov_eq_canon']
    rw [read_extend arg20 harg20 xs0]
    refine funext fun y => ?_
    have hy : (y 0).val < 16 := (y 0).isLt
    revert hy; revert y
    unfold sTile wXbc wXw wDec wAcum
    generalize k0_pay5 (View.ld (Val := Elt F) (e' := .f32) x0 (Rect.unit (s := S128x1024) ![0, 0] ![128, 1024] inb_S128x1024_S128x1024_0_0)) (View.ld (Val := Elt F) (e' := .bf16) x3 (Rect.unit (s := S1024x128) ![0, 0] ![1024, 128] inb_S1024x128_S1024x128_0_0)) (View.ld (Val := Elt F) (e' := .f32) x5 (Rect.unit (s := S1x128) ![0, 0] ![1, 128] inb_S1x128_S1x128_0_0)) = dt
    generalize k0_pay12 dt (View.ld (Val := Elt F) (e' := .f32) x7 (Rect.unit (s := S1x128) ![0, 0] ![1, 128] inb_S1x128_S1x128_0_0)) (View.ld (Val := Elt F) (e' := .bf16) x15 (Rect.unit (s := S128x128) ![0, 0] ![128, 128] inb_S128x128_S128x128_0_0)) = acum
    generalize k0_pay21 acum (View.ld (Val := Elt F) (e' := .bf16) x13 (Rect.unit (s := S384x2048) ![0, 0] ![384, 2048] inb_S384x2048_S384x2048_0_0)) = aX
    generalize k0_pay22 acum (View.ld (Val := Elt F) (e' := .bf16) x13 (Rect.unit (s := S384x2048) ![0, 0] ![384, 2048] inb_S384x2048_S384x2048_0_0)) = aL
    generalize k0_pay20 dt (View.ld (Val := Elt F) (e' := .bf16) x13 (Rect.unit (s := S384x2048) ![0, 0] ![384, 2048] inb_S384x2048_S384x2048_0_0)) = dtX
    generalize k0_pay28 (View.ld (Val := Elt F) (e' := .f32) (extend xs0 (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xbc
    generalize k0_pay32 dtX aX aL (View.ld (Val := Elt F) (e' := .f32) (extend xs0 (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xw
    generalize k0_pay34 aL = dec
    iterate 16 (refine slab_cons _ (by decide) _ _ _ ?_ ?_; swap; · rfl)
    exact fun _ h => absurd h (Nat.not_lt_zero _)
  · rw [View.ld_unit_zero (S := S128x1024) (by decide) _ x0, View.ld_unit_zero (S := S128x4096) (by decide) _ x2, View.ld_unit_zero (S := S1024x128) (by decide) _ x3, View.ld_unit_zero (S := S1x128) (by decide) _ x5, View.ld_unit_zero (S := S1x128) (by decide) _ x7, View.ld_unit_zero (S := S1x4096) (by decide) _ x10, View.ld_unit_zero (S := S384x2048) (by decide) _ x13, View.ld_unit_zero (S := S128x128) (by decide) _ x15, View.ld_unit_zero (S := S136x4096) (by decide) _ (extend xs0 x2)]
    simp only [ld_slab]

theorem carry_B (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : ¬cond0_0 i) (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) (xs0 : Vec F S136x4096 .f32) (xs1 : Vec F S16x128x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1 = carried x2 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread, harg21.read_unread, View.readCov_eq_canon']
  rw [View.ld_unit_zero (S := S128x4096) (by decide) _ x2]
  exact canon_carried x2 []

theorem carry_A (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i) (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 = carried x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16)]
  unfold kernelRun0_A
  dsimp only
  sl_unfold_words
  simp only [↓rows_read, ↓slab_skip, ↓slab_cleared, ne_eq, Nat.reduceEqDiff, not_false_eq_true, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  try simp only [View.readCov_eq_canon']
  rw [View.ld_unit_zero (S := S128x4096) (by decide) _ x2]
  exact canon_carried x2 _

set_option maxHeartbeats 800000 in
theorem state_A (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i) (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 = ofSlabs (fun pr => sTile x0 x2 x3 x5 x7 (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) x10 x13 x15 (extend noRows x2) pr (slab noState pr)) := by
  unfold sout0_A_1
  refine Eq.trans (b := ofSlabs (fun pr => sTile (View.ld (Val := Elt F) (e' := .f32) x0 (Rect.unit (s := S128x1024) ![0, 0] ![128, 1024] inb_S128x1024_S128x1024_0_0)) (View.ld (Val := Elt F) (e' := .bf16) x2 (Rect.unit (s := S128x4096) ![0, 0] ![128, 4096] inb_S128x4096_S128x4096_0_0)) (View.ld (Val := Elt F) (e' := .bf16) x3 (Rect.unit (s := S1024x128) ![0, 0] ![1024, 128] inb_S1024x128_S1024x128_0_0)) (View.ld (Val := Elt F) (e' := .f32) x5 (Rect.unit (s := S1x128) ![0, 0] ![1, 128] inb_S1x128_S1x128_0_0)) (View.ld (Val := Elt F) (e' := .f32) x7 (Rect.unit (s := S1x128) ![0, 0] ![1, 128] inb_S1x128_S1x128_0_0)) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) (View.ld (Val := Elt F) (e' := .f32) x10 (Rect.unit (s := S1x4096) ![0, 0] ![1, 4096] inb_S1x4096_S1x4096_0_0)) (View.ld (Val := Elt F) (e' := .bf16) x13 (Rect.unit (s := S384x2048) ![0, 0] ![384, 2048] inb_S384x2048_S384x2048_0_0)) (View.ld (Val := Elt F) (e' := .bf16) x15 (Rect.unit (s := S128x128) ![0, 0] ![128, 128] inb_S128x128_S128x128_0_0)) (View.ld (Val := Elt F) (e' := .f32) (extend noRows (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) pr (slab noState pr))) ?_ ?_
  · rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16)]
    unfold kernelRun0_A
    dsimp only
    sl_unfold_words
    simp only [↓rows_read, ↓slab_skip, ↓slab_cleared, ne_eq, Nat.reduceEqDiff, not_false_eq_true, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    try simp only [View.readCov_eq_canon']
    refine funext fun y => ?_
    have hy : (y 0).val < 16 := (y 0).isLt
    revert hy; revert y
    unfold sTile wXbc wXw wDec wAcum
    generalize k0_pay5 (View.ld (Val := Elt F) (e' := .f32) x0 (Rect.unit (s := S128x1024) ![0, 0] ![128, 1024] inb_S128x1024_S128x1024_0_0)) (View.ld (Val := Elt F) (e' := .bf16) x3 (Rect.unit (s := S1024x128) ![0, 0] ![1024, 128] inb_S1024x128_S1024x128_0_0)) (View.ld (Val := Elt F) (e' := .f32) x5 (Rect.unit (s := S1x128) ![0, 0] ![1, 128] inb_S1x128_S1x128_0_0)) = dt
    generalize k0_pay12 dt (View.ld (Val := Elt F) (e' := .f32) x7 (Rect.unit (s := S1x128) ![0, 0] ![1, 128] inb_S1x128_S1x128_0_0)) (View.ld (Val := Elt F) (e' := .bf16) x15 (Rect.unit (s := S128x128) ![0, 0] ![128, 128] inb_S128x128_S128x128_0_0)) = acum
    generalize k0_pay21 acum (View.ld (Val := Elt F) (e' := .bf16) x13 (Rect.unit (s := S384x2048) ![0, 0] ![384, 2048] inb_S384x2048_S384x2048_0_0)) = aX
    generalize k0_pay22 acum (View.ld (Val := Elt F) (e' := .bf16) x13 (Rect.unit (s := S384x2048) ![0, 0] ![384, 2048] inb_S384x2048_S384x2048_0_0)) = aL
    generalize k0_pay20 dt (View.ld (Val := Elt F) (e' := .bf16) x13 (Rect.unit (s := S384x2048) ![0, 0] ![384, 2048] inb_S384x2048_S384x2048_0_0)) = dtX
    generalize k0_pay28 (View.ld (Val := Elt F) (e' := .f32) (extend noRows (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xbc
    generalize k0_pay32 dtX aX aL (View.ld (Val := Elt F) (e' := .f32) (extend noRows (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xw
    generalize k0_pay34 aL = dec
    iterate 16 (refine slab_cons _ (by decide) _ _ _ ?_ ?_; swap; · rfl)
    exact fun _ h => absurd h (Nat.not_lt_zero _)
  · rw [View.ld_unit_zero (S := S128x1024) (by decide) _ x0, View.ld_unit_zero (S := S128x4096) (by decide) _ x2, View.ld_unit_zero (S := S1024x128) (by decide) _ x3, View.ld_unit_zero (S := S1x128) (by decide) _ x5, View.ld_unit_zero (S := S1x128) (by decide) _ x7, View.ld_unit_zero (S := S1x4096) (by decide) _ x10, View.ld_unit_zero (S := S384x2048) (by decide) _ x13, View.ld_unit_zero (S := S128x128) (by decide) _ x15, View.ld_unit_zero (S := S136x4096) (by decide) _ (extend noRows x2)]

set_option maxHeartbeats 800000 in
theorem out_A (c : Dev nD) (i : grid0.Coords) (arg2 : Memref sig .tc .vmem S128x1024 .f32) (harg2 : arg2.IsWhole) (arg3 : Memref sig .tc .vmem S128x2048 .bf16) (harg3 : arg3.IsWhole) (arg4 : Memref sig .tc .vmem S128x4096 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x128 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S4x4096 .f32) (harg11 : arg11.IsWhole) (arg12 : Memref sig .tc .vmem S1x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S384x2048 .bf16) (harg15 : arg15.IsWhole) (arg16 : Memref sig .tc .vmem S384x4096 .bf16) (harg16 : arg16.IsWhole) (arg17 : Memref sig .tc .vmem S128x128 .bf16) (harg17 : arg17.IsWhole) (arg18 : Memref sig .tc .vmem S128x128 .bf16) (harg18 : arg18.IsWhole) (arg19 : Memref sig .tc .vmem S128x2048 .f32) (harg19 : arg19.IsWhole) (arg20 : Memref sig .tc .vmem S136x4096 .f32) (harg20 : arg20.IsWhole) (arg21 : Memref sig .tc .vmem S16x128x128 .f32) (harg21 : arg21.IsWhole) (arg22 : Memref sig .tc .vmem S128x2048 .f32) (harg22 : arg22.IsWhole) (hc0 : cond0_0 i) (x0 : Vec F S128x1024 .f32) (x1 : Vec F S128x2048 .bf16) (x2 : Vec F S128x4096 .bf16) (x3 : Vec F S1024x128 .bf16) (x4 : Vec F S128x1024 .bf16) (x5 : Vec F S1x128 .f32) (x6 : Vec F S128x1 .f32) (x7 : Vec F S1x128 .f32) (x8 : Vec F S128x1 .f32) (x9 : Vec F S4x4096 .f32) (x10 : Vec F S1x4096 .f32) (x11 : Vec F S1x2048 .f32) (x12 : Vec F S1x2048 .f32) (x13 : Vec F S384x2048 .bf16) (x14 : Vec F S384x4096 .bf16) (x15 : Vec F S128x128 .bf16) (x16 : Vec F S128x128 .bf16) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 = k0_pay1 (k0_pay159 (ofCols (fun pr => yTile x0 x2 x3 x4 x5 x6 x7 x8 (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) x10 x11 x13 x15 x16 (extend noRows x2) pr (slab noState pr))) x1)
      (k0_pay160 (ofCols (fun pr => yTile x0 x2 x3 x4 x5 x6 x7 x8 (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) x10 x11 x13 x15 x16 (extend noRows x2) pr (slab noState pr))) x1) x12 := by
  unfold out0_A_17
  refine Eq.trans (b := k0_pay1 (k0_pay159 (ofCols (fun pr => yTile (View.ld (Val := Elt F) (e' := .f32) x0 (Rect.unit (s := S128x1024) ![0, 0] ![128, 1024] inb_S128x1024_S128x1024_0_0)) (View.ld (Val := Elt F) (e' := .bf16) x2 (Rect.unit (s := S128x4096) ![0, 0] ![128, 4096] inb_S128x4096_S128x4096_0_0)) (View.ld (Val := Elt F) (e' := .bf16) x3 (Rect.unit (s := S1024x128) ![0, 0] ![1024, 128] inb_S1024x128_S1024x128_0_0)) (View.ld (Val := Elt F) (e' := .bf16) x4 (Rect.unit (s := S128x1024) ![0, 0] ![128, 1024] inb_S128x1024_S128x1024_0_0)) (View.ld (Val := Elt F) (e' := .f32) x5 (Rect.unit (s := S1x128) ![0, 0] ![1, 128] inb_S1x128_S1x128_0_0)) (View.ld (Val := Elt F) (e' := .f32) x6 (Rect.unit (s := S128x1) ![0, 0] ![128, 1] inb_S128x1_S128x1_0_0)) (View.ld (Val := Elt F) (e' := .f32) x7 (Rect.unit (s := S1x128) ![0, 0] ![1, 128] inb_S1x128_S1x128_0_0)) (View.ld (Val := Elt F) (e' := .f32) x8 (Rect.unit (s := S128x1) ![0, 0] ![128, 1] inb_S128x1_S128x1_0_0)) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) (View.ld (Val := Elt F) (e' := .f32) x10 (Rect.unit (s := S1x4096) ![0, 0] ![1, 4096] inb_S1x4096_S1x4096_0_0)) (View.ld (Val := Elt F) (e' := .f32) x11 (Rect.unit (s := S1x2048) ![0, 0] ![1, 2048] inb_S1x2048_S1x2048_0_0)) (View.ld (Val := Elt F) (e' := .bf16) x13 (Rect.unit (s := S384x2048) ![0, 0] ![384, 2048] inb_S384x2048_S384x2048_0_0)) (View.ld (Val := Elt F) (e' := .bf16) x15 (Rect.unit (s := S128x128) ![0, 0] ![128, 128] inb_S128x128_S128x128_0_0)) (View.ld (Val := Elt F) (e' := .bf16) x16 (Rect.unit (s := S128x128) ![0, 0] ![128, 128] inb_S128x128_S128x128_0_0)) (View.ld (Val := Elt F) (e' := .f32) (extend noRows (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) pr (slab noState pr))) (View.ld (Val := Elt F) (e' := .bf16) x1 (Rect.unit (s := S128x2048) ![0, 0] ![128, 2048] inb_S128x2048_S128x2048_0_0)))
      (k0_pay160 (ofCols (fun pr => yTile (View.ld (Val := Elt F) (e' := .f32) x0 (Rect.unit (s := S128x1024) ![0, 0] ![128, 1024] inb_S128x1024_S128x1024_0_0)) (View.ld (Val := Elt F) (e' := .bf16) x2 (Rect.unit (s := S128x4096) ![0, 0] ![128, 4096] inb_S128x4096_S128x4096_0_0)) (View.ld (Val := Elt F) (e' := .bf16) x3 (Rect.unit (s := S1024x128) ![0, 0] ![1024, 128] inb_S1024x128_S1024x128_0_0)) (View.ld (Val := Elt F) (e' := .bf16) x4 (Rect.unit (s := S128x1024) ![0, 0] ![128, 1024] inb_S128x1024_S128x1024_0_0)) (View.ld (Val := Elt F) (e' := .f32) x5 (Rect.unit (s := S1x128) ![0, 0] ![1, 128] inb_S1x128_S1x128_0_0)) (View.ld (Val := Elt F) (e' := .f32) x6 (Rect.unit (s := S128x1) ![0, 0] ![128, 1] inb_S128x1_S128x1_0_0)) (View.ld (Val := Elt F) (e' := .f32) x7 (Rect.unit (s := S1x128) ![0, 0] ![1, 128] inb_S1x128_S1x128_0_0)) (View.ld (Val := Elt F) (e' := .f32) x8 (Rect.unit (s := S128x1) ![0, 0] ![128, 1] inb_S128x1_S128x1_0_0)) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) (View.ld (Val := Elt F) (e' := .f32) x9 (Rect.unit (s := S4x4096) ![3, 0] ![1, 4096] inb_S4x4096_S1x4096_3_0)) (View.ld (Val := Elt F) (e' := .f32) x10 (Rect.unit (s := S1x4096) ![0, 0] ![1, 4096] inb_S1x4096_S1x4096_0_0)) (View.ld (Val := Elt F) (e' := .f32) x11 (Rect.unit (s := S1x2048) ![0, 0] ![1, 2048] inb_S1x2048_S1x2048_0_0)) (View.ld (Val := Elt F) (e' := .bf16) x13 (Rect.unit (s := S384x2048) ![0, 0] ![384, 2048] inb_S384x2048_S384x2048_0_0)) (View.ld (Val := Elt F) (e' := .bf16) x15 (Rect.unit (s := S128x128) ![0, 0] ![128, 128] inb_S128x128_S128x128_0_0)) (View.ld (Val := Elt F) (e' := .bf16) x16 (Rect.unit (s := S128x128) ![0, 0] ![128, 128] inb_S128x128_S128x128_0_0)) (View.ld (Val := Elt F) (e' := .f32) (extend noRows (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) pr (slab noState pr))) (View.ld (Val := Elt F) (e' := .bf16) x1 (Rect.unit (s := S128x2048) ![0, 0] ![128, 2048] inb_S128x2048_S128x2048_0_0))) (View.ld (Val := Elt F) (e' := .f32) x12 (Rect.unit (s := S1x2048) ![0, 0] ![1, 2048] inb_S1x2048_S1x2048_0_0))) ?_ ?_
  · rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16)]
    unfold kernelRun0_A
    dsimp only
    sl_unfold_words
    simp only [↓rows_read, ↓slab_skip, ↓slab_cleared, ne_eq, Nat.reduceEqDiff, not_false_eq_true, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    try simp only [View.readCov_eq_canon']
    refine (View.canon_cons_unit_zero (by decide) _ _ _).trans ?_
    refine (congrArg (fun z => k0_pay1 (k0_pay159 z (View.ld (Val := Elt F) (e' := .bf16) x1 (Rect.unit (s := S128x2048) ![0, 0] ![128, 2048] inb_S128x2048_S128x2048_0_0))) (k0_pay160 z (View.ld (Val := Elt F) (e' := .bf16) x1 (Rect.unit (s := S128x2048) ![0, 0] ![128, 2048] inb_S128x2048_S128x2048_0_0))) (View.ld (Val := Elt F) (e' := .f32) x12 (Rect.unit (s := S1x2048) ![0, 0] ![1, 2048] inb_S1x2048_S1x2048_0_0))) ?_)
    refine (View.ld_unit_zero (S := S128x2048) (by decide) _ _).trans (funext fun y => ?_)
    have hy : (y 1).val < 128 * 16 := (y 1).isLt
    revert hy; revert y
    unfold yTile wAcum wAcumT wXbc wXs wXdt wEa wAcum
    generalize k0_pay18 (k0_pay13 (View.ld (Val := Elt F) (e' := .bf16) x16 (Rect.unit (s := S128x128) ![0, 0] ![128, 128] inb_S128x128_S128x128_0_0))) (k0_pay14 (k0_pay6 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay7 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay8 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay9 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) k0_pay10 (View.ld (Val := Elt F) (e' := .f32) x8 (Rect.unit (s := S128x1) ![0, 0] ![128, 1] inb_S128x1_S128x1_0_0))) (k0_pay15 (k0_pay6 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay7 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay8 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay9 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) k0_pay10 (View.ld (Val := Elt F) (e' := .f32) x8 (Rect.unit (s := S128x1) ![0, 0] ![128, 1] inb_S128x1_S128x1_0_0))) (k0_pay16 (k0_pay6 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay7 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay8 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay9 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) k0_pay10 (View.ld (Val := Elt F) (e' := .f32) x8 (Rect.unit (s := S128x1) ![0, 0] ![128, 1] inb_S128x1_S128x1_0_0))) (k0_pay17 (k0_pay6 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay7 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay8 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) (k0_pay9 (View.ld (Val := Elt F) (e' := .f32) x0 (Rect.unit (s := S128x1024) ![0, 0] ![128, 1024] inb_S128x1024_S128x1024_0_0)) (View.ld (Val := Elt F) (e' := .bf16) x4 (Rect.unit (s := S128x1024) ![0, 0] ![128, 1024] inb_S128x1024_S128x1024_0_0)) (View.ld (Val := Elt F) (e' := .f32) x6 (Rect.unit (s := S128x1) ![0, 0] ![128, 1] inb_S128x1_S128x1_0_0))) k0_pay10 (View.ld (Val := Elt F) (e' := .f32) x8 (Rect.unit (s := S128x1) ![0, 0] ![128, 1] inb_S128x1_S128x1_0_0))) = acumT
    generalize k0_pay5 (View.ld (Val := Elt F) (e' := .f32) x0 (Rect.unit (s := S128x1024) ![0, 0] ![128, 1024] inb_S128x1024_S128x1024_0_0)) (View.ld (Val := Elt F) (e' := .bf16) x3 (Rect.unit (s := S1024x128) ![0, 0] ![1024, 128] inb_S1024x128_S1024x128_0_0)) (View.ld (Val := Elt F) (e' := .f32) x5 (Rect.unit (s := S1x128) ![0, 0] ![1, 128] inb_S1x128_S1x128_0_0)) = dt
    generalize k0_pay12 dt (View.ld (Val := Elt F) (e' := .f32) x7 (Rect.unit (s := S1x128) ![0, 0] ![1, 128] inb_S1x128_S1x128_0_0)) (View.ld (Val := Elt F) (e' := .bf16) x15 (Rect.unit (s := S128x128) ![0, 0] ![128, 128] inb_S128x128_S128x128_0_0)) = acum
    generalize k0_pay21 acum (View.ld (Val := Elt F) (e' := .bf16) x13 (Rect.unit (s := S384x2048) ![0, 0] ![384, 2048] inb_S384x2048_S384x2048_0_0)) = aX
    generalize k0_pay33 aX = ea
    generalize k0_pay20 dt (View.ld (Val := Elt F) (e' := .bf16) x13 (Rect.unit (s := S384x2048) ![0, 0] ![384, 2048] inb_S384x2048_S384x2048_0_0)) = dtX
    generalize k0_pay28 (View.ld (Val := Elt F) (e' := .f32) (extend noRows (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xbc
    generalize k0_pay29 (View.ld (Val := Elt F) (e' := .f32) (extend noRows (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xs
    generalize k0_pay31 dtX (View.ld (Val := Elt F) (e' := .f32) (extend noRows (View.ld (Val := Elt F) (e' := .bf16) x2 (Rect.unit (s := S128x4096) ![0, 0] ![128, 4096] inb_S128x4096_S128x4096_0_0))) (Rect.unit (s := S136x4096) ![0, 0] ![136, 4096] inb_S136x4096_S136x4096_0_0)) (k0_pay25 (View.ld (Val := Elt F) (e' := .f32) x10 (Rect.unit (s := S1x4096) ![0, 0] ![1, 4096] inb_S1x4096_S1x4096_0_0))) (k0_pay26 (View.ld (Val := Elt F) (e' := .bf16) x2 (Rect.unit (s := S128x4096) ![0, 0] ![128, 4096] inb_S128x4096_S128x4096_0_0)) (View.ld (Val := Elt F) (e' := .f32) x9 (Rect.unit (s := S4x4096) ![3, 0] ![1, 4096] inb_S4x4096_S1x4096_3_0))) (View.ld (Val := Elt F) (e' := .f32) x9 (Rect.unit (s := S4x4096) ![0, 0] ![1, 4096] inb_S4x4096_S1x4096_0_0)) (View.ld (Val := Elt F) (e' := .f32) x9 (Rect.unit (s := S4x4096) ![1, 0] ![1, 4096] inb_S4x4096_S1x4096_1_0)) (View.ld (Val := Elt F) (e' := .f32) x9 (Rect.unit (s := S4x4096) ![2, 0] ![1, 4096] inb_S4x4096_S1x4096_2_0)) = xdt
    generalize k0_pay35 (View.ld (Val := Elt F) (e' := .f32) x11 (Rect.unit (s := S1x2048) ![0, 0] ![1, 2048] inb_S1x2048_S1x2048_0_0)) = dskip
    iterate 16 (refine cols_cons _ (by decide) _ _ _ ?_ ?_; swap; · rfl)
    exact fun _ h => absurd h (Nat.not_lt_zero _)
  · rw [View.ld_unit_zero (S := S128x1024) (by decide) _ x0, View.ld_unit_zero (S := S128x2048) (by decide) _ x1, View.ld_unit_zero (S := S128x4096) (by decide) _ x2, View.ld_unit_zero (S := S1024x128) (by decide) _ x3, View.ld_unit_zero (S := S128x1024) (by decide) _ x4, View.ld_unit_zero (S := S1x128) (by decide) _ x5, View.ld_unit_zero (S := S128x1) (by decide) _ x6, View.ld_unit_zero (S := S1x128) (by decide) _ x7, View.ld_unit_zero (S := S128x1) (by decide) _ x8, View.ld_unit_zero (S := S1x4096) (by decide) _ x10, View.ld_unit_zero (S := S1x2048) (by decide) _ x11, View.ld_unit_zero (S := S1x2048) (by decide) _ x12, View.ld_unit_zero (S := S384x2048) (by decide) _ x13, View.ld_unit_zero (S := S128x128) (by decide) _ x15, View.ld_unit_zero (S := S128x128) (by decide) _ x16, View.ld_unit_zero (S := S136x4096) (by decide) _ (extend noRows x2)]

end Cert.KernelIdeal.Ssd

end
-- ==== Proof.SsdSpec.lean ====
/- The selective state space layer over extended reals, as both programs compute it: the step sizes, their running sums down
   a chunk, the causal convolution, one chunk's output and state, and the state after each chunk. -/
module

public import Idealize.ShloMosaic.PureOps
public import Idealize.ShloMosaic.Lib.Pointwise
public import Idealize.ShloMosaic.Lib.ValueIdx

@[expose] public section

noncomputable section

namespace Cert.Ssd

open Idealize.ShloMosaic

/-- softplus: max u 0 + log (1 + exp (-|u|)). -/
def soft (u : EReal) : EReal := max u 0 + Ideal.log1p (Ideal.exp (0 - max u (-u)))

/-- A step size. -/
def stepOf (x w : Fin 1024 → EReal) (b : EReal) : EReal := soft (∑ k, x k * w k + b)

/-- A step size times the head's rate. -/
def rate (d al : EReal) : EReal := d * (0 - Ideal.exp al)

/-- The running sum of those down a chunk. -/
def acum (v : Fin 128 → EReal) (i : Fin 128) : EReal := ∑ k : Fin 128, if k ≤ i then v k else 0

/-- silu. -/
def silu (u : EReal) : EReal := u * Ideal.logistic u

/-- The row `r` before row `s` of a sequence, zero before its start. -/
def back (X : Fin 2048 → EReal) (s : Fin 2048) (r : ℕ) : EReal :=
  if r ≤ s.val then X ⟨s.val - r, by omega⟩ else 0

/-- The causal convolution of width 4 with its bias and silu, one column. -/
def conv (X : Fin 2048 → EReal) (w : Fin 4 → EReal) (b : EReal) (s : Fin 2048) : EReal :=
  silu (b + w 3 * X s + w 0 * back X s 3 + w 1 * back X s 2 + w 2 * back X s 1)

/-- The head a column of 2048 belongs to, and that column, B's and C's among the 4096 convolved ones. -/
def hd (j : Fin 2048) : Fin 32 := ⟨j.val / 64, by omega⟩
def cX (j : Fin 2048) : Fin 4096 := ⟨j.val, by omega⟩
def cB (j : Fin 2048) (n : Fin 128) : Fin 4096 := ⟨2048 + 128 * (j.val / 256) + n.val, by omega⟩
def cC (j : Fin 2048) (n : Fin 128) : Fin 4096 := ⟨3072 + 128 * (j.val / 256) + n.val, by omega⟩

/-- One chunk's output: what its own rows give, what the entering state `S` gives, and the skip. -/
def yOf (Z : Fin 128 → Fin 4096 → EReal) (D A : Fin 128 → Fin 32 → EReal) (S : Fin 2048 → Fin 128 → EReal) (dsk : Fin 32 → EReal)
    (i : Fin 128) (j : Fin 2048) : EReal :=
  (∑ k : Fin 128, ((∑ n : Fin 128, Z i (cC j n) * Z k (cB j n)) * Ideal.exp (if k ≤ i then A i (hd j) - A k (hd j) else ⊥))
      * (Z k (cX j) * D k (hd j)))
    + (∑ n : Fin 128, Z i (cC j n) * S j n) * Ideal.exp (A i (hd j))
    + Z i (cX j) * dsk (hd j)

/-- The state a chunk leaves. -/
def sOf (Z : Fin 128 → Fin 4096 → EReal) (D A : Fin 128 → Fin 32 → EReal) (S : Fin 2048 → Fin 128 → EReal)
    (j : Fin 2048) (n : Fin 128) : EReal :=
  Ideal.exp (A 127 (hd j)) * S j n
    + ∑ k : Fin 128, Z k (cB j n) * ((Z k (cX j) * D k (hd j)) * Ideal.exp (A 127 (hd j) - A k (hd j)))

/-- Row `i` of chunk `c` as a row of the sequence. -/
def rowOf (c : ℕ) (i : Fin 128) : Fin 2048 := ⟨(128 * c + i.val) % 2048, by omega⟩

/-- The state entering chunk `c`, of a sequence with convolved rows `Z`, step sizes `E` to scale them by, step sizes `D` to decay by, and rates `al`. -/
def enter (Z : Fin 2048 → Fin 4096 → EReal) (E D : Fin 2048 → Fin 32 → EReal) (al : Fin 32 → EReal) : ℕ → Fin 2048 → Fin 128 → EReal
  | 0 => fun _ _ => 0
  | c + 1 => sOf (fun i => Z (rowOf c i)) (fun i => E (rowOf c i)) (fun i h => acum (fun k => rate (D (rowOf c k) h) (al h)) i) (enter Z E D al c)

/-- The output of chunk `c`. -/
def outOf (Z : Fin 2048 → Fin 4096 → EReal) (E D : Fin 2048 → Fin 32 → EReal) (al dsk : Fin 32 → EReal) (c : ℕ) (i : Fin 128) (j : Fin 2048) : EReal :=
  yOf (fun i => Z (rowOf c i)) (fun i => E (rowOf c i)) (fun i h => acum (fun k => rate (D (rowOf c k) h) (al h)) i) (enter Z E D al c) dsk i j

/-- The gated RMSNorm of a row. -/
def gated (y z : Fin 2048 → EReal) (w : EReal) (j : Fin 2048) : EReal :=
  y j * silu (z j)
    * Ideal.rsqrt (Ideal.div (∑ x, y x * silu (z x) * (y x * silu (z x))) (Ideal.ofBits FTy.f32 1157627904#32) + Ideal.ofBits FTy.f32 925353388#32)
    * w

/-! ## The decays are at most zero -/

/-- softplus is not negative. -/
theorem soft_nonneg (u : EReal) : 0 ≤ soft u := by
  unfold soft
  refine add_nonneg (le_max_right _ _) ?_
  unfold Ideal.log1p
  generalize 0 - max u (-u) = v
  induction v with
  | bot => rw [Ideal.exp_bot, add_zero, ← EReal.coe_one, Ideal.log_coe, if_neg (by norm_num), Real.log_one]; exact le_refl _
  | top => rw [Ideal.exp_top]; exact le_top
  | coe a =>
    have h : 0 < Real.exp a := Real.exp_pos a
    rw [Ideal.exp_coe, ← EReal.coe_one, ← EReal.coe_add, Ideal.log_coe, if_neg (by linarith)]
    exact EReal.coe_nonneg.mpr (Real.log_nonneg (by linarith))

/-- So a step size times a rate is never +∞. -/
theorem rate_step_ne_top (u al : EReal) : rate (soft u) al ≠ ⊤ := by
  have hd := soft_nonneg u
  unfold rate
  have ha : 0 - Ideal.exp al ≤ 0 := by
    rw [zero_sub]
    induction al with
    | bot => rw [Ideal.exp_bot, neg_zero]
    | top => rw [Ideal.exp_top]; exact bot_le
    | coe a => rw [Ideal.exp_coe, ← EReal.coe_neg]; exact EReal.coe_nonpos.mpr (by have := Real.exp_pos a; linarith)
  exact ne_top_of_le_ne_top EReal.zero_ne_top (mul_nonpos_of_nonneg_of_nonpos hd ha)

/-- A sum of numbers none of which is +∞ is not +∞. -/
theorem sum_ne_top {ι : Type} (s : Finset ι) (f : ι → EReal) (h : ∀ i ∈ s, f i ≠ ⊤) : ∑ i ∈ s, f i ≠ ⊤ :=
  Finset.sum_induction f (· ≠ ⊤) (fun _ _ => EReal.add_ne_top) EReal.zero_ne_top h

theorem acum_ne_top {v : Fin 128 → EReal} (h : ∀ k, v k ≠ ⊤) (i : Fin 128) : acum v i ≠ ⊤ :=
  sum_ne_top _ _ fun k _ => by
    by_cases hk : k ≤ i
    · rw [if_pos hk]; exact h k
    · rw [if_neg hk]; exact EReal.zero_ne_top

/-- Splitting a number that is not +∞ in three, and adding the pieces, gives it back. -/
theorem split3 {v : EReal} (h : v ≠ ⊤) : v + (v - v) + (v - v - (v - v)) = v := by
  induction v with
  | bot => rfl
  | top => exact absurd rfl h
  | coe a => rw [← EReal.coe_sub, ← EReal.coe_sub, ← EReal.coe_add, ← EReal.coe_add]; congr 1; ring

/-- The same of a sum, product by product. -/
theorem split3_sum {ι : Type} [Fintype ι] (p : ι → Prop) [DecidablePred p] (v : ι → EReal) (h : ∀ k, v k ≠ ⊤) :
    (∑ k, (if p k then v k else 0)) + (∑ k, (if p k then v k - v k else 0)) + (∑ k, (if p k then v k - v k - (v k - v k) else 0))
      = ∑ k, if p k then v k else 0 := by
  rw [← Finset.sum_add_distrib, ← Finset.sum_add_distrib]
  refine Finset.sum_congr rfl fun k _ => ?_
  by_cases hp : p k
  · rw [if_pos hp, if_pos hp, if_pos hp, split3 (h k)]
  · rw [if_neg hp, if_neg hp, if_neg hp, add_zero, add_zero]

/-! ## Equal, or both infinite -/

/-- Two numbers equal, or both infinite. -/
def Near (x y : EReal) : Prop := x = y ∨ (x = ⊤ ∨ x = ⊥) ∧ (y = ⊤ ∨ y = ⊥)

theorem Near.of_eq {x y : EReal} (h : x = y) : Near x y := Or.inl h

/-- A sum with an infinite term is infinite, -/
theorem add_infinite {x : EReal} (h : x = ⊤ ∨ x = ⊥) (y : EReal) : x + y = ⊤ ∨ x + y = ⊥ := by
  rcases h with rfl | rfl
  · induction y with
    | bot => right; rfl
    | top => left; rfl
    | coe a => left; rfl
  · right; exact EReal.bot_add y

/-- and a product with an infinite factor is zero or infinite, by the other factor. -/
theorem mul_infinite {x : EReal} (h : x = ⊤ ∨ x = ⊥) {y : EReal} (hy : y ≠ 0) : x * y = ⊤ ∨ x * y = ⊥ := by
  rcases lt_or_gt_of_ne hy with hn | hp
  · rcases h with rfl | rfl
    · right; exact EReal.top_mul_of_neg hn
    · left; exact EReal.bot_mul_of_neg hn
  · rcases h with rfl | rfl
    · left; exact EReal.top_mul_of_pos hp
    · right; exact EReal.bot_mul_of_pos hp

theorem infinite_ne_zero {x : EReal} (h : x = ⊤ ∨ x = ⊥) : x ≠ 0 := by
  rcases h with rfl | rfl
  · exact EReal.top_ne_zero
  · exact EReal.bot_ne_zero

theorem Near.add {x y u v : EReal} (h : Near x y) (k : Near u v) : Near (x + u) (y + v) := by
  rcases h with rfl | ⟨hx, hy⟩
  · rcases k with rfl | ⟨hu, hv⟩
    · exact Or.inl rfl
    · rw [add_comm x u, add_comm x v]
      exact Or.inr ⟨add_infinite hu x, add_infinite hv x⟩
  · exact Or.inr ⟨add_infinite hx u, add_infinite hy v⟩

theorem Near.mul {x y u v : EReal} (h : Near x y) (k : Near u v) : Near (x * u) (y * v) := by
  rcases h with rfl | ⟨hx, hy⟩
  · rcases k with rfl | ⟨hu, hv⟩
    · exact Or.inl rfl
    · by_cases h0 : x = 0
      · left; rw [h0, zero_mul, zero_mul]
      · rw [mul_comm x u, mul_comm x v]
        exact Or.inr ⟨mul_infinite hu h0, mul_infinite hv h0⟩
  · rcases k with rfl | ⟨hu, hv⟩
    · by_cases h0 : u = 0
      · left; rw [h0, mul_zero, mul_zero]
      · exact Or.inr ⟨mul_infinite hx h0, mul_infinite hy h0⟩
    · exact Or.inr ⟨mul_infinite hx (infinite_ne_zero hu), mul_infinite hy (infinite_ne_zero hv)⟩

theorem Near.sum {ι : Type} (s : Finset ι) (f g : ι → EReal) (h : ∀ i, Near (f i) (g i)) : Near (∑ i ∈ s, f i) (∑ i ∈ s, g i) :=
  Finset.sum_hom_rel (Near.of_eq rfl) fun i _ _ hi => (h i).add hi

/-- What a number comes to, split in three parts by subtraction. -/
def parts (v : EReal) : EReal := v + (v - v) + (v - v - (v - v))

theorem parts_near (v : EReal) : Near (parts v) v := by
  by_cases h : v = ⊤
  · subst h; right; exact ⟨Or.inr rfl, Or.inl rfl⟩
  · exact Or.inl (split3 h)

/-- Squares are not negative. -/
theorem sq_nonneg (v : EReal) : 0 ≤ v * v := by
  induction v with
  | bot => rw [EReal.bot_mul_bot]; exact le_top
  | top => rw [EReal.top_mul_top]; exact le_top
  | coe a => rw [← EReal.coe_mul]; exact EReal.coe_nonneg.mpr (mul_self_nonneg a)

/-- A sum of squares, one of them of an infinite number, is +∞. -/
theorem sum_sq_top {ι : Type} [Fintype ι] (g : ι → EReal) (x : ι) (h : g x = ⊤ ∨ g x = ⊥) : ∑ i, g i * g i = ⊤ := by
  refine top_le_iff.mp ?_
  have e : g x * g x = ⊤ := by
    rcases h with h | h <;> rw [h]
    · exact EReal.top_mul_top
    · exact EReal.bot_mul_bot
  rw [← e]
  exact Finset.single_le_sum (f := fun i => g i * g i) (fun i _ => sq_nonneg (g i)) (Finset.mem_univ x)

theorem width_eq : Ideal.ofBits FTy.f32 1157627904#32 = ((2048 : ℝ) : EReal) := by
  simp [Ideal.ofBits, Ideal.ieee]
  rw [← EReal.coe_mul]
  norm_num

theorem eps_ne : Ideal.ofBits FTy.f32 925353388#32 ≠ ⊥ := by
  simp [Ideal.ofBits, Ideal.ieee]
  rw [← EReal.coe_mul]
  exact EReal.coe_ne_bot _

/-- Of rows near each other the gated norm is the same: where a row has an infinite entry, its norm is infinite and the result zero. -/
theorem gated_near {y y' : Fin 2048 → EReal} (h : ∀ j, Near (y j) (y' j)) (z : Fin 2048 → EReal) (w : EReal) (j : Fin 2048) :
    gated y z w j = gated y' z w j := by
  have hg : ∀ x, Near (y x * silu (z x)) (y' x * silu (z x)) := fun x => (h x).mul (Near.of_eq rfl)
  unfold gated
  by_cases he : ∀ x, y x * silu (z x) = y' x * silu (z x)
  · simp only [he]
  · obtain ⟨x, hx⟩ := not_forall.mp he
    obtain ⟨h1, h2⟩ := (hg x).resolve_left hx
    have hn : Ideal.rsqrt (Ideal.div (⊤ : EReal) (Ideal.ofBits FTy.f32 1157627904#32) + Ideal.ofBits FTy.f32 925353388#32) = 0 := by
      have hd : Ideal.div (⊤ : EReal) (Ideal.ofBits FTy.f32 1157627904#32) = ⊤ := by
        rw [width_eq]
        unfold Ideal.div
        rw [if_neg (by norm_num), ← EReal.coe_inv]
        exact EReal.top_mul_coe_of_pos (by norm_num)
      rw [hd, EReal.top_add_of_ne_bot eps_ne]
      rfl
    rw [sum_sq_top (fun x => y x * silu (z x)) x h1, sum_sq_top (fun x => y' x * silu (z x)) x h2, hn, mul_zero, mul_zero]

/-- Of step sizes and a state near others, what a chunk gives and leaves is near. -/
theorem yOf_near {Z : Fin 128 → Fin 4096 → EReal} {E E' A : Fin 128 → Fin 32 → EReal} {S S' : Fin 2048 → Fin 128 → EReal} {dsk : Fin 32 → EReal}
    (hE : ∀ k h, Near (E k h) (E' k h)) (hS : ∀ j n, Near (S j n) (S' j n)) (i : Fin 128) (j : Fin 2048) : Near (yOf Z E A S dsk i j) (yOf Z E' A S' dsk i j) :=
  ((Near.sum _ _ _ fun k => (Near.of_eq rfl).mul ((Near.of_eq rfl).mul (hE k _))).add
    ((Near.sum _ _ _ fun n => (Near.of_eq rfl).mul (hS j n)).mul (Near.of_eq rfl))).add (Near.of_eq rfl)

theorem sOf_near {Z : Fin 128 → Fin 4096 → EReal} {E E' A : Fin 128 → Fin 32 → EReal} {S S' : Fin 2048 → Fin 128 → EReal}
    (hE : ∀ k h, Near (E k h) (E' k h)) (hS : ∀ j n, Near (S j n) (S' j n)) (j : Fin 2048) (n : Fin 128) : Near (sOf Z E A S j n) (sOf Z E' A S' j n) :=
  ((Near.of_eq rfl).mul (hS j n)).add (Near.sum _ _ _ fun k => (Near.of_eq rfl).mul (((Near.of_eq rfl).mul (hE k _)).mul (Near.of_eq rfl)))

theorem enter_near {Z : Fin 2048 → Fin 4096 → EReal} {E E' D : Fin 2048 → Fin 32 → EReal} {al : Fin 32 → EReal} (hE : ∀ s h, Near (E s h) (E' s h)) :
    ∀ c j n, Near (enter Z E D al c j n) (enter Z E' D al c j n)
  | 0, _, _ => Near.of_eq rfl
  | c + 1, j, n => sOf_near (fun k h => hE (rowOf c k) h) (enter_near hE c) j n

theorem outOf_near {Z : Fin 2048 → Fin 4096 → EReal} {E E' D : Fin 2048 → Fin 32 → EReal} {al dsk : Fin 32 → EReal} (hE : ∀ s h, Near (E s h) (E' s h))
    (c : ℕ) (i : Fin 128) (j : Fin 2048) : Near (outOf Z E D al dsk c i j) (outOf Z E' D al dsk c i j) :=
  yOf_near (fun k h => hE (rowOf c k) h) (enter_near hE c) i j

end Cert.Ssd

end
-- ==== Proof.SsdWords.lean ====
/- The words the SSD body computes before its passes over the heads, read at an index over the extended reals. -/
module

public import proofs.«01_k».proof.Proof.SsdBody
public import proofs.«01_k».proof.Proof.SsdSpec

@[expose] public section

set_option maxRecDepth 16384

noncomputable section

namespace Cert.KernelIdeal.Ssd

open Cert.KernelIdeal Cert.KernelIdeal.Gen Cert.Ssd
open Idealize.ShloMosaic Idealize.ShloMosaic.TcCoe Idealize.ShloMosaic.Tactic Idealize.SL.Sem

theorem dt_apply (x0 : S128x1024.Idx → EReal) (x3 : S1024x128.Idx → EReal) (x5 : S1x128.Idx → EReal) (i h : Fin 128) :
    k0_pay5 (F := Ideal) x0 x3 x5 (ix2 i h) = stepOf (fun k => x0 (ix2 i k)) (fun k => x3 (ix2 k h)) (x5 (ix2 0 h)) := by
  unfold k0_pay5 k0_pay4
  pointwise [dot_S128x1024_S1024x128_S128x128_1_0_0_1_n_n]
  exact if_neg (fun h => h rfl)

/-- The causal mask of ones, as the kernel multiplies by it. -/
def Tri (m : S128x128.Idx → EReal) : Prop := ∀ i k : Fin 128, m (ix2 i k) = if k ≤ i then 1 else 0

theorem tri_mul (c : Prop) [Decidable c] (v : EReal) : (if c then (1 : EReal) else 0) * v = if c then v else 0 := by
  by_cases h : c
  · rw [if_pos h, if_pos h, one_mul]
  · rw [if_neg h, if_neg h, zero_mul]

theorem wAcum_apply (x0 : S128x1024.Idx → EReal) (x3 : S1024x128.Idx → EReal) (x5 x7 : S1x128.Idx → EReal) (x15 : S128x128.Idx → EReal) (ht : Tri x15)
    (i h : Fin 128) (hd : ∀ k : Fin 128, rate (k0_pay5 (F := Ideal) x0 x3 x5 (ix2 k h)) (x7 (ix2 0 h)) ≠ ⊤) :
    wAcum (F := Ideal) x0 x3 x5 x7 x15 (ix2 i h) = acum (fun k => rate (k0_pay5 (F := Ideal) x0 x3 x5 (ix2 k h)) (x7 (ix2 0 h))) i := by
  unfold wAcum
  generalize k0_pay5 (F := Ideal) x0 x3 x5 = d at *
  unfold k0_pay12
  pointwise [dot_S128x128_S128x128_S128x128_1_0_0_1_n_n]
  have ht' : ∀ i k : Fin 128, x15 (ix2 i k) = if k ≤ i then 1 else 0 := ht
  simp only [ht', tri_mul]
  exact split3_sum (fun k => k ≤ i) (fun k => rate (d (ix2 k h)) (x7 (ix2 0 h))) hd

/-- Row `h` of the step sizes times rates, a head to a row. -/
theorem rateT_apply (x0 : S128x1024.Idx → EReal) (x4 : S128x1024.Idx → EReal) (x6 x8 : S128x1.Idx → EReal) (i h : Fin 128) :
    k0_pay11 (F := Ideal) (k0_pay6 (F := Ideal) x0 x4 x6) (k0_pay7 (F := Ideal) x0 x4 x6) (k0_pay8 (F := Ideal) x0 x4 x6) (k0_pay9 (F := Ideal) x0 x4 x6) (k0_pay10 (F := Ideal)) x8 (ix2 h i)
      = rate (stepOf (fun k => x0 (ix2 i k)) (fun k => x4 (ix2 h k)) (x6 (ix2 h 0))) (x8 (ix2 h 0)) := by
  unfold k0_pay11 k0_pay7 k0_pay8 k0_pay9 k0_pay10 k0_pay6 k0_pay4
  pointwise [dot_S128x1024_S128x1024_S128x128_1_1_0_0_n_n]
  rw [if_neg (fun h => h rfl)]
  unfold rate stepOf soft
  simp only [mul_comm (x4 _)]
  rfl

theorem wAcumT_apply (x0 : S128x1024.Idx → EReal) (x4 : S128x1024.Idx → EReal) (x6 x8 : S128x1.Idx → EReal) (x16 : S128x128.Idx → EReal)
    (ht : ∀ i k : Fin 128, x16 (ix2 k i) = if k ≤ i then 1 else 0) (i h : Fin 128)
    (hd : ∀ k : Fin 128, rate (stepOf (fun l => x0 (ix2 k l)) (fun l => x4 (ix2 h l)) (x6 (ix2 h 0))) (x8 (ix2 h 0)) ≠ ⊤) :
    wAcumT (F := Ideal) x0 x4 x6 x8 x16 (ix2 h i)
      = acum (fun k => rate (stepOf (fun l => x0 (ix2 k l)) (fun l => x4 (ix2 h l)) (x6 (ix2 h 0))) (x8 (ix2 h 0))) i := by
  unfold wAcumT
  unfold k0_pay17 k0_pay16 k0_pay15 k0_pay14
  have hr := fun k => rateT_apply x0 x4 x6 x8 k h
  generalize k0_pay11 (F := Ideal) (k0_pay6 (F := Ideal) x0 x4 x6) (k0_pay7 (F := Ideal) x0 x4 x6) (k0_pay8 (F := Ideal) x0 x4 x6) (k0_pay9 (F := Ideal) x0 x4 x6) (k0_pay10 (F := Ideal)) x8 = d at *
  unfold k0_pay18 k0_pay13
  pointwise [dot_S128x128_S128x128_S128x128_1_0_0_1_n_n]
  simp only [ht, hr, mul_comm _ (if _ then (1 : EReal) else 0), tri_mul]
  exact split3_sum (fun k => k ≤ i) _ hd

/-- Three copies, one under the other, of the matrix that puts head `h` on its 64 columns. -/
def OneHot (m : S384x2048.Idx → EReal) : Prop := ∀ (k : Fin 384) (j : Fin 2048), m (ix2 k j) = if k.val % 128 = j.val / 64 then 1 else 0

abbrev wide (j : Fin 2048) : Fin 128 := ⟨j.val / 64, by omega⟩

theorem pick (f : Fin 128 → EReal) (j : Fin 2048) (g : Fin 128 → EReal) (hg : ∀ k, g k = if k = wide j then 1 else 0) :
    ∑ k, f k * g k = f (wide j) := by
  refine (Finset.sum_eq_single (wide j) (fun k _ hk => ?_) (fun h => absurd (Finset.mem_univ _) h)).trans ?_
  · rw [hg, if_neg hk, mul_zero]
  · rw [hg, if_pos rfl, mul_one]

theorem sum_384 (f : Fin 384 → EReal) :
    ∑ x, f x = (∑ k : Fin 128, f ⟨k.val, by omega⟩) + (∑ k : Fin 128, f ⟨128 + k.val, by omega⟩) + ∑ k : Fin 128, f ⟨256 + k.val, by omega⟩ := by
  refine (Fin.sum_univ_add (a := 256) (b := 128) f).trans (congrArg₂ (· + ·) ?_ rfl)
  exact Fin.sum_univ_add (a := 128) (b := 128) fun x => f (Fin.castAdd 128 x)

theorem spread_sum (d : Fin 128 → EReal) (x13 : S384x2048.Idx → EReal) (hx : OneHot x13) (j : Fin 2048) (f : Fin 384 → EReal)
    (h0 : ∀ k : Fin 128, f ⟨k.val, by omega⟩ = d k) (h1 : ∀ k : Fin 128, f ⟨128 + k.val, by omega⟩ = d k - d k)
    (h2 : ∀ k : Fin 128, f ⟨256 + k.val, by omega⟩ = d k - d k - (d k - d k)) :
    ∑ x, f x * x13 (ix2 x j) = parts (d (wide j)) := by
  rw [sum_384]
  simp only [h0, h1, h2]
  rw [pick d j _ fun k => ?_, pick (fun k => d k - d k) j _ fun k => ?_, pick (fun k => d k - d k - (d k - d k)) j _ fun k => ?_]
  · rfl
  all_goals
    refine (hx _ j).trans (if_congr ⟨fun h => Fin.ext ?_, fun h => ?_⟩ rfl rfl)
    · show k.val = j.val / 64; dsimp only at h; omega
    · have := congrArg Fin.val h; dsimp only at this ⊢; omega

theorem spread20_apply (d : S128x128.Idx → EReal) (x13 : S384x2048.Idx → EReal) (hx : OneHot x13) (i : Fin 128) (j : Fin 2048) :
    k0_pay20 (F := Ideal) d x13 (ix2 i j) = parts (d (ix2 i (wide j))) := by
  unfold k0_pay20 k0_pay19
  pointwise [dot_S128x384_S384x2048_S128x2048_1_0_0_1_n_n]
  refine spread_sum (fun k => d (ix2 i k)) x13 hx j _ (fun k => ?_) (fun k => ?_) (fun k => ?_)
  · rw [dif_pos k.isLt]
  · rw [dif_neg (by dsimp only; omega), dif_pos (by dsimp only; omega)]
    have e : (⟨128 + k.val - 128, by omega⟩ : Fin 128) = k := Fin.ext (by dsimp only; omega)
    dsimp only; rw [e]
  · rw [dif_neg (by dsimp only; omega), dif_neg (by dsimp only; omega)]
    have e : (⟨256 + k.val - 128 - 128, by omega⟩ : Fin 128) = k := Fin.ext (by dsimp only; omega)
    dsimp only; rw [e]

theorem spread21_apply (d : S128x128.Idx → EReal) (x13 : S384x2048.Idx → EReal) (hx : OneHot x13) (i : Fin 128) (j : Fin 2048) (h : d (ix2 i (wide j)) ≠ ⊤) :
    k0_pay21 (F := Ideal) d x13 (ix2 i j) = d (ix2 i (wide j)) := (spread20_apply d x13 hx i j).trans (split3 h)

/-- The convolved activations. -/
theorem wXbc_apply (x2 : S128x4096.Idx → EReal) (w0 w1 w2 w3 x10 : S1x4096.Idx → EReal) (xe : S136x4096.Idx → EReal) (i : Fin 128) (j : Fin 4096) :
    wXbc (F := Ideal) x2 w0 w1 w2 w3 x10 xe (ix2 i j)
      = silu (x10 (ix2 0 j) + w3 (ix2 0 j) * x2 (ix2 i j) + w0 (ix2 0 j) * xe (ix2 ⟨5 + i.val, by omega⟩ j)
          + w1 (ix2 0 j) * xe (ix2 ⟨6 + i.val, by omega⟩ j) + w2 (ix2 0 j) * xe (ix2 ⟨7 + i.val, by omega⟩ j)) := by
  unfold wXbc k0_pay28 k0_pay25 k0_pay26 k0_pay23
  pointwise
  have e0 : (⟨(8 + i.val + 136 - 3) % 136, Nat.mod_lt _ (by omega)⟩ : Fin 136) = ⟨5 + i.val, by omega⟩ := Fin.ext (by dsimp only; omega)
  have e1 : (⟨(8 + i.val + 136 - 2) % 136, Nat.mod_lt _ (by omega)⟩ : Fin 136) = ⟨6 + i.val, by omega⟩ := Fin.ext (by dsimp only; omega)
  have e2 : (⟨(8 + i.val + 136 - 1) % 136, Nat.mod_lt _ (by omega)⟩ : Fin 136) = ⟨7 + i.val, by omega⟩ := Fin.ext (by dsimp only; omega)
  rw [e0, e1, e2]
  rfl

theorem wXs_apply (x2 : S128x4096.Idx → EReal) (w0 w1 w2 w3 x10 : S1x4096.Idx → EReal) (xe : S136x4096.Idx → EReal) (i : Fin 128) (j : Fin 2048) :
    wXs (F := Ideal) x2 w0 w1 w2 w3 x10 xe (ix2 i j) = wXbc (F := Ideal) x2 w0 w1 w2 w3 x10 xe (ix2 i (cX j)) := by
  unfold wXs k0_pay29
  show _ = k0_pay28 (F := Ideal) xe (k0_pay25 x10) (k0_pay26 x2 w3) w0 w1 w2 (ix2 i (cX j))
  pointwise
  rfl

/-- The gate and the norm. -/
theorem gate_apply (y : S128x2048.Idx → EReal) (x1 : S128x2048.Idx → EReal) (x12 : S1x2048.Idx → EReal) (i : Fin 128) (j : Fin 2048) :
    k0_pay1 (F := Ideal) (k0_pay159 y x1) (k0_pay160 y x1) x12 (ix2 i j)
      = gated (fun j => y (ix2 i j)) (fun j => x1 (ix2 i j)) (x12 (ix2 0 j)) j := by
  unfold k0_pay1 k0_pay160 k0_pay159
  pointwise
  rfl

end Cert.KernelIdeal.Ssd

end
-- ==== Proof.SsdChunk.lean ====
/- One pass of the SSD body over a pair of heads is one chunk of the recurrence: the output and the state it stores. -/
module

public import proofs.«01_k».proof.Proof.SsdWords

@[expose] public section

set_option maxRecDepth 16384

noncomputable section

namespace Cert.KernelIdeal.Ssd

open Cert.KernelIdeal Cert.KernelIdeal.Gen Cert.Ssd
open Idealize.ShloMosaic Idealize.ShloMosaic.TcCoe Idealize.ShloMosaic.Tactic Idealize.SL.Sem

/-- What the blocks of a point hold, in the terms of the layer: the step sizes `D` (with their weights the other way round too),
    the rates, the skip, the two fixed matrices. -/
structure Holds (x0 : S128x1024.Idx → EReal) (x3 : S1024x128.Idx → EReal) (x4 : S128x1024.Idx → EReal) (x5 : S1x128.Idx → EReal) (x6 : S128x1.Idx → EReal)
    (x7 : S1x128.Idx → EReal) (x8 : S128x1.Idx → EReal) (x11 : S1x2048.Idx → EReal) (x13 : S384x2048.Idx → EReal) (x15 x16 : S128x128.Idx → EReal)
    (D : Fin 128 → Fin 32 → EReal) (al dsk : Fin 32 → EReal) : Prop where
  step : ∀ (k : Fin 128) (h : Fin 32), stepOf (fun l => x0 (ix2 k l)) (fun l => x3 (ix2 l (⟨h.val, by omega⟩ : Fin 128))) (x5 (ix2 0 (⟨h.val, by omega⟩ : Fin 128))) = D k h
  stepT : ∀ (k : Fin 128) (h : Fin 32), stepOf (fun l => x0 (ix2 k l)) (fun l => x4 (ix2 (⟨h.val, by omega⟩ : Fin 128) l)) (x6 (ix2 (⟨h.val, by omega⟩ : Fin 128) 0)) = D k h
  rates : ∀ h : Fin 32, x7 (ix2 0 (⟨h.val, by omega⟩ : Fin 128)) = al h
  ratesT : ∀ h : Fin 32, x8 (ix2 (⟨h.val, by omega⟩ : Fin 128) 0) = al h
  skip : ∀ j : Fin 2048, x11 (ix2 0 j) = dsk (hd j)
  hot : OneHot x13
  tri : Tri x15
  triT : ∀ i k : Fin 128, x16 (ix2 k i) = if k ≤ i then 1 else 0

/-- The running sums of a chunk. -/
abbrev sums (D : Fin 128 → Fin 32 → EReal) (al : Fin 32 → EReal) (i : Fin 128) (h : Fin 32) : EReal := acum (fun k => rate (D k h) (al h)) i

section
variable {x0 : S128x1024.Idx → EReal} {x3 : S1024x128.Idx → EReal} {x4 : S128x1024.Idx → EReal} {x5 : S1x128.Idx → EReal} {x6 : S128x1.Idx → EReal}
  {x7 : S1x128.Idx → EReal} {x8 : S128x1.Idx → EReal} {x11 : S1x2048.Idx → EReal} {x13 : S384x2048.Idx → EReal} {x15 x16 : S128x128.Idx → EReal}
  {D : Fin 128 → Fin 32 → EReal} {al dsk : Fin 32 → EReal} (H : Holds x0 x3 x4 x5 x6 x7 x8 x11 x13 x15 x16 D al dsk)
include H

theorem Holds.dt (k : Fin 128) (h : Fin 32) : k0_pay5 (F := Ideal) x0 x3 x5 (ix2 k (⟨h.val, by omega⟩ : Fin 128)) = D k h :=
  (dt_apply x0 x3 x5 k _).trans (H.step k h)

theorem Holds.rate_ne (k : Fin 128) (h : Fin 32) : rate (D k h) (al h) ≠ ⊤ := by
  rw [← H.step k h]; exact rate_step_ne_top _ _

theorem Holds.acum (i : Fin 128) (h : Fin 32) : wAcum (F := Ideal) x0 x3 x5 x7 x15 (ix2 i (⟨h.val, by omega⟩ : Fin 128)) = sums D al i h := by
  have e : ∀ k : Fin 128, rate (k0_pay5 (F := Ideal) x0 x3 x5 (ix2 k (⟨h.val, by omega⟩ : Fin 128))) (x7 (ix2 0 (⟨h.val, by omega⟩ : Fin 128))) = rate (D k h) (al h) :=
    fun k => by rw [H.dt, H.rates]
  refine (wAcum_apply x0 x3 x5 x7 x15 H.tri i _ fun k => ?_).trans ?_
  · rw [e]; exact H.rate_ne k h
  · unfold sums; simp only [e]

theorem Holds.acumT (i : Fin 128) (h : Fin 32) : wAcumT (F := Ideal) x0 x4 x6 x8 x16 (ix2 (⟨h.val, by omega⟩ : Fin 128) i) = sums D al i h := by
  refine (wAcumT_apply x0 x4 x6 x8 x16 H.triT i _ fun k => ?_).trans ?_
  · rw [H.stepT, H.ratesT]; exact H.rate_ne k h
  · unfold sums; simp only [H.stepT, H.ratesT]

theorem Holds.dtCol (k : Fin 128) (j : Fin 2048) : k0_pay20 (F := Ideal) (k0_pay5 (F := Ideal) x0 x3 x5) x13 (ix2 k j) = parts (D k (hd j)) := by
  have e : k0_pay5 (F := Ideal) x0 x3 x5 (ix2 k (wide j)) = D k (hd j) := H.dt k (hd j)
  exact (spread20_apply _ x13 H.hot k j).trans (congrArg parts e)

theorem Holds.acumCol (k : Fin 128) (j : Fin 2048) : k0_pay21 (F := Ideal) (wAcum (F := Ideal) x0 x3 x5 x7 x15) x13 (ix2 k j) = sums D al k (hd j) := by
  have e : wAcum (F := Ideal) x0 x3 x5 x7 x15 (ix2 k (wide j)) = sums D al k (hd j) := H.acum k (hd j)
  refine (spread21_apply _ x13 H.hot k j ?_).trans e
  rw [e]
  exact acum_ne_top (fun k => H.rate_ne k (hd j)) k

theorem Holds.ea (k : Fin 128) (j : Fin 2048) : wEa (F := Ideal) x0 x3 x5 x7 x13 x15 (ix2 k j) = Ideal.exp (sums D al k (hd j)) := by
  unfold wEa k0_pay33
  pointwise
  rw [H.acumCol]

theorem Holds.dec (j : Fin 2048) : wDec (F := Ideal) x0 x3 x5 x7 x13 x15 (ix2 0 j) = Ideal.exp (sums D al 127 (hd j)) := by
  unfold wDec k0_pay34 k0_pay22
  pointwise
  exact congrArg Ideal.exp (H.acumCol 127 j)

variable {x2 : S128x4096.Idx → EReal} {w0 w1 w2 w3 x10 : S1x4096.Idx → EReal} {xe : S136x4096.Idx → EReal} {Z : Fin 128 → Fin 4096 → EReal}
  (hZ : ∀ i j, wXbc (F := Ideal) x2 w0 w1 w2 w3 x10 xe (ix2 i j) = Z i j)
include hZ

theorem Holds.xdt (k : Fin 128) (j : Fin 2048) : wXdt (F := Ideal) x0 x2 x3 x5 w0 w1 w2 w3 x10 x13 xe (ix2 k j) = Z k (cX j) * parts (D k (hd j)) := by
  have e : k0_pay29 (F := Ideal) xe (k0_pay25 (F := Ideal) x10) (k0_pay26 (F := Ideal) x2 w3) w0 w1 w2 (ix2 k j) = Z k (cX j) :=
    (wXs_apply x2 w0 w1 w2 w3 x10 xe k j).trans (hZ k (cX j))
  unfold wXdt k0_pay31 k0_pay30
  pointwise
  rw [H.dtCol, e]

theorem Holds.xw (k : Fin 128) (j : Fin 2048) :
    wXw (F := Ideal) x0 x2 x3 x5 x7 w0 w1 w2 w3 x10 x13 x15 xe (ix2 k j) = Z k (cX j) * parts (D k (hd j)) * Ideal.exp (sums D al 127 (hd j) - sums D al k (hd j)) := by
  have e : k0_pay29 (F := Ideal) xe (k0_pay25 (F := Ideal) x10) (k0_pay26 (F := Ideal) x2 w3) w0 w1 w2 (ix2 k j) = Z k (cX j) :=
    (wXs_apply x2 w0 w1 w2 w3 x10 xe k j).trans (hZ k (cX j))
  have e' : k0_pay22 (F := Ideal) (wAcum (F := Ideal) x0 x3 x5 x7 x15) x13 (ix2 0 j) = sums D al 127 (hd j) := by
    unfold k0_pay22
    pointwise
    exact H.acumCol 127 j
  unfold wXw k0_pay32 k0_pay30
  pointwise
  rw [H.dtCol, e, e', H.acumCol]

variable {S : Fin 2048 → Fin 128 → EReal} (pr : Fin 16) {st : S1x128x128.Idx → EReal} (hS : ∀ n l, st (ix3 0 n l) = S (lane pr l) n)
include hS

omit H hZ hS in
theorem head_lane (l : Fin 128) : headOf pr l = (⟨(hd (lane pr l)).val, by omega⟩ : Fin 128) :=
  Fin.ext (by show 2 * pr.val + l.val / 64 = (128 * pr.val + l.val) / 64; omega)
omit H hZ hS in
theorem colB_lane (l n : Fin 128) : colB pr n = cB (lane pr l) n :=
  Fin.ext (by show 2048 + 128 * (pr.val / 2) + n.val = 2048 + 128 * ((128 * pr.val + l.val) / 256) + n.val; omega)
omit H hZ hS in
theorem colC_lane (l n : Fin 128) : colC pr n = cC (lane pr l) n :=
  Fin.ext (by show 3072 + 128 * (pr.val / 2) + n.val = 3072 + 128 * ((128 * pr.val + l.val) / 256) + n.val; omega)

theorem Holds.y (i l : Fin 128) :
    yTile (F := Ideal) x0 x2 x3 x4 x5 x6 x7 x8 w0 w1 w2 w3 x10 x11 x13 x15 x16 xe pr st (ix2 i l) = yOf Z (fun k h => parts (D k h)) (sums D al) S dsk i (lane pr l) := by
  unfold yTile
  refine (pairY_apply pr _ _ _ _ _ _ _ st i l).trans ?_
  have eX : wXs (F := Ideal) x2 w0 w1 w2 w3 x10 xe (ix2 i (lane pr l)) = Z i (cX (lane pr l)) := (wXs_apply x2 w0 w1 w2 w3 x10 xe i _).trans (hZ _ _)
  have eD : k0_pay35 (F := Ideal) x11 (ix2 0 (lane pr l)) = dsk (hd (lane pr l)) := by
    unfold k0_pay35
    pointwise
    exact H.skip _
  rw [eX, eD, H.ea]
  simp only [head_lane, colB_lane pr l, colC_lane pr l, hZ, hS, H.xdt hZ, H.acum, H.acumT]
  rfl

theorem Holds.s (n l : Fin 128) :
    sTile (F := Ideal) x0 x2 x3 x5 x7 w0 w1 w2 w3 x10 x13 x15 xe pr st (ix3 0 n l) = sOf Z (fun k h => parts (D k h)) (sums D al) S (lane pr l) n := by
  unfold sTile
  refine (pairS_apply pr _ _ _ st n l).trans ?_
  rw [H.dec]
  simp only [colB_lane pr l, hZ, hS, H.xw hZ]
  rfl

end

end Cert.KernelIdeal.Ssd

end
-- ==== Proof.SsdWin.lean ====
/- What each staging window of the SSD call holds: the arrays as the operations before the call leave them, and the block
   each grid point reads of them. -/
module

public import proofs.«01_k».proof.Proof.SsdWords
public import proofs.«01_k».proof.Proof.SsdValue
public import Idealize.ShloMosaic.Lib.StableHlo.ReadAt

@[expose] public section

set_option maxRecDepth 16384

noncomputable section

namespace Cert.KernelIdeal.Ssd

open Cert.KernelIdeal Cert.KernelIdeal.Gen Cert.KernelIdeal.Value Cert.Ssd
open Idealize.ShloMosaic Idealize.ShloMosaic.TcCoe Idealize.ShloMosaic.Tactic Idealize.SL.Sem

variable (m : (ℓ : Loc nD τ sig) → Buf (Elt Ideal) ℓ) (c : Dev nD)

theorem V_x (r : Fin 32768) (k : Fin 1024) :
    (V m c main_v0 : S32768x1024.Idx → EReal) (ix2 r k)
      = (m ((c : Thread nD τ).loc main_arg0) : S16x2048x1024.Idx → EReal) (ix3 (⟨r.val / 2048, by omega⟩ : Fin 16) (⟨r.val % 2048, by omega⟩ : Fin 2048) k) := by
  unfold V
  after_reads_at

theorem V_w (k : Fin 1024) (h : Fin 32) :
    (V m c main_v28 : S1024x128.Idx → EReal) (ix2 k (⟨h.val, by omega⟩ : Fin 128))
      = (m ((c : Thread nD τ).loc main_arg2) : S1024x10272.Idx → EReal) (ix2 k (⟨8192 + h.val, by omega⟩ : Fin 10272)) := by
  unfold V
  after_reads_at

theorem V_wT (k : Fin 1024) (h : Fin 32) :
    (V m c main_v30 : S128x1024.Idx → EReal) (ix2 (⟨h.val, by omega⟩ : Fin 128) k)
      = (m ((c : Thread nD τ).loc main_arg2) : S1024x10272.Idx → EReal) (ix2 k (⟨8192 + h.val, by omega⟩ : Fin 10272)) := by
  unfold V
  after_reads_at

theorem V_b (h : Fin 32) :
    (V m c main_v32 : S1x128.Idx → EReal) (ix2 0 (⟨h.val, by omega⟩ : Fin 128)) = (m ((c : Thread nD τ).loc main_arg5) : S32.Idx → EReal) (ix1 h) := by
  unfold V
  after_reads_at

theorem V_bT (h : Fin 32) :
    (V m c main_v35 : S128x1.Idx → EReal) (ix2 (⟨h.val, by omega⟩ : Fin 128) 0) = (m ((c : Thread nD τ).loc main_arg5) : S32.Idx → EReal) (ix1 h) := by
  unfold V
  after_reads_at

theorem V_al (h : Fin 32) :
    (V m c main_v37 : S1x128.Idx → EReal) (ix2 0 (⟨h.val, by omega⟩ : Fin 128)) = (m ((c : Thread nD τ).loc main_arg6) : S32.Idx → EReal) (ix1 h) := by
  unfold V
  after_reads_at

theorem V_alT (h : Fin 32) :
    (V m c main_v40 : S128x1.Idx → EReal) (ix2 (⟨h.val, by omega⟩ : Fin 128) 0) = (m ((c : Thread nD τ).loc main_arg6) : S32.Idx → EReal) (ix1 h) := by
  unfold V
  after_reads_at

theorem V_cb (j : Fin 4096) : (V m c main_v41 : S1x4096.Idx → EReal) (ix2 0 j) = (m ((c : Thread nD τ).loc main_arg4) : S4096.Idx → EReal) (ix1 j) := by
  unfold V
  after_reads_at

theorem V_d (j : Fin 2048) : (V m c main_v44 : S1x2048.Idx → EReal) (ix2 0 j) = (m ((c : Thread nD τ).loc main_arg7) : S32.Idx → EReal) (ix1 (hd j)) := by
  unfold V
  after_reads_at
  rfl

theorem V_nw (j : Fin 2048) : (V m c main_v45 : S1x2048.Idx → EReal) (ix2 0 j) = (m ((c : Thread nD τ).loc main_arg8) : S2048.Idx → EReal) (ix1 j) := by
  unfold V
  after_reads_at

/-- A flag as a float. -/
theorem flag (b : Bool) : FloatOps.uitofp (F := Ideal) FTy.bf16 (BitVec.ofBool b) = if b then (1 : EReal) else 0 := by
  cases b
  · show ((((0#1).toNat : ℕ) : ℝ) : EReal) = 0
    simp
  · show ((((1#1).toNat : ℕ) : ℝ) : EReal) = 1
    simp

/-- Division rounding down, as the program computes it with a division that rounds toward zero. -/
def floorDiv (a b : BitVec 32) : BitVec 32 :=
  Scalar.select
    (IntOp.andi (IntOp.cmpi CmpIPredicate.ne (if a = 0 then 0 else if a.msb = true then -1 else 1 : BitVec 32) (if b = 0 then 0 else if b.msb = true then -1 else 1))
      (IntOp.cmpi CmpIPredicate.ne (IntOp.remsi ArithUnit.host a b) 0#32))
    (IntOp.subi (IntOp.divsi ArithUnit.host a b) 1#32) (IntOp.divsi ArithUnit.host a b)

theorem floorDiv_64 : ∀ j : Fin 2048, floorDiv (BitVec.ofNat 32 j.val) 64#32 = BitVec.ofNat 32 (j.val / 64) := by decide +kernel

theorem V_hot : OneHot (V m c main_v16 : S384x2048.Idx → EReal) := by
  intro k j
  unfold V
  after_reads_at
  show FloatOps.uitofp (F := Ideal) FTy.bf16 (IntOp.cmpi CmpIPredicate.eq (BitVec.ofNat 32 (k.val % 128)) (floorDiv (BitVec.ofNat 32 j.val) 64#32)) = _
  rw [floorDiv_64, WordCmp.cmpi_eq_ofNat (by omega) (by omega)]
  refine (flag _).trans (if_congr ?_ rfl rfl)
  exact decide_eq_true_iff

/-- The mask's flag on a row and a column. -/
theorem flag_tri (i k : Fin 128) :
    FloatOps.uitofp (F := Ideal) FTy.bf16 (Scalar.select (IntOp.cmpi CmpIPredicate.sge (IntOp.addi (BitVec.ofNat 32 i.val) 0#32) (BitVec.ofNat 32 k.val)) 1#1 0#1)
      = if k ≤ i then (1 : EReal) else 0 := by
  rw [show IntOp.addi (BitVec.ofNat 32 i.val) 0#32 = BitVec.ofNat 32 i.val from BitVec.add_zero _, causal_select]
  by_cases h : k ≤ i
  · rw [if_pos h, if_pos h]; exact flag true
  · rw [if_neg h, if_neg h]; exact flag false

theorem V_tri : Tri (V m c main_v27 : S128x128.Idx → EReal) := by
  intro i k
  unfold V
  after_reads_at
  exact flag_tri i k

theorem V_triT (i k : Fin 128) : (V m c main_v46 : S128x128.Idx → EReal) (ix2 k i) = (if k ≤ i then 1 else 0 : EReal) := by
  unfold V
  after_reads_at
  exact flag_tri i k

/-! ## The blocks a point reads -/

theorem index_rows : ∀ t : Fin cfg0.N, (win0_0.index t (0 : Fin 2) = t.val ∧ win0_0.index t (1 : Fin 2) = 0) ∧ (win0_1.index t (0 : Fin 2) = t.val ∧ win0_1.index t (1 : Fin 2) = 1)
    ∧ (win0_2.index t (0 : Fin 2) = t.val ∧ win0_2.index t (1 : Fin 2) = 1) ∧ (win0_17.index t (0 : Fin 2) = t.val ∧ win0_17.index t (1 : Fin 2) = 0) :=
  (by decide +kernel : ∀ t : Fin grid0.N, _)

theorem block_x (t : Fin cfg0.N) (i : Fin 128) (k : Fin 1024) (r : Fin 32768) (hr : r.val = t.val * 128 + i.val) :
    (iblk m c 0 t : S128x1024.Idx → EReal) (ix2 i k) = (V m c main_v0 : S32768x1024.Idx → EReal) (ix2 r k) := by
  refine congrArg (V m c main_v0) (funext fun a => Fin.ext ?_)
  obtain ⟨e0, e1⟩ := (index_rows t).1
  match a with
  | ⟨0, _⟩ => show win0_0.index t (0 : Fin 2) * 128 + 1 * i.val = r.val; omega
  | ⟨1, _⟩ => show win0_0.index t (1 : Fin 2) * 1024 + 1 * k.val = k.val; omega

theorem block_z (t : Fin cfg0.N) (i : Fin 128) (j : Fin 2048) (r : Fin 32768) (hr : r.val = t.val * 128 + i.val) :
    (iblk m c 1 t : S128x2048.Idx → EReal) (ix2 i j) = (V m c main_arg1 : S32768x10240.Idx → EReal) (ix2 r (⟨2048 + j.val, by omega⟩ : Fin 10240)) := by
  refine congrArg (V m c main_arg1) (funext fun a => Fin.ext ?_)
  obtain ⟨e0, e1⟩ := (index_rows t).2.1
  match a with
  | ⟨0, _⟩ => show win0_1.index t (0 : Fin 2) * 128 + 1 * i.val = r.val; omega
  | ⟨1, _⟩ => show win0_1.index t (1 : Fin 2) * 2048 + 1 * j.val = 2048 + j.val; omega

theorem block_xbc (t : Fin cfg0.N) (i : Fin 128) (j : Fin 4096) (r : Fin 32768) (hr : r.val = t.val * 128 + i.val) :
    (X0_2 m c t : S128x4096.Idx → EReal) (ix2 i j) = (V m c main_arg1 : S32768x10240.Idx → EReal) (ix2 r (⟨4096 + j.val, by omega⟩ : Fin 10240)) := by
  unfold X0_2 Pipeline.Window.fill
  refine (dif_pos (moved0_2 t (ix2 i j))).trans ?_
  refine congrArg (V m c main_arg1) (funext fun a => Fin.ext ?_)
  obtain ⟨e0, e1⟩ := (index_rows t).2.2.1
  match a with
  | ⟨0, _⟩ => show win0_2.index t (0 : Fin 2) * 128 + 1 * i.val = r.val; omega
  | ⟨1, _⟩ => show win0_2.index t (1 : Fin 2) * 4096 + 1 * j.val = 4096 + j.val; omega

/-- The other windows stage their arrays whole. -/
theorem index_whole : ∀ t : Fin cfg0.N, ∀ a : Fin 2, win0_3.index t a = 0 ∧ win0_4.index t a = 0 ∧ win0_5.index t a = 0 ∧ win0_6.index t a = 0 ∧ win0_7.index t a = 0
    ∧ win0_8.index t a = 0 ∧ win0_9.index t a = 0 ∧ win0_10.index t a = 0 ∧ win0_11.index t a = 0 ∧ win0_12.index t a = 0 ∧ win0_13.index t a = 0
    ∧ win0_15.index t a = 0 ∧ win0_16.index t a = 0 :=
  (by decide +kernel : ∀ t : Fin grid0.N, ∀ a : Fin 2, _)

theorem whole_at {x n v : ℕ} (h : x = 0) : x * n + 1 * v = v := by rw [h]; omega

theorem block_w (t : Fin cfg0.N) : (iblk m c 3 t : S1024x128.Idx → EReal) = (V m c main_v28 : S1024x128.Idx → EReal) := by
  funext y
  refine congrArg (V m c main_v28) (funext fun a => Fin.ext ?_)
  match a with
  | ⟨0, _⟩ => show win0_3.index t (0 : Fin 2) * 1024 + 1 * (y 0).val = (y 0).val; exact whole_at (index_whole t 0).1
  | ⟨1, _⟩ => show win0_3.index t (1 : Fin 2) * 128 + 1 * (y 1).val = (y 1).val; exact whole_at (index_whole t 1).1

theorem block_wT (t : Fin cfg0.N) : (iblk m c 4 t : S128x1024.Idx → EReal) = (V m c main_v30 : S128x1024.Idx → EReal) := by
  funext y
  refine congrArg (V m c main_v30) (funext fun a => Fin.ext ?_)
  match a with
  | ⟨0, _⟩ => show win0_4.index t (0 : Fin 2) * 128 + 1 * (y 0).val = (y 0).val; exact whole_at (index_whole t 0).2.1
  | ⟨1, _⟩ => show win0_4.index t (1 : Fin 2) * 1024 + 1 * (y 1).val = (y 1).val; exact whole_at (index_whole t 1).2.1

theorem block_b (t : Fin cfg0.N) : (iblk m c 5 t : S1x128.Idx → EReal) = (V m c main_v32 : S1x128.Idx → EReal) := by
  funext y
  refine congrArg (V m c main_v32) (funext fun a => Fin.ext ?_)
  match a with
  | ⟨0, _⟩ => show win0_5.index t (0 : Fin 2) * 1 + 1 * (y 0).val = (y 0).val; exact whole_at (index_whole t 0).2.2.1
  | ⟨1, _⟩ => show win0_5.index t (1 : Fin 2) * 128 + 1 * (y 1).val = (y 1).val; exact whole_at (index_whole t 1).2.2.1

theorem block_bT (t : Fin cfg0.N) : (iblk m c 6 t : S128x1.Idx → EReal) = (V m c main_v35 : S128x1.Idx → EReal) := by
  funext y
  refine congrArg (V m c main_v35) (funext fun a => Fin.ext ?_)
  match a with
  | ⟨0, _⟩ => show win0_6.index t (0 : Fin 2) * 128 + 1 * (y 0).val = (y 0).val; exact whole_at (index_whole t 0).2.2.2.1
  | ⟨1, _⟩ => show win0_6.index t (1 : Fin 2) * 1 + 1 * (y 1).val = (y 1).val; exact whole_at (index_whole t 1).2.2.2.1

theorem block_al (t : Fin cfg0.N) : (iblk m c 7 t : S1x128.Idx → EReal) = (V m c main_v37 : S1x128.Idx → EReal) := by
  funext y
  refine congrArg (V m c main_v37) (funext fun a => Fin.ext ?_)
  match a with
  | ⟨0, _⟩ => show win0_7.index t (0 : Fin 2) * 1 + 1 * (y 0).val = (y 0).val; exact whole_at (index_whole t 0).2.2.2.2.1
  | ⟨1, _⟩ => show win0_7.index t (1 : Fin 2) * 128 + 1 * (y 1).val = (y 1).val; exact whole_at (index_whole t 1).2.2.2.2.1

theorem block_alT (t : Fin cfg0.N) : (iblk m c 8 t : S128x1.Idx → EReal) = (V m c main_v40 : S128x1.Idx → EReal) := by
  funext y
  refine congrArg (V m c main_v40) (funext fun a => Fin.ext ?_)
  match a with
  | ⟨0, _⟩ => show win0_8.index t (0 : Fin 2) * 128 + 1 * (y 0).val = (y 0).val; exact whole_at (index_whole t 0).2.2.2.2.2.1
  | ⟨1, _⟩ => show win0_8.index t (1 : Fin 2) * 1 + 1 * (y 1).val = (y 1).val; exact whole_at (index_whole t 1).2.2.2.2.2.1

theorem block_cw (t : Fin cfg0.N) : (iblk m c 9 t : S4x4096.Idx → EReal) = (V m c main_arg3 : S4x4096.Idx → EReal) := by
  funext y
  refine congrArg (V m c main_arg3) (funext fun a => Fin.ext ?_)
  match a with
  | ⟨0, _⟩ => show win0_9.index t (0 : Fin 2) * 4 + 1 * (y 0).val = (y 0).val; exact whole_at (index_whole t 0).2.2.2.2.2.2.1
  | ⟨1, _⟩ => show win0_9.index t (1 : Fin 2) * 4096 + 1 * (y 1).val = (y 1).val; exact whole_at (index_whole t 1).2.2.2.2.2.2.1

theorem block_cb (t : Fin cfg0.N) : (iblk m c 10 t : S1x4096.Idx → EReal) = (V m c main_v41 : S1x4096.Idx → EReal) := by
  funext y
  refine congrArg (V m c main_v41) (funext fun a => Fin.ext ?_)
  match a with
  | ⟨0, _⟩ => show win0_10.index t (0 : Fin 2) * 1 + 1 * (y 0).val = (y 0).val; exact whole_at (index_whole t 0).2.2.2.2.2.2.2.1
  | ⟨1, _⟩ => show win0_10.index t (1 : Fin 2) * 4096 + 1 * (y 1).val = (y 1).val; exact whole_at (index_whole t 1).2.2.2.2.2.2.2.1

theorem block_d (t : Fin cfg0.N) : (iblk m c 11 t : S1x2048.Idx → EReal) = (V m c main_v44 : S1x2048.Idx → EReal) := by
  funext y
  refine congrArg (V m c main_v44) (funext fun a => Fin.ext ?_)
  match a with
  | ⟨0, _⟩ => show win0_11.index t (0 : Fin 2) * 1 + 1 * (y 0).val = (y 0).val; exact whole_at (index_whole t 0).2.2.2.2.2.2.2.2.1
  | ⟨1, _⟩ => show win0_11.index t (1 : Fin 2) * 2048 + 1 * (y 1).val = (y 1).val; exact whole_at (index_whole t 1).2.2.2.2.2.2.2.2.1

theorem block_nw (t : Fin cfg0.N) : (iblk m c 12 t : S1x2048.Idx → EReal) = (V m c main_v45 : S1x2048.Idx → EReal) := by
  funext y
  refine congrArg (V m c main_v45) (funext fun a => Fin.ext ?_)
  match a with
  | ⟨0, _⟩ => show win0_12.index t (0 : Fin 2) * 1 + 1 * (y 0).val = (y 0).val; exact whole_at (index_whole t 0).2.2.2.2.2.2.2.2.2.1
  | ⟨1, _⟩ => show win0_12.index t (1 : Fin 2) * 2048 + 1 * (y 1).val = (y 1).val; exact whole_at (index_whole t 1).2.2.2.2.2.2.2.2.2.1

theorem block_hot (t : Fin cfg0.N) : (iblk m c 13 t : S384x2048.Idx → EReal) = (V m c main_v16 : S384x2048.Idx → EReal) := by
  funext y
  refine congrArg (V m c main_v16) (funext fun a => Fin.ext ?_)
  match a with
  | ⟨0, _⟩ => show win0_13.index t (0 : Fin 2) * 384 + 1 * (y 0).val = (y 0).val; exact whole_at (index_whole t 0).2.2.2.2.2.2.2.2.2.2.1
  | ⟨1, _⟩ => show win0_13.index t (1 : Fin 2) * 2048 + 1 * (y 1).val = (y 1).val; exact whole_at (index_whole t 1).2.2.2.2.2.2.2.2.2.2.1

theorem block_tri (t : Fin cfg0.N) : (iblk m c 15 t : S128x128.Idx → EReal) = (V m c main_v27 : S128x128.Idx → EReal) := by
  funext y
  refine congrArg (V m c main_v27) (funext fun a => Fin.ext ?_)
  match a with
  | ⟨0, _⟩ => show win0_15.index t (0 : Fin 2) * 128 + 1 * (y 0).val = (y 0).val; exact whole_at (index_whole t 0).2.2.2.2.2.2.2.2.2.2.2.1
  | ⟨1, _⟩ => show win0_15.index t (1 : Fin 2) * 128 + 1 * (y 1).val = (y 1).val; exact whole_at (index_whole t 1).2.2.2.2.2.2.2.2.2.2.2.1

theorem block_triT (t : Fin cfg0.N) : (iblk m c 16 t : S128x128.Idx → EReal) = (V m c main_v46 : S128x128.Idx → EReal) := by
  funext y
  refine congrArg (V m c main_v46) (funext fun a => Fin.ext ?_)
  match a with
  | ⟨0, _⟩ => show win0_16.index t (0 : Fin 2) * 128 + 1 * (y 0).val = (y 0).val; exact whole_at (index_whole t 0).2.2.2.2.2.2.2.2.2.2.2.2
  | ⟨1, _⟩ => show win0_16.index t (1 : Fin 2) * 128 + 1 * (y 1).val = (y 1).val; exact whole_at (index_whole t 1).2.2.2.2.2.2.2.2.2.2.2.2

end Cert.KernelIdeal.Ssd

end
-- ==== Proof.SsdLayer.lean ====
/- The whole layer as a function of its nine arguments. -/
module

public import proofs.«01_k».proof.Proof.SsdSpec

@[expose] public section

noncomputable section

namespace Cert.Ssd

open Idealize.ShloMosaic

section
variable (x : Fin 16 → Fin 2048 → Fin 1024 → EReal) (h : Fin 32768 → Fin 10240 → EReal) (w : Fin 1024 → Fin 10272 → EReal) (cw : Fin 4 → Fin 4096 → EReal)
  (cb : Fin 4096 → EReal) (db al dsk : Fin 32 → EReal) (nw : Fin 2048 → EReal)

/-- Row `s` of sequence `b` among all rows. -/
def flat (b : Fin 16) (s : Fin 2048) : Fin 32768 := ⟨b.val * 2048 + s.val, by omega⟩

/-- The convolved activations and the step sizes of sequence `b`. -/
def convs (b : Fin 16) (s : Fin 2048) (j : Fin 4096) : EReal := conv (fun s => h (flat b s) ⟨4096 + j.val, by omega⟩) (fun k => cw k j) (cb j) s
def steps (b : Fin 16) (s : Fin 2048) (g : Fin 32) : EReal := stepOf (x b s) (fun k => w k ⟨8192 + g.val, by omega⟩) (db g)

/-- The layer's result, row `s` of sequence `b`, the rows scaled by `f` of their step sizes. -/
def layer (f : EReal → EReal) (b : Fin 16) (s : Fin 2048) (j : Fin 2048) : EReal :=
  gated (outOf (convs h cw cb b) (fun s g => f (steps x w db b s g)) (steps x w db b) al dsk (s.val / 128) ⟨s.val % 128, by omega⟩) (fun j => h (flat b s) ⟨2048 + j.val, by omega⟩) (nw j) j

/-- Splitting the step sizes in three parts changes nothing. -/
theorem layer_parts (b : Fin 16) (s : Fin 2048) (j : Fin 2048) : layer x h w cw cb db al dsk nw parts b s j = layer x h w cw cb db al dsk nw (fun v => v) b s j :=
  gated_near (fun _ => outOf_near (fun _ _ => parts_near _) _ _ _) _ _ _
end

end Cert.Ssd

end
-- ==== Proof.SsdState.lean ====
/- The SSD call's grid, point by point: what each leaves in the rows and the state carried to the next, and in its output block. -/
module

public import proofs.«01_k».proof.Proof.SsdChunk
public import proofs.«01_k».proof.Proof.SsdWin
public import proofs.«01_k».proof.Proof.SsdLayer

@[expose] public section

set_option maxRecDepth 16384

noncomputable section

namespace Cert.KernelIdeal.Ssd

open Cert.KernelIdeal Cert.KernelIdeal.Gen Cert.KernelIdeal.Value Cert.Ssd
open Idealize.ShloMosaic Idealize.ShloMosaic.TcCoe Idealize.ShloMosaic.Tactic Idealize.SL.Sem

variable (m : (ℓ : Loc nD τ sig) → Buf (Elt Ideal) ℓ) (c : Dev nD)

/-! ## The arguments -/

def aX (b : Fin 16) (s : Fin 2048) (k : Fin 1024) : EReal := (m ((c : Thread nD τ).loc main_arg0) : S16x2048x1024.Idx → EReal) (ix3 b s k)
def aH (r : Fin 32768) (j : Fin 10240) : EReal := (m ((c : Thread nD τ).loc main_arg1) : S32768x10240.Idx → EReal) (ix2 r j)
def aW (k : Fin 1024) (j : Fin 10272) : EReal := (m ((c : Thread nD τ).loc main_arg2) : S1024x10272.Idx → EReal) (ix2 k j)
def aCW (k : Fin 4) (j : Fin 4096) : EReal := (m ((c : Thread nD τ).loc main_arg3) : S4x4096.Idx → EReal) (ix2 k j)
def aCB (j : Fin 4096) : EReal := (m ((c : Thread nD τ).loc main_arg4) : S4096.Idx → EReal) (ix1 j)
def aDB (h : Fin 32) : EReal := (m ((c : Thread nD τ).loc main_arg5) : S32.Idx → EReal) (ix1 h)
def aAL (h : Fin 32) : EReal := (m ((c : Thread nD τ).loc main_arg6) : S32.Idx → EReal) (ix1 h)
def aDS (h : Fin 32) : EReal := (m ((c : Thread nD τ).loc main_arg7) : S32.Idx → EReal) (ix1 h)
def aNW (j : Fin 2048) : EReal := (m ((c : Thread nD τ).loc main_arg8) : S2048.Idx → EReal) (ix1 j)

abbrev ZZ (b : Fin 16) : Fin 2048 → Fin 4096 → EReal := convs (aH m c) (aCW m c) (aCB m c) b
abbrev DD (b : Fin 16) : Fin 2048 → Fin 32 → EReal := steps (aX m c) (aW m c) (aDB m c) b

/-- The step sizes as the kernel scales the rows by them. -/
abbrev EE (b : Fin 16) : Fin 2048 → Fin 32 → EReal := fun s h => parts (DD m c b s h)

/-- The sequence and the chunk of a point, and its rows. -/
def seqOf (t : Fin cfg0.N) : Fin 16 := ⟨t.val / 16, by have h := t.isLt; have hN : cfg0.N = 256 := N_0; omega⟩
abbrev chunkOf (t : Fin cfg0.N) : ℕ := t.val % 16

theorem flat_val (t : Fin cfg0.N) (i : Fin 128) : (flat (seqOf t) (rowOf (chunkOf t) i)).val = t.val * 128 + i.val := by
  show t.val / 16 * 2048 + (128 * (t.val % 16) + i.val) % 2048 = t.val * 128 + i.val
  omega

theorem holds (t : Fin cfg0.N) :
    Holds (iblk m c 0 t) (iblk m c 3 t) (iblk m c 4 t) (iblk m c 5 t) (iblk m c 6 t) (iblk m c 7 t) (iblk m c 8 t) (iblk m c 11 t) (iblk m c 13 t) (iblk m c 15 t) (iblk m c 16 t)
      (fun i => DD m c (seqOf t) (rowOf (chunkOf t) i)) (aAL m c) (aDS m c) where
  step k h := by
    rw [block_w, block_b, V_b]
    unfold DD steps
    congr 1
    · funext l
      refine (block_x m c t k l _ (flat_val t k)).trans ((V_x m c _ l).trans ?_)
      have h0 : (⟨(flat (seqOf t) (rowOf (chunkOf t) k)).val / 2048, by omega⟩ : Fin 16) = seqOf t :=
        Fin.ext (by show ((seqOf t).val * 2048 + (rowOf (chunkOf t) k).val) / 2048 = (seqOf t).val; omega)
      have h1 : (⟨(flat (seqOf t) (rowOf (chunkOf t) k)).val % 2048, by omega⟩ : Fin 2048) = rowOf (chunkOf t) k :=
        Fin.ext (by show ((seqOf t).val * 2048 + (rowOf (chunkOf t) k).val) % 2048 = (rowOf (chunkOf t) k).val; omega)
      rw [h0, h1]; rfl
    · funext l; exact V_w m c l h
  stepT k h := by
    rw [block_wT, block_bT, V_bT]
    unfold DD steps
    congr 1
    · funext l
      refine (block_x m c t k l _ (flat_val t k)).trans ((V_x m c _ l).trans ?_)
      have h0 : (⟨(flat (seqOf t) (rowOf (chunkOf t) k)).val / 2048, by omega⟩ : Fin 16) = seqOf t :=
        Fin.ext (by show ((seqOf t).val * 2048 + (rowOf (chunkOf t) k).val) / 2048 = (seqOf t).val; omega)
      have h1 : (⟨(flat (seqOf t) (rowOf (chunkOf t) k)).val % 2048, by omega⟩ : Fin 2048) = rowOf (chunkOf t) k :=
        Fin.ext (by show ((seqOf t).val * 2048 + (rowOf (chunkOf t) k).val) % 2048 = (rowOf (chunkOf t) k).val; omega)
      rw [h0, h1]; rfl
    · funext l; exact V_wT m c l h
  rates h := by rw [block_al]; exact V_al m c h
  ratesT h := by rw [block_alT]; exact V_alT m c h
  skip j := by rw [block_d]; exact V_d m c j
  hot := by rw [block_hot]; exact V_hot m c
  tri := by rw [block_tri]; exact V_tri m c
  triT := by rw [block_triT]; exact V_triT m c

/-- The raw rows of a sequence, one column of them. -/
def raw (b : Fin 16) (j : Fin 4096) (s : Fin 2048) : EReal := aH m c (flat b s) ⟨4096 + j.val, by omega⟩

theorem x2_apply (t : Fin cfg0.N) (i : Fin 128) (j : Fin 4096) : (X0_2 m c t : S128x4096.Idx → EReal) (ix2 i j) = raw m c (seqOf t) j (rowOf (chunkOf t) i) :=
  (block_xbc m c t i j _ (flat_val t i)).trans (congrFun (V_main_arg1 m c) _)

/-- What the rows before chunk `k` of sequence `b` hold, and the state entering it. -/
def Prev (b : Fin 16) (k : ℕ) (xs0 : S136x4096.Idx → EReal) : Prop :=
  ∀ (q : Fin 136), q.val < 8 → ∀ j, xs0 (ix2 q j) = if 8 ≤ 128 * k + q.val then raw m c b j ⟨(128 * k + q.val - 8) % 2048, by omega⟩ else 0
def Enters (b : Fin 16) (k : ℕ) (xs1 : S16x128x128.Idx → EReal) : Prop :=
  ∀ pr (n l : Fin 128), xs1 (ix3 pr n l) = enter (ZZ m c b) (EE m c b) (DD m c b) (aAL m c) k (lane pr l) n

theorem zero_word : (Scalar.ofBits (F := Ideal) .f32 0x00000000#32 : EReal) = 0 := by
  show Ideal.ofBits .f32 0x00000000#32 = 0
  pointwise

theorem prev_none (b : Fin 16) : Prev m c b 0 (noRows (F := Ideal)) := by
  intro q hq j
  rw [if_neg (by omega)]
  exact zero_word

theorem enters_none (b : Fin 16) : Enters m c b 0 (noState (F := Ideal)) := fun _ _ _ => zero_word

/-- The row `r` before row `i` of a chunk. -/
theorem extend_back (t : Fin cfg0.N) (xs0 : S136x4096.Idx → EReal) (h : Prev m c (seqOf t) (chunkOf t) xs0) (r : ℕ) (hr : r ≤ 3) (i : Fin 128) (j : Fin 4096) (q : Fin 136) (hq : q.val = 8 - r + i.val) :
    extend (F := Ideal) xs0 (X0_2 m c t) (ix2 q j) = back (raw m c (seqOf t) j) (rowOf (chunkOf t) i) r := by
  have hk : chunkOf t < 16 := Nat.mod_lt _ (by omega)
  unfold extend back
  have hs : (rowOf (chunkOf t) i).val = 128 * chunkOf t + i.val := Nat.mod_eq_of_lt (by omega)
  by_cases h8 : 8 ≤ q.val
  · refine (dif_pos h8).trans ?_
    rw [if_pos (by omega)]
    refine Eq.trans ?_ ((x2_apply m c t (⟨q.val - 8, by omega⟩ : Fin 128) j).trans (congrArg (raw m c (seqOf t) j) (Fin.ext ?_)))
    · unfold k0_pay24 k0_pay23
      pointwise
    · show (128 * chunkOf t + (q.val - 8)) % 2048 = (rowOf (chunkOf t) i).val - r
      omega
  · refine (dif_neg h8).trans ((h q (by omega) j).trans ?_)
    by_cases hb : r ≤ (rowOf (chunkOf t) i).val
    · rw [if_pos hb, if_pos (by omega)]
      refine congrArg (raw m c (seqOf t) j) (Fin.ext ?_)
      show (128 * chunkOf t + q.val - 8) % 2048 = (rowOf (chunkOf t) i).val - r
      omega
    · rw [if_neg hb, if_neg (by omega)]

/-- A tap of the convolution. -/
theorem tap (x9 : S4x4096.Idx → EReal) (k : ℕ) (hk : k < 4) (inb : ∀ a, (![k, 0] : Fin 2 → Nat) a + (![1, 4096] : Fin 2 → Nat) a ≤ S4x4096.size a) (j : Fin 4096) :
    View.ld (Val := Elt Ideal) (e' := .f32) x9 (Rect.unit (s := S4x4096) ![k, 0] ![1, 4096] inb) (ix2 (0 : Fin 1) j) = x9 (ix2 (⟨k, hk⟩ : Fin 4) j) :=
  congrArg x9 (funext fun a => match a with
    | ⟨0, _⟩ => Fin.ext (by show k + 1 * 0 = k; omega)
    | ⟨1, _⟩ => Fin.ext (by show 0 + 1 * j.val = j.val; omega))

theorem tap_arg (t : Fin cfg0.N) (k : Fin 4) (j : Fin 4096) : (iblk m c 9 t : S4x4096.Idx → EReal) (ix2 k j) = aCW m c k j := by
  rw [block_cw]; exact congrFun (V_main_arg3 m c) _

theorem chunk_conv (t : Fin cfg0.N) (xs0 : S136x4096.Idx → EReal) (h : Prev m c (seqOf t) (chunkOf t) xs0) (i : Fin 128) (j : Fin 4096) :
    wXbc (F := Ideal) (X0_2 m c t) (View.ld (Val := Elt Ideal) (e' := .f32) (iblk m c 9 t) (Rect.unit (s := S4x4096) ![0, 0] ![1, 4096] inb_S4x4096_S1x4096_0_0)) (View.ld (Val := Elt Ideal) (e' := .f32) (iblk m c 9 t) (Rect.unit (s := S4x4096) ![1, 0] ![1, 4096] inb_S4x4096_S1x4096_1_0)) (View.ld (Val := Elt Ideal) (e' := .f32) (iblk m c 9 t) (Rect.unit (s := S4x4096) ![2, 0] ![1, 4096] inb_S4x4096_S1x4096_2_0)) (View.ld (Val := Elt Ideal) (e' := .f32) (iblk m c 9 t) (Rect.unit (s := S4x4096) ![3, 0] ![1, 4096] inb_S4x4096_S1x4096_3_0)) (iblk m c 10 t) (extend (F := Ideal) xs0 (X0_2 m c t)) (ix2 i j)
      = ZZ m c (seqOf t) (rowOf (chunkOf t) i) j := by
  refine (wXbc_apply _ _ _ _ _ _ _ i j).trans ?_
  rw [extend_back m c t xs0 h 3 (by omega) i j _ rfl, extend_back m c t xs0 h 2 (by omega) i j _ rfl, extend_back m c t xs0 h 1 (by omega) i j _ rfl, x2_apply,
    (tap (iblk m c 9 t) 0 (by omega) inb_S4x4096_S1x4096_0_0 j).trans (tap_arg m c t 0 j), (tap (iblk m c 9 t) 1 (by omega) inb_S4x4096_S1x4096_1_0 j).trans (tap_arg m c t 1 j),
    (tap (iblk m c 9 t) 2 (by omega) inb_S4x4096_S1x4096_2_0 j).trans (tap_arg m c t 2 j), (tap (iblk m c 9 t) 3 (by omega) inb_S4x4096_S1x4096_3_0 j).trans (tap_arg m c t 3 j), block_cb, V_cb]
  rfl

/-- The rows a point carries on. -/
theorem carried_prev (t : Fin cfg0.N) : Prev m c (seqOf t) (chunkOf t + 1) (carried (F := Ideal) (X0_2 m c t)) := by
  intro q hq j
  have hk : chunkOf t < 16 := Nat.mod_lt _ (by omega)
  unfold carried
  refine (dif_neg (show ¬ 8 ≤ q.val by omega)).trans ?_
  rw [if_pos (by omega)]
  refine Eq.trans ?_ ((x2_apply m c t (⟨120 + q.val, by omega⟩ : Fin 128) j).trans (congrArg (raw m c (seqOf t) j) (Fin.ext ?_)))
  · unfold k0_pay24 k0_pay23
    pointwise
  · show (128 * chunkOf t + (120 + q.val)) % 2048 = (128 * (chunkOf t + 1) + q.val - 8) % 2048
    omega

/-- The state a point carries on. -/
theorem state_enters (t : Fin cfg0.N) (xs0 : S136x4096.Idx → EReal) (xs1 : S16x128x128.Idx → EReal)
    (h0 : Prev m c (seqOf t) (chunkOf t) xs0) (h1 : Enters m c (seqOf t) (chunkOf t) xs1) :
    Enters m c (seqOf t) (chunkOf t + 1) (ofSlabs (F := Ideal) fun pr => sTile (F := Ideal) (iblk m c 0 t) (X0_2 m c t) (iblk m c 3 t) (iblk m c 5 t) (iblk m c 7 t) (View.ld (Val := Elt Ideal) (e' := .f32) (iblk m c 9 t) (Rect.unit (s := S4x4096) ![0, 0] ![1, 4096] inb_S4x4096_S1x4096_0_0)) (View.ld (Val := Elt Ideal) (e' := .f32) (iblk m c 9 t) (Rect.unit (s := S4x4096) ![1, 0] ![1, 4096] inb_S4x4096_S1x4096_1_0)) (View.ld (Val := Elt Ideal) (e' := .f32) (iblk m c 9 t) (Rect.unit (s := S4x4096) ![2, 0] ![1, 4096] inb_S4x4096_S1x4096_2_0)) (View.ld (Val := Elt Ideal) (e' := .f32) (iblk m c 9 t) (Rect.unit (s := S4x4096) ![3, 0] ![1, 4096] inb_S4x4096_S1x4096_3_0))
      (iblk m c 10 t) (iblk m c 13 t) (iblk m c 15 t) (extend (F := Ideal) xs0 (X0_2 m c t)) pr (slab (F := Ideal) xs1 pr)) :=
  fun pr n l => (holds m c t).s (chunk_conv m c t xs0 h0) pr (fun n l => h1 pr n l) n l

/-- A point's output before the gate. -/
theorem point_y (t : Fin cfg0.N) (xs0 : S136x4096.Idx → EReal) (xs1 : S16x128x128.Idx → EReal)
    (h0 : Prev m c (seqOf t) (chunkOf t) xs0) (h1 : Enters m c (seqOf t) (chunkOf t) xs1) (i : Fin 128) (j : Fin 2048) :
    ofCols (F := Ideal) (fun pr => yTile (F := Ideal) (iblk m c 0 t) (X0_2 m c t) (iblk m c 3 t) (iblk m c 4 t) (iblk m c 5 t) (iblk m c 6 t) (iblk m c 7 t) (iblk m c 8 t) (View.ld (Val := Elt Ideal) (e' := .f32) (iblk m c 9 t) (Rect.unit (s := S4x4096) ![0, 0] ![1, 4096] inb_S4x4096_S1x4096_0_0)) (View.ld (Val := Elt Ideal) (e' := .f32) (iblk m c 9 t) (Rect.unit (s := S4x4096) ![1, 0] ![1, 4096] inb_S4x4096_S1x4096_1_0)) (View.ld (Val := Elt Ideal) (e' := .f32) (iblk m c 9 t) (Rect.unit (s := S4x4096) ![2, 0] ![1, 4096] inb_S4x4096_S1x4096_2_0)) (View.ld (Val := Elt Ideal) (e' := .f32) (iblk m c 9 t) (Rect.unit (s := S4x4096) ![3, 0] ![1, 4096] inb_S4x4096_S1x4096_3_0))
      (iblk m c 10 t) (iblk m c 11 t) (iblk m c 13 t) (iblk m c 15 t) (iblk m c 16 t) (extend (F := Ideal) xs0 (X0_2 m c t)) pr (slab (F := Ideal) xs1 pr)) (ix2 i j)
      = outOf (ZZ m c (seqOf t)) (EE m c (seqOf t)) (DD m c (seqOf t)) (aAL m c) (aDS m c) (chunkOf t) i j := by
  have hj : lane ⟨j.val / 128, by omega⟩ ⟨j.val % 128, by omega⟩ = j := Fin.ext (by show 128 * (j.val / 128) + j.val % 128 = j.val; omega)
  refine Eq.trans ?_ (((holds m c t).y (S := enter (ZZ m c (seqOf t)) (EE m c (seqOf t)) (DD m c (seqOf t)) (aAL m c) (chunkOf t)) (st := slab (F := Ideal) xs1 ⟨j.val / 128, by omega⟩) (chunk_conv m c t xs0 h0) ⟨j.val / 128, by omega⟩ (fun n l => h1 ⟨j.val / 128, by omega⟩ n l) i ⟨j.val % 128, by omega⟩).trans ?_)
  · rfl
  · rw [hj]; rfl

/-- A point's output block. -/
theorem point_out (t : Fin cfg0.N) (xs0 : S136x4096.Idx → EReal) (xs1 : S16x128x128.Idx → EReal)
    (h0 : Prev m c (seqOf t) (chunkOf t) xs0) (h1 : Enters m c (seqOf t) (chunkOf t) xs1) (i : Fin 128) (j : Fin 2048) (Y : S128x2048.Idx → EReal)
    (hY : Y = ofCols (F := Ideal) (fun pr => yTile (F := Ideal) (iblk m c 0 t) (X0_2 m c t) (iblk m c 3 t) (iblk m c 4 t) (iblk m c 5 t) (iblk m c 6 t) (iblk m c 7 t) (iblk m c 8 t) (View.ld (Val := Elt Ideal) (e' := .f32) (iblk m c 9 t) (Rect.unit (s := S4x4096) ![0, 0] ![1, 4096] inb_S4x4096_S1x4096_0_0)) (View.ld (Val := Elt Ideal) (e' := .f32) (iblk m c 9 t) (Rect.unit (s := S4x4096) ![1, 0] ![1, 4096] inb_S4x4096_S1x4096_1_0)) (View.ld (Val := Elt Ideal) (e' := .f32) (iblk m c 9 t) (Rect.unit (s := S4x4096) ![2, 0] ![1, 4096] inb_S4x4096_S1x4096_2_0)) (View.ld (Val := Elt Ideal) (e' := .f32) (iblk m c 9 t) (Rect.unit (s := S4x4096) ![3, 0] ![1, 4096] inb_S4x4096_S1x4096_3_0))
      (iblk m c 10 t) (iblk m c 11 t) (iblk m c 13 t) (iblk m c 15 t) (iblk m c 16 t) (extend (F := Ideal) xs0 (X0_2 m c t)) pr (slab (F := Ideal) xs1 pr))) :
    k0_pay1 (F := Ideal) (k0_pay159 (F := Ideal) Y (iblk m c 1 t)) (k0_pay160 (F := Ideal) Y (iblk m c 1 t)) (iblk m c 12 t) (ix2 i j)
      = layer (aX m c) (aH m c) (aW m c) (aCW m c) (aCB m c) (aDB m c) (aAL m c) (aDS m c) (aNW m c) parts (seqOf t) (rowOf (chunkOf t) i) j := by
  have hk : chunkOf t < 16 := Nat.mod_lt _ (by omega)
  have hs : (rowOf (chunkOf t) i).val = 128 * chunkOf t + i.val := Nat.mod_eq_of_lt (by omega)
  have hz : ∀ j, (iblk m c 1 t : S128x2048.Idx → EReal) (ix2 i j) = aH m c (flat (seqOf t) (rowOf (chunkOf t) i)) ⟨2048 + j.val, by omega⟩ :=
    fun j => (block_z m c t i j _ (flat_val t i)).trans (congrFun (V_main_arg1 m c) _)
  have hc : (rowOf (chunkOf t) i).val / 128 = chunkOf t := by omega
  have hi : (⟨(rowOf (chunkOf t) i).val % 128, by omega⟩ : Fin 128) = i := Fin.ext (by dsimp only; omega)
  refine (gate_apply Y _ _ i j).trans ?_
  unfold layer
  rw [hc, hi, block_nw, V_nw, funext hz, funext fun j => (congrFun hY (ix2 i j)).trans (point_y m c t xs0 xs1 h0 h1 i j)]
  rfl

/-! ## All points -/

/-- After point `t`: its output block, and what it carries on. -/
def After (t : Fin cfg0.N) : Prop :=
  (∀ (i : Fin 128) (j : Fin 2048), ((outsAt0 m c t.val t.isLt).1 : S128x2048.Idx → EReal) (ix2 i j)
      = layer (aX m c) (aH m c) (aW m c) (aCW m c) (aCB m c) (aDB m c) (aAL m c) (aDS m c) (aNW m c) parts (seqOf t) (rowOf (chunkOf t) i) j)
    ∧ Prev m c (seqOf t) (chunkOf t + 1) (outsAt0 m c t.val t.isLt).2.1 ∧ Enters m c (seqOf t) (chunkOf t + 1) (outsAt0 m c t.val t.isLt).2.2

/-- The first chunk of a sequence; -/
theorem after_first (t : Fin cfg0.N) (h : t.val % 16 = 0) : After m c t := by
  have h0 : Prev m c (seqOf t) (chunkOf t) (noRows (F := Ideal)) := by rw [show chunkOf t = 0 from h]; exact prev_none m c _
  have h1 : Enters m c (seqOf t) (chunkOf t) (noState (F := Ideal)) := by rw [show chunkOf t = 0 from h]; exact enters_none m c _
  unfold After
  rw [outsAt0_A m c t h]
  dsimp only
  rw [out_A, carry_A, state_A]
  exact ⟨fun i j => point_out m c t _ _ h0 h1 i j _ rfl, carried_prev m c t, state_enters m c t _ _ h0 h1⟩

/-- a later one, after the point before. -/
theorem after_next (t : Fin cfg0.N) (h : ¬ t.val % 16 = 0)
    (h0 : Prev m c (seqOf t) (chunkOf t) (outsAt0 m c (t.val - 1) (Nat.lt_of_le_of_lt (Nat.sub_le _ _) t.isLt)).2.1)
    (h1 : Enters m c (seqOf t) (chunkOf t) (outsAt0 m c (t.val - 1) (Nat.lt_of_le_of_lt (Nat.sub_le _ _) t.isLt)).2.2) : After m c t := by
  unfold After
  rw [outsAt0_B m c t h]
  dsimp only
  rw [out_B, carry_B, state_B]
  exact ⟨fun i j => point_out m c t _ _ h0 h1 i j _ rfl, carried_prev m c t, state_enters m c t _ _ h0 h1⟩

theorem after_all : ∀ (n : ℕ) (hn : n < cfg0.N), After m c ⟨n, hn⟩
  | 0, hn => after_first m c ⟨0, hn⟩ rfl
  | n + 1, hn => by
    by_cases h : (n + 1) % 16 = 0
    · exact after_first m c ⟨n + 1, hn⟩ h
    · have ih := after_all n (Nat.lt_of_succ_lt hn)
      have hb : seqOf ⟨n + 1, hn⟩ = seqOf ⟨n, Nat.lt_of_succ_lt hn⟩ := Fin.ext (by show (n + 1) / 16 = n / 16; omega)
      have hk : chunkOf ⟨n + 1, hn⟩ = chunkOf ⟨n, Nat.lt_of_succ_lt hn⟩ + 1 := by show (n + 1) % 16 = n % 16 + 1; omega
      refine after_next m c ⟨n + 1, hn⟩ h ?_ ?_
      · rw [hb, hk]; exact ih.2.1
      · rw [hb, hk]; exact ih.2.2

end Cert.KernelIdeal.Ssd

end
-- ==== Proof.SsdRef.lean ====
/- The SSD reference, read off its operations one index at a time. -/
module

public import proofs.«01_k».proof.Proof.SsdPair
public import proofs.«01_k».proof.Proof.SsdLayer
public import proofs.«01_k».proof.Proof.Gen.ReferenceIdeal.Read

@[expose] public section

set_option maxRecDepth 16384

noncomputable section

namespace Cert.ReferenceIdeal.Ssd

open Cert.ReferenceIdeal Cert.ReferenceIdeal.Gen Cert.ReferenceIdeal.Read Cert.Ssd
open Idealize.ShloMosaic Idealize.ShloMosaic.TcCoe Idealize.ShloMosaic.Tactic Idealize.SL.Sem

section
variable (x0 : S16x2048x1024.Idx → EReal) (x1 : S32768x10240.Idx → EReal) (x2 : S1024x10272.Idx → EReal) (x3 : S4x4096.Idx → EReal)
  (x4 : S4096.Idx → EReal) (x5 x6 x7 : S32.Idx → EReal) (x8 : S2048.Idx → EReal)

/-- The convolved activations and the step sizes of these arguments. -/
abbrev ZZ (b : Fin 16) : Fin 2048 → Fin 4096 → EReal := convs (fun r j => x1 (ix2 r j)) (fun k j => x3 (ix2 k j)) (fun j => x4 (ix1 j)) b
abbrev DD (b : Fin 16) : Fin 2048 → Fin 32 → EReal := steps (fun b s k => x0 (ix3 b s k)) (fun k j => x2 (ix2 k j)) (fun h => x5 (ix1 h)) b

/-- A head's columns, and the head. -/
def col (g : Fin 8) (r : Fin 4) (p : Fin 64) : Fin 2048 := ⟨g.val * 256 + r.val * 64 + p.val, by omega⟩
def hdOf (g : Fin 8) (r : Fin 4) : Fin 32 := ⟨g.val * 4 + r.val, by omega⟩

theorem hd_col (g : Fin 8) (r : Fin 4) (p : Fin 64) : hd (col g r p) = hdOf g r :=
  Fin.ext (by show (g.val * 256 + r.val * 64 + p.val) / 64 = g.val * 4 + r.val; omega)
theorem cB_col (g : Fin 8) (r : Fin 4) (p : Fin 64) (n : Fin 128) : cB (col g r p) n = ⟨2048 + (g.val * 128 + n.val), by omega⟩ :=
  Fin.ext (by show 2048 + 128 * ((g.val * 256 + r.val * 64 + p.val) / 256) + n.val = 2048 + (g.val * 128 + n.val); omega)
theorem cC_col (g : Fin 8) (r : Fin 4) (p : Fin 64) (n : Fin 128) : cC (col g r p) n = ⟨3072 + (g.val * 128 + n.val), by omega⟩ :=
  Fin.ext (by show 3072 + 128 * ((g.val * 256 + r.val * 64 + p.val) / 256) + n.val = 3072 + (g.val * 128 + n.val); omega)
theorem row_eq (c : Fin 16) (i : Fin 128) : (⟨c.val * 128 + i.val, by omega⟩ : Fin 2048) = rowOf c.val i :=
  Fin.ext (by show c.val * 128 + i.val = (128 * c.val + i.val) % 2048; omega)

/-! ## The convolution and the step sizes -/

/-- The padded rows: three of zeros, then the sequence. -/
theorem ref_pad (b : Fin 16) (q : Fin 2051) (s : Fin 2048) (r : ℕ) (hr : r ≤ 3) (hq : q.val = s.val + 3 - r) (j : Fin 4096) :
    val_main_v7 (F := Ideal) x1 (ix3 b q j) = back (fun s => x1 (ix2 (flat b s) ⟨4096 + j.val, by omega⟩)) s r := by
  unfold val_main_v7 val_main_v6 val_main_v3 val_main_v1 val_main_v0 val_main_cst back
  pointwise
  by_cases h : q.val < 3
  · rw [dif_pos h, if_neg (by omega)]
  · refine (dif_neg h).trans (Eq.trans ?_ (if_pos (show r ≤ s.val by omega)).symm)
    exact congrArg (fun a => x1 (ix2 a _)) (Fin.ext (by show b.val * 2048 + (q.val - 3) = b.val * 2048 + (s.val - r); omega))

theorem ref_conv (b : Fin 16) (s : Fin 2048) (j : Fin 4096) : val_main_v40 (F := Ideal) x1 x3 x4 (ix3 b s j) = ZZ x1 x3 x4 b s j := by
  unfold val_main_v40 val_main_call0_v5 val_main_call0_v4 val_main_call0_cst_0 val_main_call0_v3 val_main_call0_v2 val_main_call0_cst val_main_call0_v1 val_main_call0_v0 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_cst_0
  pointwise
  rw [ref_pad x1 b _ s 3 (by omega) (by dsimp only; omega), ref_pad x1 b _ s 2 (by omega) (by dsimp only; omega), ref_pad x1 b _ s 1 (by omega) (by dsimp only; omega), ref_pad x1 b _ s 0 (by omega) (by dsimp only; omega)]
  have h0 : back (fun s => x1 (ix2 (flat b s) ⟨4096 + j.val, by omega⟩)) s 0 = x1 (ix2 (flat b s) ⟨4096 + j.val, by omega⟩) := rfl
  rw [h0]
  have e : ∀ p q r t u : EReal, p + q + r + t + u = u + t + p + q + r := fun p q r t u => by
    rw [add_comm _ u, add_comm _ t, ← add_assoc, ← add_assoc, ← add_assoc]
  rw [e]
  rfl

theorem ref_step (b : Fin 16) (s : Fin 2048) (g : Fin 32) : val_main_v50 (F := Ideal) x0 x2 x5 (ix3 b s g) = DD x0 x2 x5 b s g := by
  unfold val_main_v50 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_cst val_main_v49 val_main_v48 val_main_v47 val_main_v5 val_main_v4
  pointwise [Cert.ReferenceIdeal.dot_S16x2048x1024_S1024x32_S16x2048x32_2_0_01_1_n_n]
  rw [if_neg (not_not_intro rfl), ← zero_sub (FloatOps.absf (F := Ideal) _)]
  rfl

/-! ## Reshapes into chunks and heads -/

theorem ref_x (b c : Fin 16) (i : Fin 128) (g : Fin 8) (r : Fin 4) (p : Fin 64) :
    val_main_v44 (F := Ideal) x1 x3 x4 (ix6 b c i g r p) = ZZ x1 x3 x4 b (rowOf c.val i) (cX (col g r p)) := by
  unfold val_main_v44 val_main_v41
  pointwise
  rw [row_eq, ref_conv]
  rfl

theorem ref_B (b c : Fin 16) (i : Fin 128) (g : Fin 8) (n : Fin 128) (r : Fin 4) (p : Fin 64) :
    val_main_v45 (F := Ideal) x1 x3 x4 (ix5 b c i g n) = ZZ x1 x3 x4 b (rowOf c.val i) (cB (col g r p) n) := by
  unfold val_main_v45 val_main_v42
  pointwise
  rw [row_eq, ref_conv, cB_col]

theorem ref_C (b c : Fin 16) (i : Fin 128) (g : Fin 8) (n : Fin 128) (r : Fin 4) (p : Fin 64) :
    val_main_v46 (F := Ideal) x1 x3 x4 (ix5 b c i g n) = ZZ x1 x3 x4 b (rowOf c.val i) (cC (col g r p) n) := by
  unfold val_main_v46 val_main_v43
  pointwise
  rw [row_eq, ref_conv, cC_col]

theorem ref_dt (b c : Fin 16) (i : Fin 128) (g : Fin 8) (r : Fin 4) :
    val_main_v51 (F := Ideal) x0 x2 x5 (ix5 b c i g r) = DD x0 x2 x5 b (rowOf c.val i) (hdOf g r) := by
  unfold val_main_v51
  pointwise
  rw [row_eq, ref_step]
  rfl

theorem ref_rate (b c : Fin 16) (i : Fin 128) (g : Fin 8) (r : Fin 4) :
    val_main_v57 (F := Ideal) x0 x2 x5 x6 (ix5 b c i g r) = rate (DD x0 x2 x5 b (rowOf c.val i) (hdOf g r)) (x6 (ix1 (hdOf g r))) := by
  unfold val_main_v57 val_main_v56 val_main_v55 val_main_v54 val_main_v53 val_main_v52
  pointwise
  rw [ref_dt, ← zero_sub (Ideal.exp _)]
  rfl

/-! ## The running sums -/

/-- A fold of additions is a sum. -/
theorem fold_sum {N : ℕ} (f : Fin N → EReal) : (List.finRange N).foldl (fun r n => r + f n) 0 = ∑ n, f n := by
  rw [Fin.sum_univ_def, List.sum_eq_foldl, List.foldl_map]

/-- The positions of the window are the rows of a chunk. -/
def windowPos : Fin 128 ≃ Shape.Idx (⟨5, ![1, 1, 128, 1, 1]⟩ : Shape) where
  toFun k := ix5 (0 : Fin 1) (0 : Fin 1) k (0 : Fin 1) (0 : Fin 1)
  invFun w := w 2
  left_inv _ := rfl
  right_inv w := by
    rw [eq_ix5 w]
    have h : ∀ a b : Fin 1, a = b := fun a b => Subsingleton.elim a b
    rw [h (w 0) 0, h (w 1) 0, h (w 3) 0, h (w 4) 0]
    rfl

/-- One term of the fold at a row: the row the window position names, if it is one. -/
theorem running (y : S16x16x128x8x4.Idx → EReal) (b c : Fin 16) (i : Fin 128) (g : Fin 8) (r : Fin 4)
    {h : S16x16x128x8x4.ReduceWindows ![1, 1, 128, 1, 1] ![1, 1, 1, 1, 1] ![0, 0, 127, 0, 0] ![0, 0, 0, 0, 0] S16x16x128x8x4} {hu : 0 < (⟨0, ![]⟩ : Shape).numel} :
    Host.reduceWindow (fun u v : EReal => u + v) ![1, 1, 128, 1, 1] ![1, 1, 1, 1, 1] ![0, 0, 127, 0, 0] ![0, 0, 0, 0, 0] y (fun _ : (⟨0, ![]⟩ : Shape).Idx => 0) h hu (ix5 b c i g r)
      = ∑ k : Fin 128, if k ≤ i then y (ix5 b c k g r) else 0 := by
  unfold Host.reduceWindow
  refine (fold_sum _).trans ?_
  rw [← (Shape.rowMajor (⟨5, ![1, 1, 128, 1, 1]⟩ : Shape)).sum_comp, ← windowPos.sum_comp, ← Equiv.sum_comp (Equiv.addRight (⟨127 - i.val, by omega⟩ : Fin 128))]
  refine Finset.sum_congr rfl fun k _ => ?_
  have hv : (Equiv.addRight (⟨127 - i.val, by omega⟩ : Fin 128) k).val = (k.val + (127 - i.val)) % 128 := Fin.val_add _ _
  generalize Equiv.addRight (⟨127 - i.val, by omega⟩ : Fin 128) k = w at hv
  simp only [Equiv.symm_apply_apply]
  by_cases hk : k ≤ i
  · have hk' : k.val ≤ i.val := hk
    refine Eq.trans (dif_pos fun a => ?_) (Eq.trans (congrArg y (funext fun a => Fin.ext ?_)) (if_pos hk).symm)
    · match a with
      | ⟨0, _⟩ => show 0 ≤ b.val * 1 + 0 ∧ b.val * 1 + 0 - 0 < 16; omega
      | ⟨1, _⟩ => show 0 ≤ c.val * 1 + 0 ∧ c.val * 1 + 0 - 0 < 16; omega
      | ⟨2, _⟩ => show 127 ≤ i.val * 1 + w.val ∧ i.val * 1 + w.val - 127 < 128; omega
      | ⟨3, _⟩ => show 0 ≤ g.val * 1 + 0 ∧ g.val * 1 + 0 - 0 < 8; omega
      | ⟨4, _⟩ => show 0 ≤ r.val * 1 + 0 ∧ r.val * 1 + 0 - 0 < 4; omega
    · match a with
      | ⟨0, _⟩ => show b.val * 1 + 0 - 0 = b.val; omega
      | ⟨1, _⟩ => show c.val * 1 + 0 - 0 = c.val; omega
      | ⟨2, _⟩ => show i.val * 1 + w.val - 127 = k.val; omega
      | ⟨3, _⟩ => show g.val * 1 + 0 - 0 = g.val; omega
      | ⟨4, _⟩ => show r.val * 1 + 0 - 0 = r.val; omega
  · have hk' : ¬ k.val ≤ i.val := hk
    refine Eq.trans (dif_neg fun hin => ?_) (if_neg hk).symm
    have h2 : 127 ≤ i.val * 1 + w.val ∧ i.val * 1 + w.val - 127 < 128 := hin 2
    omega

theorem ref_sum (b c : Fin 16) (i : Fin 128) (g : Fin 8) (r : Fin 4) :
    val_main_v58 (F := Ideal) x0 x2 x5 x6 (ix5 b c i g r)
      = acum (fun k => rate (DD x0 x2 x5 b (rowOf c.val k) (hdOf g r)) (x6 (ix1 (hdOf g r)))) i := by
  have hz : val_main_call2_call0_v0 (F := Ideal) (Shape.Idx.first h_S_) = 0 := by
    unfold val_main_call2_call0_v0 val_main_call2_call0_cst
    pointwise
  unfold val_main_v58
  refine Eq.trans (?_ : _ = ∑ k : Fin 128, if k ≤ i then val_main_v57 (F := Ideal) x0 x2 x5 x6 (ix5 b c k g r) else 0) ?_
  · unfold Host.reduceWindowAdd
    show Ideal.hostReduceWindowAdd _ _ _ _ _ _ _ _ = _
    unfold Ideal.hostReduceWindowAdd
    dsimp only
    rw [hz]
    generalize val_main_v57 (F := Ideal) x0 x2 x5 x6 = y
    exact running y b c i g r
  · unfold acum
    simp only [ref_rate]

/-! ## One chunk -/

theorem ref_mask (l s : Fin 128) : val_main_v64 (F := Ideal) (ix2 l s) = if s ≤ l then 1#1 else 0#1 := by
  unfold val_main_v64 val_main_call3_v5 val_main_call3_c_0 val_main_call3_v4 val_main_call3_v3 val_main_call3_v2 val_main_call3_v1 val_main_call3_c val_main_call3_v0 val_main_v63 val_main_c
  pointwise
  rw [show IntOp.addi (BitVec.ofNat 32 l.val) 0#32 = BitVec.ofNat 32 l.val from BitVec.add_zero _]
  exact Cert.KernelIdeal.Ssd.causal_select l s _ _

/-- The running sums of sequence `b`, chunk `c`. -/
abbrev AA (b : Fin 16) (c : ℕ) : Fin 128 → Fin 32 → EReal := fun i h => acum (fun k => rate (DD x0 x2 x5 b (rowOf c k) h) (x6 (ix1 h))) i

theorem ref_decay (b c : Fin 16) (g : Fin 8) (r : Fin 4) (l s : Fin 128) :
    val_main_v71 (F := Ideal) x0 x2 x5 x6 (ix6 b c g r l s)
      = Ideal.exp (if s ≤ l then AA x0 x2 x5 x6 b c.val l (hdOf g r) - AA x0 x2 x5 x6 b c.val s (hdOf g r) else ⊥) := by
  unfold val_main_v71 val_main_v70 val_main_call4_v2 val_main_call4_v1 val_main_call4_v0 val_main_cst_1 val_main_v69 val_main_v68 val_main_v67 val_main_v66 val_main_v65 val_main_v59
  pointwise
  rw [ref_mask, ref_sum, ref_sum]
  by_cases h : s ≤ l
  · rw [if_pos h, if_pos h]; rfl
  · rw [if_neg h, if_neg h]
    refine congrArg Ideal.exp ?_
    exact Cert.KernelIdeal.Ssd.fill_eq

theorem ref_diag (b c : Fin 16) (i : Fin 128) (g : Fin 8) (r : Fin 4) (p : Fin 64) :
    val_main_v77 (F := Ideal) x0 x1 x2 x3 x4 x5 x6 (ix6 b c i g r p)
      = ∑ k : Fin 128, ((∑ n : Fin 128, ZZ x1 x3 x4 b (rowOf c.val i) (cC (col g r p) n) * ZZ x1 x3 x4 b (rowOf c.val k) (cB (col g r p) n))
          * Ideal.exp (if k ≤ i then AA x0 x2 x5 x6 b c.val i (hdOf g r) - AA x0 x2 x5 x6 b c.val k (hdOf g r) else ⊥))
          * (ZZ x1 x3 x4 b (rowOf c.val k) (cX (col g r p)) * DD x0 x2 x5 b (rowOf c.val k) (hdOf g r)) := by
  unfold val_main_v77 val_main_v76 val_main_v75 val_main_v74 val_main_v73 val_main_v72 val_main_v62 val_main_v61 val_main_v60
  pointwise [Cert.ReferenceIdeal.dot_S16x16x128x8x128_S16x16x128x8x128_S16x16x8x128x128_4_4_2_2_013_013, Cert.ReferenceIdeal.dot_S16x16x128x8x4x64_S16x16x8x4x128x128_S16x16x8x4x64x128_2_5_5_4_0134_0123]
  refine Finset.sum_congr rfl fun k _ => ?_
  rw [ref_x, ref_dt, ref_decay, mul_comm]
  simp only [ref_B x1 x3 x4 _ _ _ _ _ r p, ref_C x1 x3 x4 _ _ _ _ _ r p]

theorem ref_state (b c : Fin 16) (g : Fin 8) (r : Fin 4) (p : Fin 64) (n : Fin 128) :
    val_main_v91 (F := Ideal) x0 x1 x2 x3 x4 x5 x6 (ix6 c b g r p n)
      = ∑ k : Fin 128, ZZ x1 x3 x4 b (rowOf c.val k) (cB (col g r p) n) * ((ZZ x1 x3 x4 b (rowOf c.val k) (cX (col g r p)) * DD x0 x2 x5 b (rowOf c.val k) (hdOf g r))
          * Ideal.exp (AA x0 x2 x5 x6 b c.val 127 (hdOf g r) - AA x0 x2 x5 x6 b c.val k (hdOf g r))) := by
  unfold val_main_v91 val_main_v86 val_main_v85 val_main_v84 val_main_v83 val_main_v82 val_main_v81 val_main_v80 val_main_v79 val_main_v78 val_main_v62 val_main_v61 val_main_v60 val_main_v59
  pointwise [Cert.ReferenceIdeal.dot_S16x16x128x8x4x64_S16x16x128x8x128_S16x16x8x4x64x128_2_2_45_4_013_013]
  refine Finset.sum_congr rfl fun k _ => ?_
  rw [ref_x, ref_dt, ref_B x1 x3 x4 _ _ _ _ _ r p, ref_sum, ref_sum, mul_comm, mul_comm (Ideal.exp _)]

theorem ref_chunk (b c : Fin 16) (g : Fin 8) (r : Fin 4) :
    val_main_v92 (F := Ideal) x0 x2 x5 x6 (ix4 c b g r) = Ideal.exp (AA x0 x2 x5 x6 b c.val 127 (hdOf g r)) := by
  unfold val_main_v92 val_main_v89 val_main_v88 val_main_v87 val_main_v59
  pointwise
  rw [ref_sum]

/-! ## The states, chunk after chunk -/

/-- The state after chunk `c`, of the one before it. -/
def advance (c : Fin 16) (st : S16x8x4x64x128.Idx → EReal) : S16x8x4x64x128.Idx → EReal :=
  addf (F := Ideal) (φ := .f32)
    (mulf (F := Ideal) (φ := .f32)
      (broadcastInDim S16x8x4x64x128 ![0, 1, 2, 3, 4] bcast_S16x8x4x1x1_S16x8x4x64x128_0_1_2_3_4
        (broadcastInDim S16x8x4x1x1 ![0, 1, 2] bcast_S16x8x4_S16x8x4x1x1_0_1_2
          (shapeCast _ (extractStridedSlice S1x16x8x4 ![c.val, 0, 0, 0] (val_main_v92 (F := Ideal) x0 x2 x5 x6)
            ((by decide : ∀ c : Fin 16, S16x16x8x4.Slices ![c.val, 0, 0, 0] S1x16x8x4) c)) shapeCasts_S1x16x8x4_S16x8x4))) st)
    (shapeCast _ (extractStridedSlice S1x16x8x4x64x128 ![c.val, 0, 0, 0, 0, 0] (val_main_v91 (F := Ideal) x0 x1 x2 x3 x4 x5 x6)
      ((by decide : ∀ c : Fin 16, S16x16x8x4x64x128.Slices ![c.val, 0, 0, 0, 0, 0] S1x16x8x4x64x128) c)) shapeCasts_S1x16x8x4x64x128_S16x8x4x64x128)

theorem advance_apply (c : Fin 16) (st : S16x8x4x64x128.Idx → EReal) (b : Fin 16) (g : Fin 8) (r : Fin 4) (p : Fin 64) (n : Fin 128) :
    advance x0 x1 x2 x3 x4 x5 x6 c st (ix5 b g r p n)
      = val_main_v92 (F := Ideal) x0 x2 x5 x6 (ix4 c b g r) * st (ix5 b g r p n) + val_main_v91 (F := Ideal) x0 x1 x2 x3 x4 x5 x6 (ix6 c b g r p n) := by
  unfold advance
  pointwise

/-- The state entering each chunk. -/
def entering : ℕ → S16x8x4x64x128.Idx → EReal
  | 0 => val_main_v90 (F := Ideal)
  | k + 1 => advance x0 x1 x2 x3 x4 x5 x6 ⟨k % 16, Nat.mod_lt _ (by omega)⟩ (entering k)

theorem entering_apply (b : Fin 16) (g : Fin 8) (r : Fin 4) (p : Fin 64) (n : Fin 128) : ∀ k, k ≤ 16 →
    entering x0 x1 x2 x3 x4 x5 x6 k (ix5 b g r p n) = enter (ZZ x1 x3 x4 b) (DD x0 x2 x5 b) (DD x0 x2 x5 b) (fun h => x6 (ix1 h)) k (col g r p) n
  | 0, _ => by
    unfold entering enter val_main_v90 val_main_cst_2
    pointwise
  | k + 1, hk => by
    have ih := entering_apply b g r p n k (by omega)
    have hm : k % 16 = k := Nat.mod_eq_of_lt (by omega)
    unfold entering enter
    rw [advance_apply, ih, ref_chunk, ref_state]
    unfold sOf
    dsimp only
    rw [hm, hd_col]

/-- The states stacked: entry `c` is the state entering chunk `c`. -/
theorem stacked (c b : Fin 16) (g : Fin 8) (r : Fin 4) (p : Fin 64) (n : Fin 128) :
    val_main_v237 (F := Ideal) x0 x1 x2 x3 x4 x5 x6 (ix6 c b g r p n) = enter (ZZ x1 x3 x4 b) (DD x0 x2 x5 b) (DD x0 x2 x5 b) (fun h => x6 (ix1 h)) c.val (col g r p) n := by
  refine Eq.trans ?_ (entering_apply x0 x1 x2 x3 x4 x5 x6 b g r p n c.val (by omega))
  refine Eq.trans (?_ : _ = concatenate S16x16x8x4x64x128 0 (List.ofFn fun k : Fin 16 => (⟨S1x16x8x4x64x128, broadcastInDim S1x16x8x4x64x128 ![1, 2, 3, 4, 5] bcast_S16x8x4x64x128_S1x16x8x4x64x128_1_2_3_4_5 (entering x0 x1 x2 x3 x4 x5 x6 k.val)⟩ : (s : Shape) × (s.Idx → EReal)))
    concatenates_S1x16x8x4x64x128_S1x16x8x4x64x128_S1x16x8x4x64x128_S1x16x8x4x64x128_S1x16x8x4x64x128_S1x16x8x4x64x128_S1x16x8x4x64x128_S1x16x8x4x64x128_S1x16x8x4x64x128_S1x16x8x4x64x128_S1x16x8x4x64x128_S1x16x8x4x64x128_S1x16x8x4x64x128_S1x16x8x4x64x128_S1x16x8x4x64x128_S1x16x8x4x64x128_S16x16x8x4x64x128_d0 (ix6 c b g r p n)) ?_
  · rfl
  · pointwise

/-! ## The output -/

theorem ref_out (b c : Fin 16) (i : Fin 128) (g : Fin 8) (r : Fin 4) (p : Fin 64) :
    val_main_v251 (F := Ideal) x0 x1 x2 x3 x4 x5 x6 x7 (ix6 b c i g r p)
      = outOf (ZZ x1 x3 x4 b) (DD x0 x2 x5 b) (DD x0 x2 x5 b) (fun h => x6 (ix1 h)) (fun h => x7 (ix1 h)) c.val i (col g r p) := by
  unfold val_main_v251 val_main_v250 val_main_v249 val_main_v248 val_main_v247 val_main_v246 val_main_v245 val_main_v244 val_main_v243 val_main_v242 val_main_v241 val_main_v240 val_main_v239 val_main_v238
  pointwise [Cert.ReferenceIdeal.dot_S16x16x8x4x64x128_S16x16x128x8x128_S16x16x8x4x64x128_5_4_34_2_012_013]
  rw [ref_diag, ref_sum, ref_x]
  simp only [stacked, ref_C x1 x3 x4 _ _ _ _ _ r p, mul_comm (enter _ _ _ _ _ _ _)]
  unfold outOf yOf
  rw [hd_col]
  rfl

/-- The reference's result. -/
theorem ref_layer (r : Fin 32768) (j : Fin 2048) :
    val_main_v268 (F := Ideal) x0 x1 x2 x3 x4 x5 x6 x7 x8 (ix2 r j)
      = layer (fun b s k => x0 (ix3 b s k)) (fun r j => x1 (ix2 r j)) (fun k j => x2 (ix2 k j)) (fun k j => x3 (ix2 k j)) (fun j => x4 (ix1 j)) (fun h => x5 (ix1 h))
          (fun h => x6 (ix1 h)) (fun h => x7 (ix1 h)) (fun j => x8 (ix1 j)) (fun v => v) ⟨r.val / 2048, by omega⟩ ⟨r.val % 2048, by omega⟩ j := by
  unfold val_main_v268 val_main_v267 val_main_v266 val_main_v265 val_main_v264 val_main_v263 val_main_v262 val_main_v261 val_main_v260 val_main_v259 val_main_v258 val_main_v257 val_main_v256 val_main_v255 val_main_v254 val_main_v253 val_main_v252 val_main_cst_3 val_main_cst_4 val_main_cst_5 val_main_call5_v5 val_main_call5_v4 val_main_call5_cst_0 val_main_call5_v3 val_main_call5_v2 val_main_call5_cst val_main_call5_v1 val_main_call5_v0 val_main_v2 val_main_v1 val_main_v0
  pointwise
  have hr : flat (⟨r.val / 2048, by omega⟩ : Fin 16) (⟨r.val % 2048, by omega⟩ : Fin 2048) = r := Fin.ext (by show r.val / 2048 * 2048 + r.val % 2048 = r.val; omega)
  have hc : ∀ x : Fin 2048, col ⟨x.val / 256, by omega⟩ ⟨x.val / 64 % 4, by omega⟩ ⟨x.val % 64, by omega⟩ = x := fun x =>
    Fin.ext (by show x.val / 256 * 256 + x.val / 64 % 4 * 64 + x.val % 64 = x.val; omega)
  simp only [ref_out, hc]
  unfold layer gated
  simp only [hr]
  rfl
end

end Cert.ReferenceIdeal.Ssd

end
-- ==== Proof.SsdEq.lean ====
/- The SSD call's result array and its reference's are the same. -/
module

public import proofs.«01_k».proof.Proof.SsdState
public import proofs.«01_k».proof.Proof.SsdRef
public import proofs.«01_k».proof.Proof.Gen.ReferenceIdeal.Run

@[expose] public section

set_option maxRecDepth 16384

noncomputable section

namespace Cert.KernelIdeal.Ssd

open Cert.KernelIdeal Cert.KernelIdeal.Gen Cert.KernelIdeal.Value Cert.Ssd
open Idealize.ShloMosaic Idealize.ShloMosaic.TcCoe Idealize.ShloMosaic.Tactic Idealize.SL.Sem

variable (m : (ℓ : Loc nD τ sig) → Buf (Elt Ideal) ℓ) (c : Dev nD)

/-! ## The result array -/

/-- What the layer computes of a device's arguments. -/
def G17 : Buf (Elt Ideal) ((c : Thread nD τ).loc main_v47) := fun i : S32768x2048.Idx =>
  layer (aX m c) (aH m c) (aW m c) (aCW m c) (aCB m c) (aDB m c) (aAL m c) (aDS m c) (aNW m c) parts
    ⟨(i 0).val / 2048, by have h : (i 0).val < 32768 := (i 0).isLt; omega⟩ ⟨(i 0).val % 2048, by omega⟩ (i 1)

/-- Point `t` writes back rows `128 t …` of that array. -/
theorem flushed17_layer (t : Fin cfg0.N) : (dats m 0 c).flushed 17 t = ((cfg0.win 17).blk t).view.read (Elt Ideal) (G17 m c) := by
  rw [flushed17]
  have hN : cfg0.N = 256 := N_0
  obtain ⟨e0, e1⟩ := (index_rows t).2.2.2
  funext y
  have hy0 : (y 0).val < 128 := (y 0).isLt
  have hy1 : (y 1).val < 2048 := (y 1).isLt
  have ht := t.isLt
  have hx : (cfg0.win 17).xinj (grid0.coords t) y = ix2 (⟨(y 0).val, hy0⟩ : Fin 128) (⟨(y 1).val, hy1⟩ : Fin 2048) := by
    funext a
    match a with
    | ⟨0, _⟩ => rfl
    | ⟨1, _⟩ => rfl
  have hb : ((cfg0.win 17).blk t).view.emb y = ix2 (⟨t.val * 128 + (y 0).val, by omega⟩ : Fin 32768) (⟨(y 1).val, hy1⟩ : Fin 2048) := by
    funext a; apply Fin.ext
    match a with
    | ⟨0, _⟩ => show win0_17.index t (0 : Fin 2) * 128 + 1 * (y 0).val = t.val * 128 + (y 0).val; omega
    | ⟨1, _⟩ => show win0_17.index t (1 : Fin 2) * 2048 + 1 * (y 1).val = (y 1).val; omega
  show (outsAt0 m c t.val t.isLt).1 ((cfg0.win 17).xinj (grid0.coords t) y) = G17 m c (((cfg0.win 17).blk t).view.emb y)
  rw [hx, hb]
  refine ((after_all m c t.val t.isLt).1 _ _).trans ?_
  unfold G17
  have h0 : seqOf t = (⟨(t.val * 128 + (y 0).val) / 2048, by omega⟩ : Fin 16) := Fin.ext (by show t.val / 16 = (t.val * 128 + (y 0).val) / 2048; omega)
  have h1 : rowOf (chunkOf t) ⟨(y 0).val, hy0⟩ = (⟨(t.val * 128 + (y 0).val) % 2048, by omega⟩ : Fin 2048) :=
    Fin.ext (by show (128 * (t.val % 16) + (y 0).val) % 2048 = (t.val * 128 + (y 0).val) % 2048; omega)
  exact congrArg₂ (fun b s => layer (aX m c) (aH m c) (aW m c) (aCW m c) (aCB m c) (aDB m c) (aAL m c) (aDS m c) (aNW m c) parts b s _) h0 h1

/-- The points' blocks cover the array. -/
theorem covered17 (i : S32768x2048.Idx) : ∃ t : Fin cfg0.N, (cfg0.win 17).flush t = true ∧ i ∈ ((cfg0.win 17).blk t).view.set := by
  have hN : cfg0.N = 256 := N_0
  have h0 : (i 0).val < 32768 := (i 0).isLt
  have h1 : (i 1).val < 2048 := (i 1).isLt
  have ht : (i 0).val / 128 < cfg0.N := by omega
  obtain ⟨e0, e1⟩ := (index_rows ⟨(i 0).val / 128, ht⟩).2.2.2
  refine ⟨⟨(i 0).val / 128, ht⟩, (by decide +kernel : ∀ t : Fin grid0.N, win0_17.flush t = true) _, (mem_blk17 _ i).2 fun a => ?_⟩
  match a with
  | ⟨0, _⟩ => show win0_17.index _ (0 : Fin 2) * 128 ≤ (i 0).val ∧ (i 0).val < win0_17.index _ (0 : Fin 2) * 128 + 128; rw [e0]; dsimp only; omega
  | ⟨1, _⟩ => show win0_17.index _ (1 : Fin 2) * 2048 ≤ (i 1).val ∧ (i 1).val < win0_17.index _ (1 : Fin 2) * 2048 + 2048; rw [e1]; omega

/-- What the run leaves in the result array. -/
theorem final17_layer : (dats m 0 c).arrAt 17 cfg0.N = G17 m c :=
  (dats m 0 c).arrAt_eq_of_cover 17 _ (fun t _ => flushed17_layer m c t) covered17

/-- The reference's result array is the run's, of the same arguments. -/
theorem same : Cert.ReferenceIdeal.Read.val_main_v268 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8))
    = (dats m 0 c).arrAt 17 cfg0.N := by
  rw [final17_layer m c]
  funext i
  have h : i = ix2 (i (0 : Fin 2)) (i (1 : Fin 2)) := eq_ix2 i
  rw [h]
  refine Eq.trans ?_ (layer_parts _ _ _ _ _ _ _ _ _ _ _ _).symm
  exact Cert.ReferenceIdeal.Ssd.ref_layer _ _ _ _ _ _ _ _ _ _ _

end Cert.KernelIdeal.Ssd

end
-- ==== Proof.InprojValue.lean ====
/- The value of the input projection. At `Ideal`, element (r, j) of the kernel's result is the sum over the 1024 input
   features of row r of `x`, flattened to 32768 rows, times the column of `w_in` that is the j-th one outside dt's 32. -/
module

public import proofs.«01_k».proof.Proof.Gen.Kernel2Ideal.Value
public import proofs.«01_k».proof.Proof.Gen.Reference2Ideal.Read
public import Idealize.ShloMosaic.Lib.Pointwise
public import Idealize.ShloMosaic.Lib.StableHlo.ReadAt
public import Idealize.ShloMosaic.Lib.ValueIdx
public import Idealize.ShloMosaic.Lib.Pipeline.ValueKit

@[expose] public section

set_option maxRecDepth 16384

noncomputable section

namespace Cert.Kernel2Ideal.Inproj

open Cert.Kernel2Ideal Cert.Kernel2Ideal.Gen Cert.Kernel2Ideal.Value
open Idealize.ShloMosaic Idealize.ShloMosaic.TcCoe Idealize.SL.Sem Idealize.ShloMosaic.Tactic

/-! ## What the three stores write -/

section Cases
variable {F : FTy → Type} [FloatOps F]
variable (c : Dev nD) (i : grid0.Coords) (arg2 : Memref sig .tc .vmem S1024x1024 .f32) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole)

/-- A point that starts a row block leaves the cast of the block of `x` in the scratch. -/
theorem scratch_first (hc0 : cond0_0 i) (x0 : Vec F S1024x1024 .f32) (x1 : Vec F S1024x2048 .bf16) :
    sout0_A_0 c i arg2 harg2 arg3 harg3 arg4 harg4 arg5 harg5 hc0 x0 x1 = k0_pay1 x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  simp only [View.readAt_eq_ld, harg2.read_unread]
  refine (View.canon_cons_unit_zero (by decide) _ _ _).trans ?_
  rw [View.ld_unit_zero (by decide)]

/-- It leaves the product of that cast with its block of the weights in the output. -/
theorem out_first (hc0 : cond0_0 i) (x0 : Vec F S1024x1024 .f32) (x1 : Vec F S1024x2048 .bf16) :
    out0_A_2 c i arg2 harg2 arg3 harg3 arg4 harg4 arg5 harg5 hc0 x0 x1 = k0_pay2 (k0_pay1 x0) x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  simp only [View.readAt_eq_ld, harg2.read_unread, harg3.read_unread, View.readCov_cons_toLoadRect]
  refine (View.canon_cons_unit_zero (by decide) _ _ _).trans ?_
  rw [View.ld_unit_zero (by decide), View.ld_unit_zero (by decide)]

/-- A later point of the row block multiplies what the scratch holds. -/
theorem out_later (hc0 : ¬cond0_0 i) (x0 : Vec F S1024x1024 .f32) (x1 : Vec F S1024x2048 .bf16) (xs : Vec F S1024x1024 .bf16) :
    out0_B_2 c i arg2 harg2 arg3 harg3 arg4 harg4 arg5 harg5 hc0 x0 x1 xs = k0_pay2 xs x1 := by
  unfold out0_B_2
  rw [View.read_writes_eq_canon _ _ _ (cover0_B_2 c i arg2 harg2 arg3 harg3 arg4 harg4 arg5 harg5 hc0 x0 x1 xs)]
  unfold kernelRun0_B
  dsimp only
  sl_unfold_words
  simp only [View.readAt_eq_ld, harg5.read_unread, harg3.read_unread]
  refine (View.canon_cons_unit_zero (by decide) _ _ _).trans ?_
  rw [View.ld_unit_zero (by decide), View.ld_unit_zero (by decide)]

end Cases

/-! ## The arrays the pipeline stages -/

variable (m : (ℓ : Loc nD τ sig) → Buf (Elt Ideal) ℓ) (c : Dev nD)

/-- The column of `w_in` that column `j` of the result is made of: the dt columns 8192 … 8223 are skipped. -/
abbrev col (j : Fin 10240) : Fin 10272 := ⟨if j.val < 8192 then j.val else j.val + 32, by split <;> omega⟩

/-- The specification: the product of row `r` of the flattened `x` with column `col j` of `w_in`. -/
def proj (x : S16x2048x1024.Idx → EReal) (w : S1024x10272.Idx → EReal) (r : Fin 32768) (j : Fin 10240) : EReal :=
  ∑ k : Fin 1024, x (ix3 (⟨r.val / 2048, by omega⟩ : Fin 16) (⟨r.val % 2048, by omega⟩ : Fin 2048) k) * w (ix2 k (col j))

/-- The weights' array when the pipeline starts: `w_in` without the dt columns. -/
theorem V_w (k : Fin 1024) (j : Fin 10240) :
    (V m c main_v4 : S1024x10240.Idx → EReal) (ix2 k j) = (m ((c : Thread nD τ).loc main_arg1) : S1024x10272.Idx → EReal) (ix2 k (col j)) := by
  unfold V
  after_reads_at
  by_cases h : j.val < 8192
  · rw [dif_pos h]
    after_reads_at
    refine congrArg (m ((c : Thread nD τ).loc main_arg1)) (congrArg (ix2 k) (Fin.ext ?_))
    show j.val = if j.val < 8192 then j.val else j.val + 32
    rw [if_pos h]
  · rw [dif_neg h]
    after_reads_at
    refine congrArg (m ((c : Thread nD τ).loc main_arg1)) (congrArg (ix2 k) (Fin.ext ?_))
    show 8224 + (j.val - 8192) = if j.val < 8192 then j.val else j.val + 32
    rw [if_neg h]; omega

/-- The activations' array when the pipeline starts: `x` with its two leading axes flattened. -/
theorem V_x (r : Fin 32768) (k : Fin 1024) :
    (V m c main_v0 : S32768x1024.Idx → EReal) (ix2 r k)
      = (m ((c : Thread nD τ).loc main_arg0) : S16x2048x1024.Idx → EReal) (ix3 (⟨r.val / 2048, by omega⟩ : Fin 16) (⟨r.val % 2048, by omega⟩ : Fin 2048) k) := by
  unfold V
  after_reads_at

theorem index0 : ∀ t : Fin cfg0.N, win0_0.index t (0 : Fin 2) = t.val / 5 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 5 :=
  (by decide +kernel : ∀ t : Fin grid0.N, _)

/-- Point `t`'s block of the activations: rows `1024 · (t / 5) …`. -/
theorem block_x (t : Fin cfg0.N) (i : Fin 1024) (k : Fin 1024) (r : Fin 32768) (hr : r.val = t.val / 5 * 1024 + i.val) :
    (iblk m c 0 t : S1024x1024.Idx → EReal) (ix2 i k) = (V m c main_v0 : S32768x1024.Idx → EReal) (ix2 r k) := by
  refine congrArg (V m c main_v0) (funext fun a => Fin.ext ?_)
  obtain ⟨e0, e1⟩ := index0 t
  match a with
  | ⟨0, _⟩ => show win0_0.index t (0 : Fin 2) * 1024 + 1 * i.val = r.val; omega
  | ⟨1, _⟩ => show win0_0.index t (1 : Fin 2) * 1024 + 1 * k.val = k.val; omega

/-- Point `t`'s block of the weights: columns `2048 · (t % 5) …`. -/
theorem block_w (t : Fin cfg0.N) (k : Fin 1024) (i : Fin 2048) (j : Fin 10240) (hj : j.val = t.val % 5 * 2048 + i.val) :
    (iblk m c 1 t : S1024x2048.Idx → EReal) (ix2 k i) = (V m c main_v4 : S1024x10240.Idx → EReal) (ix2 k j) := by
  refine congrArg (V m c main_v4) (funext fun a => Fin.ext ?_)
  obtain ⟨e0, e1⟩ := index1 t
  match a with
  | ⟨0, _⟩ => show win0_1.index t (0 : Fin 2) * 1024 + 1 * k.val = k.val; omega
  | ⟨1, _⟩ => show win0_1.index t (1 : Fin 2) * 2048 + 1 * i.val = j.val; omega

/-! ## What a point leaves -/

/-- Over the reals the cast of a block is the block. -/
theorem pay1_apply (v : S1024x1024.Idx → EReal) (i k : Fin 1024) : k0_pay1 (F := Ideal) v (ix2 i k) = v (ix2 i k) := by
  unfold k0_pay1
  pointwise

/-- The stored product at an index. -/
theorem pay2_apply (v : S1024x1024.Idx → EReal) (w : S1024x2048.Idx → EReal) (i : Fin 1024) (j : Fin 2048) :
    k0_pay2 (F := Ideal) v w (ix2 i j) = ∑ k : Fin 1024, v (ix2 i k) * w (ix2 k j) := by
  unfold k0_pay2
  pointwise [dot_S1024x1024_S1024x2048_S1024x2048_1_0_0_1_n_n]

/-- After point `n` the scratch holds the row block `n / 5` of the flattened `x`. -/
theorem scratch_eq : ∀ (n : ℕ) (hn : n < cfg0.N) (i k : Fin 1024) (r : Fin 32768), r.val = n / 5 * 1024 + i.val →
    ((outsAt0 m c n hn).2 : S1024x1024.Idx → EReal) (ix2 i k) = (V m c main_v0 : S32768x1024.Idx → EReal) (ix2 r k) := by
  have first : ∀ (t : Fin cfg0.N), t.val % 5 = 0 → ∀ (i k : Fin 1024) (r : Fin 32768), r.val = t.val / 5 * 1024 + i.val →
      ((outsAt0 m c t.val t.isLt).2 : S1024x1024.Idx → EReal) (ix2 i k) = (V m c main_v0 : S32768x1024.Idx → EReal) (ix2 r k) := by
    intro t h0 i k r hr
    rw [outsAt0_A m c t h0]
    dsimp only
    rw [scratch_first]
    exact (pay1_apply _ i k).trans (block_x m c t i k r hr)
  intro n
  induction n with
  | zero => intro hn i k r hr; exact first ⟨0, hn⟩ rfl i k r hr
  | succ n ih =>
    intro hn i k r hr
    by_cases h0 : (n + 1) % 5 = 0
    · exact first ⟨n + 1, hn⟩ h0 i k r hr
    · rw [outsAt0_B m c ⟨n + 1, hn⟩ h0]
      dsimp only
      unfold sout0_B_0
      exact ih _ i k r (by omega)

/-- After point `n` the output's block holds the product's block (n / 5, n % 5). -/
theorem out_eq (n : ℕ) (hn : n < cfg0.N) (i : Fin 1024) (l : Fin 2048) (r : Fin 32768) (j : Fin 10240)
    (hr : r.val = n / 5 * 1024 + i.val) (hj : j.val = n % 5 * 2048 + l.val) :
    ((outsAt0 m c n hn).1 : S1024x2048.Idx → EReal) (ix2 i l)
      = proj (m ((c : Thread nD τ).loc main_arg0)) (m ((c : Thread nD τ).loc main_arg1)) r j := by
  have key : ∀ v : S1024x1024.Idx → EReal, (∀ k : Fin 1024, v (ix2 i k) = (V m c main_v0 : S32768x1024.Idx → EReal) (ix2 r k)) →
      k0_pay2 (F := Ideal) v (iblk m c 1 ⟨n, hn⟩) (ix2 i l)
        = proj (m ((c : Thread nD τ).loc main_arg0)) (m ((c : Thread nD τ).loc main_arg1)) r j := by
    intro v hv
    rw [pay2_apply]
    unfold proj
    refine Finset.sum_congr rfl fun k _ => ?_
    rw [hv k, block_w m c ⟨n, hn⟩ k l j hj, V_w, V_x]
  by_cases h0 : n % 5 = 0
  · rw [outsAt0_A m c ⟨n, hn⟩ h0]
    dsimp only
    rw [out_first]
    exact key _ fun k => (pay1_apply _ i k).trans (block_x m c ⟨n, hn⟩ i k r hr)
  · rw [outsAt0_B m c ⟨n, hn⟩ h0]
    dsimp only
    rw [out_later]
    exact key _ fun k => scratch_eq m c _ _ i k r (by have h5 := Nat.div_add_mod n 5; show r.val = (n - 1) / 5 * 1024 + i.val; omega)

/-- The result array: the projection, at every index. -/
theorem result_eq (r : Fin 32768) (j : Fin 10240) :
    (G2 m c : S32768x10240.Idx → EReal) (ix2 r j) = proj (m ((c : Thread nD τ).loc main_arg0)) (m ((c : Thread nD τ).loc main_arg1)) r j := by
  have hN : cfg0.N = 160 := N_0
  have hp : pt2Of (ix2 r j) < cfg0.N := by
    rw [hN]; show 5 * (r.val / 1024 - 0) + 1 * (j.val / 2048 - 0) < 160; omega
  unfold G2
  rw [dif_pos hp, ← outsAt0_sweep m c _ hp]
  have hl : loc2Of (ix2 r j) = ix2 (⟨r.val % 1024, by omega⟩ : Fin 1024) (⟨j.val % 2048, by omega⟩ : Fin 2048) := by
    funext a
    match a with
    | ⟨0, _⟩ => rfl
    | ⟨1, _⟩ => rfl
  rw [hl]
  refine out_eq m c _ hp _ _ r j ?_ ?_
  · show r.val = (5 * (r.val / 1024 - 0) + 1 * (j.val / 2048 - 0)) / 5 * 1024 + r.val % 1024; omega
  · show j.val = (5 * (r.val / 1024 - 0) + 1 * (j.val / 2048 - 0)) % 5 * 2048 + j.val % 2048; omega

/-! ## The reference -/

open Cert.Reference2Ideal.Read in
/-- The reference's result array is the same projection. -/
theorem reference_eq (x : S16x2048x1024.Idx → EReal) (w : S1024x10272.Idx → EReal) (r : Fin 32768) (j : Fin 10240) :
    val_main_v5 (F := Ideal) x w (ix2 r j) = proj x w r j := by
  rw [val_main_v5_apply, val_main_v4_apply]
  have hi : idx_main_v5 (ix2 r j) = ix3 (⟨r.val / 2048, by omega⟩ : Fin 16) (⟨r.val % 2048, by omega⟩ : Fin 2048) j := by
    funext a
    match a with
    | ⟨0, _⟩ => refine Fin.ext ?_; show (r.val * 10240 + j.val) / 20971520 = r.val / 2048; omega
    | ⟨1, _⟩ => refine Fin.ext ?_; show (r.val * 10240 + j.val) / 10240 % 2048 = r.val % 2048; omega
    | ⟨2, _⟩ => refine Fin.ext ?_; show (r.val * 10240 + j.val) % 10240 = j.val; omega
  rw [hi]
  unfold val_main_v3 proj
  pointwise
  split
  · rename_i h
    rw [val_main_v1_apply, val_main_v0_apply]
    refine Finset.sum_congr rfl fun k _ => congrArg₂ (· * ·) (congrArg x ?_) (congrArg w ?_)
    · funext a
      match a with
      | ⟨0, _⟩ => rfl
      | ⟨1, _⟩ => rfl
      | ⟨2, _⟩ => rfl
    · funext a
      match a with
      | ⟨0, _⟩ => rfl
      | ⟨1, _⟩ => refine Fin.ext ?_; show j.val = if j.val < 8192 then j.val else j.val + 32; rw [if_pos h]
  · rename_i h
    rw [val_main_v2_apply, val_main_v0_apply]
    refine Finset.sum_congr rfl fun k _ => congrArg₂ (· * ·) (congrArg x ?_) (congrArg w ?_)
    · funext a
      match a with
      | ⟨0, _⟩ => rfl
      | ⟨1, _⟩ => rfl
      | ⟨2, _⟩ => rfl
    · funext a
      match a with
      | ⟨0, _⟩ => rfl
      | ⟨1, _⟩ => refine Fin.ext ?_; show 8224 + (j.val - 8192) = if j.val < 8192 then j.val else j.val + 32; rw [if_neg h]; omega

/-- The kernel's result array is the reference's, of the same arguments. -/
theorem same : Cert.Reference2Ideal.Read.val_main_v5 (F := Ideal) (m ((c : Thread nD τ).loc main_arg0)) (m ((c : Thread nD τ).loc main_arg1))
    = (G2 m c : S32768x10240.Idx → EReal) := by
  funext i
  have h : i = ix2 (i (0 : Fin 2)) (i (1 : Fin 2)) := eq_ix2 i
  rw [h]
  exact (reference_eq _ _ _ _).trans (result_eq m c _ _).symm

end Cert.Kernel2Ideal.Inproj

end
-- ==== Proof.MergeValue.lean ====
/- The value of the merge. At `Ideal`, row r of the kernel's result is the layer norm of
   `alpha * x + (ya + sigmoid(gate + bias) * (y_norm @ w_ssd)) @ w_o`, of row r of each of those arrays. -/
module

public import proofs.«01_k».proof.Proof.Gen.Kernel3Ideal.Value
public import proofs.«01_k».proof.Proof.Gen.Reference3Ideal.Read
public import Idealize.ShloMosaic.Lib.Pointwise
public import Idealize.ShloMosaic.Lib.StableHlo.ReadAt
public import Idealize.ShloMosaic.Lib.ValueIdx
public import Idealize.ShloMosaic.Lib.Pipeline.ValueKit

@[expose] public section

set_option maxRecDepth 16384

noncomputable section

namespace Cert.Kernel3Ideal.Merge

open Cert.Kernel3Ideal Cert.Kernel3Ideal.Gen Cert.Kernel3Ideal.Value
open Idealize.ShloMosaic Idealize.ShloMosaic.TcCoe Idealize.SL.Sem Idealize.ShloMosaic.Tactic

/-! ## What a row becomes -/

/-- The number of features, 1024, as the programs write it. -/
abbrev width : EReal := Ideal.ofBits .f32 0x44800000#32
/-- The layer norm's epsilon. -/
abbrev eps : EReal := Ideal.ofBits .f32 0x3727C5AC#32
/-- The residual's scale, the fourth root of 2. -/
abbrev alpha : EReal := Ideal.ofBits .f32 0x3F9837F0#32

/-- A row less its mean. -/
def centred (t : Fin 1024 → EReal) (j : Fin 1024) : EReal := t j - Ideal.div (∑ k, t k) width

/-- The layer norm of a row. -/
def norm (t g b : Fin 1024 → EReal) (j : Fin 1024) : EReal :=
  centred t j * Ideal.rsqrt (Ideal.div (∑ k, centred t k * centred t k) width + eps) * g j + b j

/-- The gated sum of the two branches in one row: `ya`, `gate` and `yn` are the row's, `w` the second branch's output weights. -/
def mixed (ya gate bias : Fin 1024 → EReal) (yn : Fin 2048 → EReal) (w : Fin 2048 → Fin 1024 → EReal) (j : Fin 1024) : EReal :=
  ya j + Ideal.logistic (gate j + bias j) * ∑ k, yn k * w k j

/-- The row that is normed. -/
def summed (x : Fin 1024 → EReal) (y : Fin 1024 → EReal) (w : Fin 1024 → Fin 1024 → EReal) (j : Fin 1024) : EReal :=
  alpha * x j + ∑ k, y k * w k j

/-- Equal operands give equal rows. -/
theorem row_congr {x x' ya ya' gate gate' bias bias' g g' b b' : Fin 1024 → EReal} {yn yn' : Fin 2048 → EReal} {ws ws' : Fin 2048 → Fin 1024 → EReal}
    {wo wo' : Fin 1024 → Fin 1024 → EReal} (hx : ∀ j, x j = x' j) (hya : ∀ j, ya j = ya' j) (hgate : ∀ j, gate j = gate' j) (hbias : ∀ j, bias j = bias' j)
    (hyn : ∀ k, yn k = yn' k) (hws : ∀ k j, ws k j = ws' k j) (hwo : ∀ k j, wo k j = wo' k j) (hg : ∀ j, g j = g' j) (hb : ∀ j, b j = b' j) (j : Fin 1024) :
    norm (summed x (mixed ya gate bias yn ws) wo) g b j = norm (summed x' (mixed ya' gate' bias' yn' ws') wo') g' b' j := by
  rw [funext hx, funext hya, funext hgate, funext hbias, funext hyn, funext fun k => funext (hws k), funext fun k => funext (hwo k), funext hg, funext hb]

/-! ## What a point leaves -/

/-- The centred row, as the kernel computes it from its blocks. -/
theorem pay4_apply (yn : S512x2048.Idx → EReal) (ws : S2048x1024.Idx → EReal) (ya gate : S512x1024.Idx → EReal) (bias : S1x1024.Idx → EReal)
    (x : S512x1024.Idx → EReal) (wo : S1024x1024.Idx → EReal) (i : Fin 512) (j : Fin 1024) :
    k0_pay4 (F := Ideal) yn ws ya gate bias x wo (ix2 i j)
      = centred (summed (fun j => x (ix2 i j))
          (mixed (fun j => ya (ix2 i j)) (fun j => gate (ix2 i j)) (fun j => bias (ix2 (0 : Fin 1) j)) (fun k => yn (ix2 i k)) (fun k j => ws (ix2 k j)))
          (fun k j => wo (ix2 k j))) j := by
  unfold k0_pay4 centred summed mixed
  pointwise [dot_S512x2048_S2048x1024_S512x1024_1_0_0_1_n_n, dot_S512x1024_S1024x1024_S512x1024_1_0_0_1_n_n]

/-- The stored row: the layer norm of the centred one, which is passed with its squares. -/
theorem pay1_apply (g b : S1x1024.Idx → EReal) (t : Fin 1024 → EReal) (d : S512x1024.Idx → EReal) (i : Fin 512) (j : Fin 1024)
    (hd : ∀ j, d (ix2 i j) = centred t j) :
    k0_pay1 (F := Ideal) (k0_pay2 g) (k0_pay3 b) d (mulf (F := Ideal) d d) (ix2 i j) = norm t (fun j => g (ix2 (0 : Fin 1) j)) (fun j => b (ix2 (0 : Fin 1) j)) j := by
  unfold k0_pay1 k0_pay2 k0_pay3 norm
  pointwise
  simp only [hd]

/-- The block that a point leaves: each row is the layer norm of the summed row. -/
theorem out_apply (x0 : S512x1024.Idx → EReal) (x1 : S512x2048.Idx → EReal) (x2 : S512x1024.Idx → EReal) (x3 : S1x1024.Idx → EReal)
    (x4 : S2048x1024.Idx → EReal) (x5 : S1024x1024.Idx → EReal) (x6 : S512x1024.Idx → EReal) (x7 x8 : S1x1024.Idx → EReal) (i : Fin 512) (j : Fin 1024) :
    out0_9 (F := Ideal) x0 x1 x2 x3 x4 x5 x6 x7 x8 (ix2 i j)
      = norm (summed (fun j => x6 (ix2 i j))
          (mixed (fun j => x0 (ix2 i j)) (fun j => x2 (ix2 i j)) (fun j => x3 (ix2 (0 : Fin 1) j)) (fun k => x1 (ix2 i k)) (fun k j => x4 (ix2 k j)))
          (fun k j => x5 (ix2 k j))) (fun j => x7 (ix2 (0 : Fin 1) j)) (fun j => x8 (ix2 (0 : Fin 1) j)) j := by
  unfold out0_9 r0_0 r0_1 r0_2 r0_3 r0_4
  rw [View.ld_unit_zero (by decide), View.ld_unit_zero (by decide), View.ld_unit_zero (by decide), View.ld_unit_zero (by decide), View.ld_unit_zero (by decide),
    View.ld_unit_zero (by decide), View.ld_unit_zero (by decide), View.ld_unit_zero (by decide), View.ld_unit_zero (by decide)]
  refine (congrFun (View.canon_cons_unit_zero (by decide) _ _ _) _).trans ?_
  exact pay1_apply _ _ _ _ i j fun j => pay4_apply _ _ _ _ _ _ _ i j

/-! ## The reference -/

section Ref
open Cert.Reference3Ideal.Read
variable (y0 : S32768x1024.Idx → EReal) (y1 : S32768x2048.Idx → EReal) (y2 : S32768x10240.Idx → EReal) (y3 : S2048.Idx → EReal) (y4 : S2048x1024.Idx → EReal)
  (y5 : S1024x1024.Idx → EReal) (y6 : S16x2048x1024.Idx → EReal) (y7 y8 : S1024.Idx → EReal)

/-- The specification of row `r`, from the arguments. -/
def rowOf (r : Fin 32768) : Fin 1024 → EReal :=
  summed (fun j => y6 (ix3 (⟨r.val / 2048, by omega⟩ : Fin 16) (⟨r.val % 2048, by omega⟩ : Fin 2048) j))
    (mixed (fun j => y0 (ix2 r j)) (fun j => y2 (ix2 r (⟨9216 + j.val, by omega⟩ : Fin 10240))) (fun j => y3 (ix1 (⟨1024 + j.val, by omega⟩ : Fin 2048)))
      (fun k => y1 (ix2 r k)) (fun k j => y4 (ix2 k j)))
    (fun k j => y5 (ix2 k j))

theorem ref_mixed (r : Fin 32768) (j : Fin 1024) :
    val_main_v14 (F := Ideal) y0 y1 y2 y3 y4 (ix2 r j)
      = mixed (fun j => y0 (ix2 r j)) (fun j => y2 (ix2 r (⟨9216 + j.val, by omega⟩ : Fin 10240))) (fun j => y3 (ix1 (⟨1024 + j.val, by omega⟩ : Fin 2048)))
        (fun k => y1 (ix2 r k)) (fun k j => y4 (ix2 k j)) j := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 mixed
  pointwise [Cert.Reference3Ideal.dot_S32768x2048_S2048x1024_S32768x1024_1_0_0_1_n_n]
  rfl

theorem ref_summed (r : Fin 32768) (j : Fin 1024) :
    val_main_v19 (F := Ideal) y0 y1 y2 y3 y4 y5 y6 (ix2 r j) = rowOf y0 y1 y2 y3 y4 y5 y6 r j := by
  unfold val_main_v19 val_main_v18 val_main_v17 val_main_v16 val_main_v15 val_main_cst_1 rowOf summed
  pointwise [Cert.Reference3Ideal.dot_S32768x1024_S1024x1024_S32768x1024_1_0_0_1_n_n]
  simp only [ref_mixed]

theorem ref_norm (r : Fin 32768) (j : Fin 1024) :
    val_main_v43 (F := Ideal) y0 y1 y2 y3 y4 y5 y6 y7 y8 (ix2 r j) = norm (rowOf y0 y1 y2 y3 y4 y5 y6 r) (fun j => y7 (ix1 j)) (fun j => y8 (ix1 j)) j := by
  unfold val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_cst_2 val_main_cst_3 val_main_cst_4 val_main_cst_5 val_main_cst_6 norm centred
  pointwise
  simp only [ref_summed]
end Ref

/-! ## The arrays the pipeline stages -/

variable (m : (ℓ : Loc nD τ sig) → Buf (Elt Ideal) ℓ) (c : Dev nD)

theorem V_bias (j : Fin 1024) :
    (V m c main_v2 : S1x1024.Idx → EReal) (ix2 (0 : Fin 1) j) = (m ((c : Thread nD τ).loc main_arg3) : S2048.Idx → EReal) (ix1 (⟨1024 + j.val, by omega⟩ : Fin 2048)) := by
  unfold V
  after_reads_at

theorem V_ws (k : Fin 2048) (j : Fin 1024) :
    (V m c main_v3 : S2048x1024.Idx → EReal) (ix2 k j) = (m ((c : Thread nD τ).loc main_arg4) : S2048x1024.Idx → EReal) (ix2 k j) := by
  unfold V
  after_reads_at

theorem V_wo (k j : Fin 1024) :
    (V m c main_v4 : S1024x1024.Idx → EReal) (ix2 k j) = (m ((c : Thread nD τ).loc main_arg5) : S1024x1024.Idx → EReal) (ix2 k j) := by
  unfold V
  after_reads_at

theorem V_x (r : Fin 32768) (j : Fin 1024) :
    (V m c main_v0 : S32768x1024.Idx → EReal) (ix2 r j)
      = (m ((c : Thread nD τ).loc main_arg6) : S16x2048x1024.Idx → EReal) (ix3 (⟨r.val / 2048, by omega⟩ : Fin 16) (⟨r.val % 2048, by omega⟩ : Fin 2048) j) := by
  unfold V
  after_reads_at

theorem V_g (j : Fin 1024) : (V m c main_v5 : S1x1024.Idx → EReal) (ix2 (0 : Fin 1) j) = (m ((c : Thread nD τ).loc main_arg7) : S1024.Idx → EReal) (ix1 j) := by
  unfold V
  after_reads_at

theorem V_b (j : Fin 1024) : (V m c main_v6 : S1x1024.Idx → EReal) (ix2 (0 : Fin 1) j) = (m ((c : Thread nD τ).loc main_arg8) : S1024.Idx → EReal) (ix1 j) := by
  unfold V
  after_reads_at

theorem index_rows : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 9) ∧ (win0_6.index t (0 : Fin 2) = t.val ∧ win0_6.index t (1 : Fin 2) = 0)
    ∧ (win0_9.index t (0 : Fin 2) = t.val ∧ win0_9.index t (1 : Fin 2) = 0) :=
  (by decide +kernel : ∀ t : Fin grid0.N, _)
theorem index_whole : ∀ t : Fin cfg0.N, (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem block_ya (t : Fin cfg0.N) (i : Fin 512) (j : Fin 1024) (r : Fin 32768) (hr : r.val = t.val * 512 + i.val) :
    (iblk m c 0 t : S512x1024.Idx → EReal) (ix2 i j) = (V m c main_arg0 : S32768x1024.Idx → EReal) (ix2 r j) := by
  refine congrArg (V m c main_arg0) (funext fun a => Fin.ext ?_)
  obtain ⟨e0, e1⟩ := (index_rows t).1
  match a with
  | ⟨0, _⟩ => show win0_0.index t (0 : Fin 2) * 512 + 1 * i.val = r.val; omega
  | ⟨1, _⟩ => show win0_0.index t (1 : Fin 2) * 1024 + 1 * j.val = j.val; omega

theorem block_yn (t : Fin cfg0.N) (i : Fin 512) (j : Fin 2048) (r : Fin 32768) (hr : r.val = t.val * 512 + i.val) :
    (iblk m c 1 t : S512x2048.Idx → EReal) (ix2 i j) = (V m c main_arg1 : S32768x2048.Idx → EReal) (ix2 r j) := by
  refine congrArg (V m c main_arg1) (funext fun a => Fin.ext ?_)
  obtain ⟨e0, e1⟩ := (index_rows t).2.1
  match a with
  | ⟨0, _⟩ => show win0_1.index t (0 : Fin 2) * 512 + 1 * i.val = r.val; omega
  | ⟨1, _⟩ => show win0_1.index t (1 : Fin 2) * 2048 + 1 * j.val = j.val; omega

theorem block_gate (t : Fin cfg0.N) (i : Fin 512) (j : Fin 1024) (r : Fin 32768) (hr : r.val = t.val * 512 + i.val) :
    (iblk m c 2 t : S512x1024.Idx → EReal) (ix2 i j) = (V m c main_arg2 : S32768x10240.Idx → EReal) (ix2 r (⟨9216 + j.val, by omega⟩ : Fin 10240)) := by
  refine congrArg (V m c main_arg2) (funext fun a => Fin.ext ?_)
  obtain ⟨e0, e1⟩ := (index_rows t).2.2.1
  match a with
  | ⟨0, _⟩ => show win0_2.index t (0 : Fin 2) * 512 + 1 * i.val = r.val; omega
  | ⟨1, _⟩ => show win0_2.index t (1 : Fin 2) * 1024 + 1 * j.val = 9216 + j.val; omega

theorem block_x (t : Fin cfg0.N) (i : Fin 512) (j : Fin 1024) (r : Fin 32768) (hr : r.val = t.val * 512 + i.val) :
    (iblk m c 6 t : S512x1024.Idx → EReal) (ix2 i j) = (V m c main_v0 : S32768x1024.Idx → EReal) (ix2 r j) := by
  refine congrArg (V m c main_v0) (funext fun a => Fin.ext ?_)
  obtain ⟨e0, e1⟩ := (index_rows t).2.2.2.1
  match a with
  | ⟨0, _⟩ => show win0_6.index t (0 : Fin 2) * 512 + 1 * i.val = r.val; omega
  | ⟨1, _⟩ => show win0_6.index t (1 : Fin 2) * 1024 + 1 * j.val = j.val; omega

theorem block_ws (t : Fin cfg0.N) (k : Fin 2048) (j : Fin 1024) :
    (iblk m c 4 t : S2048x1024.Idx → EReal) (ix2 k j) = (V m c main_v3 : S2048x1024.Idx → EReal) (ix2 k j) := by
  refine congrArg (V m c main_v3) (funext fun a => Fin.ext ?_)
  obtain ⟨e0, e1⟩ := (index_whole t).2.1
  match a with
  | ⟨0, _⟩ => show win0_4.index t (0 : Fin 2) * 2048 + 1 * k.val = k.val; omega
  | ⟨1, _⟩ => show win0_4.index t (1 : Fin 2) * 1024 + 1 * j.val = j.val; omega

theorem block_wo (t : Fin cfg0.N) (k j : Fin 1024) :
    (iblk m c 5 t : S1024x1024.Idx → EReal) (ix2 k j) = (V m c main_v4 : S1024x1024.Idx → EReal) (ix2 k j) := by
  refine congrArg (V m c main_v4) (funext fun a => Fin.ext ?_)
  obtain ⟨e0, e1⟩ := (index_whole t).2.2.1
  match a with
  | ⟨0, _⟩ => show win0_5.index t (0 : Fin 2) * 1024 + 1 * k.val = k.val; omega
  | ⟨1, _⟩ => show win0_5.index t (1 : Fin 2) * 1024 + 1 * j.val = j.val; omega

theorem block_bias (t : Fin cfg0.N) (j : Fin 1024) :
    (iblk m c 3 t : S1x1024.Idx → EReal) (ix2 (0 : Fin 1) j) = (V m c main_v2 : S1x1024.Idx → EReal) (ix2 (0 : Fin 1) j) := by
  refine congrArg (V m c main_v2) (funext fun a => Fin.ext ?_)
  obtain ⟨e0, e1⟩ := (index_whole t).1
  match a with
  | ⟨0, _⟩ => show win0_3.index t (0 : Fin 2) * 1 + 1 * 0 = 0; omega
  | ⟨1, _⟩ => show win0_3.index t (1 : Fin 2) * 1024 + 1 * j.val = j.val; omega

theorem block_g (t : Fin cfg0.N) (j : Fin 1024) :
    (iblk m c 7 t : S1x1024.Idx → EReal) (ix2 (0 : Fin 1) j) = (V m c main_v5 : S1x1024.Idx → EReal) (ix2 (0 : Fin 1) j) := by
  refine congrArg (V m c main_v5) (funext fun a => Fin.ext ?_)
  obtain ⟨e0, e1⟩ := (index_whole t).2.2.2.1
  match a with
  | ⟨0, _⟩ => show win0_7.index t (0 : Fin 2) * 1 + 1 * 0 = 0; omega
  | ⟨1, _⟩ => show win0_7.index t (1 : Fin 2) * 1024 + 1 * j.val = j.val; omega

theorem block_b (t : Fin cfg0.N) (j : Fin 1024) :
    (iblk m c 8 t : S1x1024.Idx → EReal) (ix2 (0 : Fin 1) j) = (V m c main_v6 : S1x1024.Idx → EReal) (ix2 (0 : Fin 1) j) := by
  refine congrArg (V m c main_v6) (funext fun a => Fin.ext ?_)
  obtain ⟨e0, e1⟩ := (index_whole t).2.2.2.2
  match a with
  | ⟨0, _⟩ => show win0_8.index t (0 : Fin 2) * 1 + 1 * 0 = 0; omega
  | ⟨1, _⟩ => show win0_8.index t (1 : Fin 2) * 1024 + 1 * j.val = j.val; omega

/-! ## The result -/

/-- The result array: the layer norm of every row. -/
def G9 : Buf (Elt Ideal) ((c : Thread nD τ).loc main_v7) := fun i : S32768x1024.Idx =>
  norm (rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0)) (fun j => (m ((c : Thread nD τ).loc main_arg7) : S1024.Idx → EReal) (ix1 j))
    (fun j => (m ((c : Thread nD τ).loc main_arg8) : S1024.Idx → EReal) (ix1 j)) (i 1)

/-- Point `t` writes back rows `512 t …` of that array. -/
theorem flushed9_eq (t : Fin cfg0.N) : (dats m 0 c).flushed 9 t = ((cfg0.win 9).blk t).view.read (Elt Ideal) (G9 m c) := by
  rw [flushed9]
  have hN : cfg0.N = 64 := N_0
  obtain ⟨e0, e1⟩ := (index_rows t).2.2.2.2
  funext y
  have hy0 : (y 0).val < 512 := (y 0).isLt
  have hy1 : (y 1).val < 1024 := (y 1).isLt
  have ht := t.isLt
  have hx : (cfg0.win 9).xinj (grid0.coords t) y = ix2 (⟨(y 0).val, hy0⟩ : Fin 512) (⟨(y 1).val, hy1⟩ : Fin 1024) := by
    funext a
    match a with
    | ⟨0, _⟩ => rfl
    | ⟨1, _⟩ => rfl
  have hb : ((cfg0.win 9).blk t).view.emb y = ix2 (⟨t.val * 512 + (y 0).val, by omega⟩ : Fin 32768) (⟨(y 1).val, hy1⟩ : Fin 1024) := by
    funext a; apply Fin.ext
    match a with
    | ⟨0, _⟩ => show win0_9.index t (0 : Fin 2) * 512 + 1 * (y 0).val = t.val * 512 + (y 0).val; omega
    | ⟨1, _⟩ => show win0_9.index t (1 : Fin 2) * 1024 + 1 * (y 1).val = (y 1).val; omega
  show out0_9 (F := Ideal) _ _ _ _ _ _ _ _ _ ((cfg0.win 9).xinj (grid0.coords t) y) = G9 m c (((cfg0.win 9).blk t).view.emb y)
  rw [hx, hb, out_apply]
  unfold G9 rowOf
  exact row_congr (fun j => (block_x m c t _ j _ rfl).trans (V_x m c _ j)) (fun j => (block_ya m c t _ j _ rfl).trans (congrFun (V_main_arg0 m c) _))
    (fun j => (block_gate m c t _ j _ rfl).trans (congrFun (V_main_arg2 m c) _)) (fun j => (block_bias m c t j).trans (V_bias m c j))
    (fun k => (block_yn m c t _ k _ rfl).trans (congrFun (V_main_arg1 m c) _)) (fun k j => (block_ws m c t k j).trans (V_ws m c k j))
    (fun k j => (block_wo m c t k j).trans (V_wo m c k j)) (fun j => (block_g m c t j).trans (V_g m c j)) (fun j => (block_b m c t j).trans (V_b m c j)) _

theorem mem_blk9 (t : Fin cfg0.N) (i : S32768x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v7).slice (win0_9.rect t)).set ↔ _
  rw [View.set_slice_whole, Rect.mem_set_unit]
  exact Iff.rfl

/-- The points' blocks cover the array. -/
theorem covered9 (i : S32768x1024.Idx) : ∃ t : Fin cfg0.N, (cfg0.win 9).flush t = true ∧ i ∈ ((cfg0.win 9).blk t).view.set := by
  have hN : cfg0.N = 64 := N_0
  have h0 : (i 0).val < 32768 := (i 0).isLt
  have h1 : (i 1).val < 1024 := (i 1).isLt
  have ht : (i 0).val / 512 < cfg0.N := by omega
  obtain ⟨e0, e1⟩ := (index_rows ⟨(i 0).val / 512, ht⟩).2.2.2.2
  refine ⟨⟨(i 0).val / 512, ht⟩, (by decide +kernel : ∀ t : Fin grid0.N, win0_9.flush t = true) _, (mem_blk9 _ i).2 fun a => ?_⟩
  match a with
  | ⟨0, _⟩ => show win0_9.index _ (0 : Fin 2) * 512 ≤ (i 0).val ∧ (i 0).val < win0_9.index _ (0 : Fin 2) * 512 + 512; rw [e0]; dsimp only; omega
  | ⟨1, _⟩ => show win0_9.index _ (1 : Fin 2) * 1024 ≤ (i 1).val ∧ (i 1).val < win0_9.index _ (1 : Fin 2) * 1024 + 1024; rw [e1]; omega

/-- What the run leaves in the result array. -/
theorem final9 : (dats m 0 c).arrAt 9 cfg0.N = G9 m c :=
  (dats m 0 c).arrAt_eq_of_cover 9 _ (fun t _ => flushed9_eq m c t) covered9

/-- The reference's result array is that array, of the same arguments. -/
theorem same : Cert.Reference3Ideal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    = (dats m 0 c).arrAt 9 cfg0.N := by
  rw [final9]
  funext i
  have h : i = ix2 (i (0 : Fin 2)) (i (1 : Fin 2)) := eq_ix2 i
  rw [h]
  exact ref_norm _ _ _ _ _ _ _ _ _ _ _

end Cert.Kernel3Ideal.Merge

end
-- ==== Proof.GmlpTiles.lean ====
/- The gMLP kernel's body. It stores 32 tiles, of 128 rows and 128 columns, and multiplies what they make up by the output
   weights. Every tile is one function of its chunk of rows and its group of columns. -/
module

public import proofs.«01_k».proof.Proof.Gen.Kernel4Ideal.Value
public import Idealize.ShloMosaic.Lib.Pointwise
public import Idealize.ShloMosaic.Lib.ValueIdx
public import Idealize.ShloMosaic.Lib.Pipeline.ValueKit

@[expose] public section

set_option maxRecDepth 16384

noncomputable section

namespace Cert.Kernel4Ideal.Gmlp

open Cert.Kernel4Ideal Cert.Kernel4Ideal.Gen Cert.Kernel4Ideal.Value
open Idealize.ShloMosaic Idealize.ShloMosaic.TcCoe Idealize.ShloMosaic.Tactic Idealize.SL.Sem

section Tiles
variable {F : FTy → Type} [FloatOps F]

/-- Tile (chunk, group) from the chunk's rows `u` and `v` of the two halves, the group's mixing matrix and its bias. -/
def tile (g : Fin 8) (u : Vec F S128x1024 .f32) (v : Vec F S128x1024 .bf16) (w : Vec F S1x128x128 .bf16) (b : Vec F S128x128 .f32) : Vec F S128x128 .bf16 :=
  shapeCast S128x128 (truncf .bf16 (mulf
    (extractStridedSlice S128x128 ![0, 128 * g.val] u ((by decide : ∀ g : Fin 8, Shape.Slices S128x1024 ![0, 128 * g.val] S128x128) g))
    (addf (matmul dot_S128x128_S128x128_S128x128_1_0_0_1_n_n none (shapeCast S128x128 w shapeCasts_S1x128x128_S128x128)
        (extractStridedSlice S128x128 ![0, 128 * g.val] v ((by decide : ∀ g : Fin 8, Shape.Slices S128x1024 ![0, 128 * g.val] S128x128) g)) (constant S128x128 .f32 0x00000000#32))
      (shapeCast S128x128 b shapeCasts_S128x128_S128x128))) bitsLt_bf16_f32) shapeCasts_S128x128_S128x128

/-- The rows of chunk `q`. -/
abbrev chunkRows (q : Fin 4) : Rect S512x2048 :=
  Rect.unit ![128 * q.val, 0] S128x2048.size ((by decide : ∀ (q : Fin 4) a, (![128 * q.val, 0] : Fin 2 → Nat) a + S128x2048.size a ≤ S512x2048.size a) q)
/-- Group `g`'s mixing matrix, and its bias. -/
abbrev groupMat (g : Fin 8) : Rect S8x128x128 :=
  Rect.unit ![g.val, 0, 0] S1x128x128.size ((by decide : ∀ (g : Fin 8) a, (![g.val, 0, 0] : Fin 3 → Nat) a + S1x128x128.size a ≤ S8x128x128.size a) g)
abbrev groupBias (g : Fin 8) : Rect S128x1024 :=
  Rect.unit ![0, 128 * g.val] S128x128.size ((by decide : ∀ (g : Fin 8) a, (![0, 128 * g.val] : Fin 2 → Nat) a + S128x128.size a ≤ S128x1024.size a) g)

/-- Tile (q, g) from the point's blocks. -/
def tileOf (x0 : Vec F S512x2048 .bf16) (x2 x3 : Vec F S1x1024 .f32) (x4 : Vec F S8x128x128 .bf16) (x5 : Vec F S128x1024 .f32) (q : Fin 4) (g : Fin 8) :
    Vec F S128x128 .bf16 :=
  tile g (k0_pay3 (View.ld x0 (chunkRows q))) (k0_pay4 (View.ld x0 (chunkRows q)) x2 x3) (View.ld x4 (groupMat g)) (View.ld x5 (groupBias g))

/-- The array made of the tiles. -/
def ofTiles (T : Fin 4 → Fin 8 → Vec F S128x128 .bf16) : Vec F S512x1024 .bf16 := fun y =>
  T ⟨(y 0).val / 128, by have := (y 0).isLt; change (y 0).val < 512 at this; omega⟩ ⟨(y 1).val / 128, by have := (y 1).isLt; change (y 1).val < 1024 at this; omega⟩
    (ix2 (⟨(y 0).val % 128, Nat.mod_lt _ (by decide)⟩ : Fin 128) (⟨(y 1).val % 128, Nat.mod_lt _ (by decide)⟩ : Fin 128))

/-- The number of the tile that holds an index, in the order of the stores. -/
abbrev tileNo (y : S512x1024.Idx) : ℕ := 8 * ((y 0).val / 128) + (y 1).val / 128

/-- One more tile stored in front. -/
theorem tile_cons (T : Fin 4 → Fin 8 → Vec F S128x128 .bf16) {n o0 o1 : ℕ} (hn : n < 32) (h0 : o0 = 128 * (n / 8)) (h1 : o1 = 128 * (n % 8))
    (inb : ∀ a, (![o0, o1] : Fin 2 → Nat) a + S128x128.size a ≤ S512x1024.size a) (w : Vec F S128x128 .bf16)
    (L : List (View.Piece (Elt F) S512x1024 .bf16)) (hL : ∀ y : S512x1024.Idx, tileNo y < n → View.canon L y = ofTiles T y)
    (hw : w = T ⟨n / 8, by omega⟩ ⟨n % 8, Nat.mod_lt _ (by decide)⟩) :
    ∀ y : S512x1024.Idx, tileNo y < n + 1 →
      View.canon ((⟨Rect.unit ![o0, o1] S128x128.size inb, w⟩ : View.Piece (Elt F) S512x1024 .bf16) :: L) y = ofTiles T y := by
  intro y hy
  subst h0 h1
  have hy0 : (y 0).val < 512 := (y 0).isLt
  have hy1 : (y 1).val < 1024 := (y 1).isLt
  have hT : tileNo y = 8 * ((y 0).val / 128) + (y 1).val / 128 := rfl
  by_cases h : tileNo y = n
  · subst hw
    have e : y = (Rect.unit (s := S512x1024) ![128 * (n / 8), 128 * (n % 8)] S128x128.size inb).emb
        (ix2 (⟨(y 0).val % 128, Nat.mod_lt _ (by decide)⟩ : Fin 128) (⟨(y 1).val % 128, Nat.mod_lt _ (by decide)⟩ : Fin 128)) := by
      funext a
      match a with
      | ⟨0, _⟩ => exact Fin.ext (by show (y 0).val = 128 * (n / 8) + 1 * ((y 0).val % 128); omega)
      | ⟨1, _⟩ => exact Fin.ext (by show (y 1).val = 128 * (n % 8) + 1 * ((y 1).val % 128); omega)
    refine (congrArg _ e).trans ((View.canon_cons_emb _ _ _ _).trans ?_)
    exact congrArg₂ (fun q g => T q g _) (Fin.ext (by show n / 8 = (y 0).val / 128; omega)) (Fin.ext (by show n % 8 = (y 1).val / 128; omega))
  · have hm : y ∉ (Rect.unit (s := S512x1024) ![128 * (n / 8), 128 * (n % 8)] S128x128.size inb).set := fun hm => by
      rw [Rect.mem_set_unit] at hm
      have a0 := hm (0 : Fin 2)
      have a1 := hm (1 : Fin 2)
      change 128 * (n / 8) ≤ (y 0).val ∧ (y 0).val < 128 * (n / 8) + 128 at a0
      change 128 * (n % 8) ≤ (y 1).val ∧ (y 1).val < 128 * (n % 8) + 128 at a1
      omega
    exact (View.canon_cons_of_not_mem (⟨Rect.unit ![128 * (n / 8), 128 * (n % 8)] S128x128.size inb, w⟩ : View.Piece (Elt F) S512x1024 .bf16) L hm).trans (hL y (by omega))

/-- What the body leaves in the output's block. -/
theorem out_eq (c : Dev nD) (i : grid0.Coords) (arg1 : Memref sig .tc .vmem S512x2048 .bf16) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S128x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (x0 : Vec F S512x2048 .bf16) (x1 : Vec F S512x1024 .bf16) (x2 : Vec F S1x1024 .f32) (x3 : Vec F S1x1024 .f32) (x4 : Vec F S8x128x128 .bf16) (x5 : Vec F S128x1024 .f32) (x6 : Vec F S1024x1024 .bf16) (x7 : Vec F S1x1024 .f32) :
    out0_A_8 c i arg1 harg1 arg2 harg2 arg3 harg3 arg4 harg4 arg5 harg5 arg6 harg6 arg7 harg7 arg8 harg8 arg9 harg9 arg10 harg10 x0 x1 x2 x3 x4 x5 x6 x7 = k0_pay1 (k0_pay64 (ofTiles (tileOf x0 x2 x3 x4 x5)) x6) x1 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, View.readCov_eq_canon']
  refine (View.canon_cons_unit_zero (by decide) _ _ _).trans ?_
  rw [View.ld_unit_zero (S := S1x1024) (by decide) _ x2, View.ld_unit_zero (S := S1x1024) (by decide) _ x3, View.ld_unit_zero (S := S1x1024) (by decide) _ x7,
    View.ld_unit_zero (S := S512x1024) (by decide) _ x1, View.ld_unit_zero (S := S1024x1024) (by decide) _ x6]
  refine congrArg (fun z => k0_pay1 (k0_pay64 z x6) x1 x7) ?_
  refine (View.ld_unit_zero (S := S512x1024) (by decide) _ _).trans (funext fun y => ?_)
  have hy : tileNo y < 32 := by
    have hy0 : (y 0).val < 512 := (y 0).isLt
    have hy1 : (y 1).val < 1024 := (y 1).isLt
    have hT : tileNo y = 8 * ((y 0).val / 128) + (y 1).val / 128 := rfl
    omega
  revert y
  iterate 32 (refine tile_cons _ (by decide) (by decide) (by decide) _ _ _ ?_ rfl)
  exact fun _ h => absurd h (Nat.not_lt_zero _)

end Tiles

end Cert.Kernel4Ideal.Gmlp

end
-- ==== Proof.GmlpValue.lean ====
/- The value of the gMLP branch. At `Ideal`, row r of the kernel's result is
   `sigmoid(gate + bias) * ((u * (causal mixing of the chunk's normed v + bias)) @ w_out)`, of the GELU's two halves u and v. -/
module

public import proofs.«01_k».proof.Proof.GmlpTiles
public import proofs.«01_k».proof.Proof.MergeValue
public import proofs.«01_k».proof.Proof.Gen.Reference4Ideal.Read
public import Idealize.ShloMosaic.Lib.StableHlo.ReadAt

@[expose] public section

set_option maxRecDepth 16384

noncomputable section

namespace Cert.Kernel4Ideal.Gmlp

open Cert.Kernel4Ideal Cert.Kernel4Ideal.Gen Cert.Kernel4Ideal.Value
open Cert.Kernel3Ideal.Merge (centred)
open Idealize.ShloMosaic Idealize.ShloMosaic.TcCoe Idealize.SL.Sem Idealize.ShloMosaic.Tactic

/-! ## What a row becomes -/

/-- The GELU, in its approximation by the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The first half of a row, and the layer norm of the second, after the GELU. -/
def half (R : Fin 2048 → EReal) (j : Fin 1024) : EReal := gelu (R ⟨j.val, by omega⟩)
def normed (R : Fin 2048 → EReal) (g b : Fin 1024 → EReal) : Fin 1024 → EReal := Kernel3Ideal.Merge.norm (fun j => gelu (R ⟨1024 + j.val, by omega⟩)) g b

/-- Row `t` of a chunk `R` of 128 rows, after the mixing of the chunk's rows by the column's group. -/
def gated (R : Fin 128 → Fin 2048 → EReal) (g b : Fin 1024 → EReal) (W : Fin 8 → Fin 128 → Fin 128 → EReal) (B : Fin 8 → Fin 128 → EReal) (t : Fin 128) (j : Fin 1024) : EReal :=
  half (R t) j * ((∑ s, W ⟨j.val / 128, by omega⟩ t s * normed (R s) g b j) + B ⟨j.val / 128, by omega⟩ t)

/-- The branch's output row, from the gate's row and bias, the mixed row and the output weights. -/
def branch (gate bias p : Fin 1024 → EReal) (w : Fin 1024 → Fin 1024 → EReal) (j : Fin 1024) : EReal :=
  Ideal.logistic (gate j + bias j) * ∑ k, p k * w k j

/-! ## What a point leaves -/

theorem pay2_apply (x : S128x2048.Idx → EReal) (i : Fin 128) (j : Fin 2048) : k0_pay2 (F := Ideal) x (ix2 i j) = gelu (x (ix2 i j)) := by
  unfold k0_pay2 gelu
  pointwise

theorem pay3_apply (x : S128x2048.Idx → EReal) (i : Fin 128) (j : Fin 1024) : k0_pay3 (F := Ideal) x (ix2 i j) = half (fun k => x (ix2 i k)) j := by
  unfold k0_pay3 half
  pointwise
  simp only [pay2_apply]

theorem pay4_apply (x : S128x2048.Idx → EReal) (g b : S1x1024.Idx → EReal) (i : Fin 128) (j : Fin 1024) :
    k0_pay4 (F := Ideal) x g b (ix2 i j) = normed (fun k => x (ix2 i k)) (fun j => g (ix2 (0 : Fin 1) j)) (fun j => b (ix2 (0 : Fin 1) j)) j := by
  unfold k0_pay4 normed Kernel3Ideal.Merge.norm centred
  pointwise
  simp only [pay2_apply]

theorem tile_apply (g : Fin 8) (u v : S128x1024.Idx → EReal) (w : S1x128x128.Idx → EReal) (b : S128x128.Idx → EReal) (t e : Fin 128) :
    tile (F := Ideal) g u v w b (ix2 t e)
      = u (ix2 t (⟨128 * g.val + e.val, by omega⟩ : Fin 1024)) * ((∑ s : Fin 128, w (ix3 (0 : Fin 1) t s) * v (ix2 s (⟨128 * g.val + e.val, by omega⟩ : Fin 1024))) + b (ix2 t e)) := by
  unfold tile
  pointwise [dot_S128x128_S128x128_S128x128_1_0_0_1_n_n]

theorem pay64_apply (p : S512x1024.Idx → EReal) (w : S1024x1024.Idx → EReal) (gate : S512x1024.Idx → EReal) (bias : S1x1024.Idx → EReal) (i : Fin 512) (j : Fin 1024) :
    k0_pay1 (F := Ideal) (k0_pay64 p w) gate bias (ix2 i j)
      = branch (fun j => gate (ix2 i j)) (fun j => bias (ix2 (0 : Fin 1) j)) (fun k => p (ix2 i k)) (fun k j => w (ix2 k j)) j := by
  unfold k0_pay1 k0_pay64 branch
  pointwise [dot_S512x1024_S1024x1024_S512x1024_1_0_0_1_n_n]

/-- The tiles make up the mixed rows of the point's four chunks. -/
theorem tiles_apply (x0 : S512x2048.Idx → EReal) (x2 x3 : S1x1024.Idx → EReal) (x4 : S8x128x128.Idx → EReal) (x5 : S128x1024.Idx → EReal) (i : Fin 512) (j : Fin 1024)
    (B : Fin 8 → Fin 128 → EReal) (hB : ∀ (t : Fin 128) (j : Fin 1024), x5 (ix2 t j) = B ⟨j.val / 128, by omega⟩ t) :
    ofTiles (F := Ideal) (tileOf x0 x2 x3 x4 x5) (ix2 i j)
      = gated (fun s k => x0 (ix2 (⟨128 * (i.val / 128) + s.val, by omega⟩ : Fin 512) k)) (fun j => x2 (ix2 (0 : Fin 1) j)) (fun j => x3 (ix2 (0 : Fin 1) j))
          (fun g t s => x4 (ix3 g t s)) B ⟨i.val % 128, by omega⟩ j := by
  have hq : ∀ (s : Fin 128) (k : Fin 2048), View.ld (Val := Elt Ideal) (e' := .bf16) x0 (chunkRows ⟨i.val / 128, by omega⟩) (ix2 s k)
      = x0 (ix2 (⟨128 * (i.val / 128) + s.val, by omega⟩ : Fin 512) k) := fun s k => congrArg x0 (funext fun a => by
    match a with
    | ⟨0, _⟩ => exact Fin.ext (by show 128 * (i.val / 128) + 1 * s.val = 128 * (i.val / 128) + s.val; omega)
    | ⟨1, _⟩ => exact Fin.ext (by show 0 + 1 * k.val = k.val; omega))
  have hw : ∀ t s : Fin 128, View.ld (Val := Elt Ideal) (e' := .bf16) x4 (groupMat ⟨j.val / 128, by omega⟩) (ix3 (0 : Fin 1) t s) = x4 (ix3 (⟨j.val / 128, by omega⟩ : Fin 8) t s) :=
    fun t s => congrArg x4 (funext fun a => by
      match a with
      | ⟨0, _⟩ => exact Fin.ext (by show j.val / 128 + 1 * 0 = j.val / 128; omega)
      | ⟨1, _⟩ => exact Fin.ext (by show 0 + 1 * t.val = t.val; omega)
      | ⟨2, _⟩ => exact Fin.ext (by show 0 + 1 * s.val = s.val; omega))
  have hb : ∀ t : Fin 128, View.ld (Val := Elt Ideal) (e' := .f32) x5 (groupBias ⟨j.val / 128, by omega⟩) (ix2 t (⟨j.val % 128, by omega⟩ : Fin 128)) = x5 (ix2 t j) :=
    fun t => congrArg x5 (funext fun a => by
      match a with
      | ⟨0, _⟩ => exact Fin.ext (by show 0 + 1 * t.val = t.val; omega)
      | ⟨1, _⟩ => exact Fin.ext (by show 128 * (j.val / 128) + 1 * (j.val % 128) = j.val; omega))
  have hj : (⟨128 * (j.val / 128) + j.val % 128, by omega⟩ : Fin 1024) = j := Fin.ext (by show 128 * (j.val / 128) + j.val % 128 = j.val; omega)
  have hT : ofTiles (F := Ideal) (tileOf x0 x2 x3 x4 x5) (ix2 i j) = tile (F := Ideal) ⟨j.val / 128, by omega⟩
      (k0_pay3 (F := Ideal) (View.ld (Val := Elt Ideal) (e' := .bf16) x0 (chunkRows ⟨i.val / 128, by omega⟩)))
      (k0_pay4 (F := Ideal) (View.ld (Val := Elt Ideal) (e' := .bf16) x0 (chunkRows ⟨i.val / 128, by omega⟩)) x2 x3)
      (View.ld (Val := Elt Ideal) (e' := .bf16) x4 (groupMat ⟨j.val / 128, by omega⟩)) (View.ld (Val := Elt Ideal) (e' := .f32) x5 (groupBias ⟨j.val / 128, by omega⟩))
      (ix2 (⟨i.val % 128, by omega⟩ : Fin 128) (⟨j.val % 128, by omega⟩ : Fin 128)) := rfl
  rw [hT, tile_apply, hj]
  simp only [pay3_apply, pay4_apply, hq, hw, hb, hB]
  rfl

/-- Equal operands give equal rows. -/
theorem row_congr {R R' : Fin 128 → Fin 2048 → EReal} {g g' b b' gate gate' bias bias' : Fin 1024 → EReal} {W W' : Fin 8 → Fin 128 → Fin 128 → EReal}
    {B : Fin 8 → Fin 128 → EReal} {w w' : Fin 1024 → Fin 1024 → EReal} (hgate : ∀ j, gate j = gate' j) (hbias : ∀ j, bias j = bias' j)
    (hR : ∀ s k, R s k = R' s k) (hg : ∀ j, g j = g' j) (hb : ∀ j, b j = b' j) (hW : ∀ g t s, W g t s = W' g t s) (hw : ∀ k j, w k j = w' k j) (t : Fin 128) (j : Fin 1024) :
    branch gate bias (gated R g b W B t) w j = branch gate' bias' (gated R' g' b' W' B t) w' j := by
  rw [funext hgate, funext hbias, funext fun s => funext (hR s), funext hg, funext hb, funext fun g => funext fun t => funext (hW g t), funext fun k => funext (hw k)]

/-! ## The reference -/

section Ref
open Cert.Reference4Ideal.Read
variable (y0 : S32768x10240.Idx → EReal) (y1 : S2048.Idx → EReal) (y2 y3 : S1024.Idx → EReal) (y4 : S8x128x128.Idx → EReal) (y5 : S8x128.Idx → EReal) (y6 : S1024x1024.Idx → EReal)

/-- The group's mixing matrix, its entries above the diagonal replaced by zero. -/
def causal (g : Fin 8) (t s : Fin 128) : EReal := if s.val ≤ t.val then y4 (ix3 g t s) else Ideal.ofBits .f32 0x00000000#32

/-- Row `r` of the result, from the arguments. -/
def rowOf (r : Fin 32768) : Fin 1024 → EReal :=
  branch (fun j => y0 (ix2 r (⟨8192 + j.val, by omega⟩ : Fin 10240))) (fun j => y1 (ix1 (⟨j.val, by omega⟩ : Fin 2048)))
    (gated (fun s k => y0 (ix2 (⟨128 * (r.val / 128) + s.val, by omega⟩ : Fin 32768) (⟨k.val, by omega⟩ : Fin 10240))) (fun j => y2 (ix1 j)) (fun j => y3 (ix1 j))
      (causal y4) (fun g t => y5 (ix2 g t)) ⟨r.val % 128, by omega⟩)
    (fun k j => y6 (ix2 k j))

theorem ref_gelu (b : Fin 16) (s k : Fin 2048) :
    val_main_v15 (F := Ideal) y0 (ix3 b s k) = gelu (y0 (ix2 (⟨b.val * 2048 + s.val, by omega⟩ : Fin 32768) (⟨k.val, by omega⟩ : Fin 10240))) := by
  unfold val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 gelu
  pointwise
  rw [mul_comm (y0 _ * y0 _)]

theorem ref_norm (b : Fin 16) (s : Fin 2048) (j : Fin 1024) :
    val_main_v41 (F := Ideal) y0 y2 y3 (ix3 b s j)
      = normed (fun k => y0 (ix2 (⟨b.val * 2048 + s.val, by omega⟩ : Fin 32768) (⟨k.val, by omega⟩ : Fin 10240))) (fun j => y2 (ix1 j)) (fun j => y3 (ix1 j)) j := by
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_cst_3 val_main_cst_4 val_main_cst_5 val_main_cst_6 val_main_cst_7 normed Kernel3Ideal.Merge.norm centred
  pointwise
  simp only [ref_gelu]

/-- The mask, as the programs compute it from the two indices. -/
theorem masked (t s : Fin 128) (x y : EReal) :
    Scalar.select (Scalar.select (IntOp.cmpi .sge (IntOp.addi (BitVec.ofNat 32 t.val) 0#32) (BitVec.ofNat 32 s.val)) 1#1 0#1) x y = if s.val ≤ t.val then x else y := by
  rw [show IntOp.addi (BitVec.ofNat 32 t.val) 0#32 = BitVec.ofNat 32 t.val from BitVec.add_zero _, WordCmp.cmpi_sge_ofNat (by omega) (by omega)]
  by_cases h : s.val ≤ t.val
  · rw [decide_eq_true h, if_pos h]; rfl
  · rw [decide_eq_false h, if_neg h]; rfl

theorem ref_causal (g : Fin 8) (t s : Fin 128) : val_main_v47 (F := Ideal) y4 (ix3 g t s) = causal y4 g t s := by
  unfold val_main_v47 val_main_v46 val_main_call1_v0 val_main_v45 val_main_v44 val_main_v43 val_main_call0_v5 val_main_call0_v4 val_main_call0_v3 val_main_call0_v2 val_main_call0_v1 val_main_call0_v0 val_main_call0_c val_main_call0_c_0 val_main_c val_main_cst_8 causal
  pointwise
  exact masked t s _ _

theorem ref_mix (b c : Fin 16) (t : Fin 128) (g : Fin 8) (d : Fin 128) :
    val_main_v53 (F := Ideal) y0 y2 y3 y4 y5 (ix5 b c t g d)
      = (∑ s : Fin 128, causal y4 g t s * normed (fun k => y0 (ix2 (⟨b.val * 2048 + (c.val * 128 + s.val), by omega⟩ : Fin 32768) (⟨k.val, by omega⟩ : Fin 10240))) (fun j => y2 (ix1 j)) (fun j => y3 (ix1 j)) ⟨g.val * 128 + d.val, by omega⟩)
        + y5 (ix2 g t) := by
  unfold val_main_v53 val_main_v52 val_main_v51 val_main_v50 val_main_v49 val_main_v48 val_main_v42
  pointwise [Cert.Reference4Ideal.dot_S16x16x128x8x128_S8x128x128_S8x16x16x128x128_2_2_014_1_3_0]
  simp only [ref_norm, ref_causal, mul_comm (normed _ _ _ _)]

theorem ref_gated (b : Fin 16) (s : Fin 2048) (j : Fin 1024) :
    val_main_v55 (F := Ideal) y0 y2 y3 y4 y5 (ix3 b s j)
      = gated (fun s' k => y0 (ix2 (⟨b.val * 2048 + (s.val / 128 * 128 + s'.val), by omega⟩ : Fin 32768) (⟨k.val, by omega⟩ : Fin 10240))) (fun j => y2 (ix1 j)) (fun j => y3 (ix1 j))
        (causal y4) (fun g t => y5 (ix2 g t)) ⟨s.val % 128, by omega⟩ j := by
  unfold val_main_v55 val_main_v54 val_main_v16 gated half
  pointwise
  simp only [ref_gelu, ref_mix, Nat.div_add_mod']

theorem ref_out (r : Fin 32768) (j : Fin 1024) :
    val_main_v70 (F := Ideal) y0 y1 y2 y3 y4 y5 y6 (ix2 r j) = rowOf y0 y1 y2 y3 y4 y5 y6 r j := by
  unfold val_main_v70 val_main_v69 val_main_v68 val_main_v67 val_main_v66 val_main_v65 val_main_v64 val_main_v63 val_main_v62 val_main_v61 val_main_v60 val_main_v59 val_main_v58 val_main_v57 val_main_v56 val_main_cst_9 val_main_cst_10 rowOf
  pointwise [Cert.Reference4Ideal.dot_S16x2048x1024_S1024x1024_S16x2048x1024_2_0_01_1_n_n]
  simp only [ref_gated]
  have ht : (⟨r.val % 2048 % 128, by omega⟩ : Fin 128) = ⟨r.val % 128, by omega⟩ := Fin.ext (by dsimp only; omega)
  rw [ht]
  exact row_congr (gate := fun j => y0 (ix2 r (⟨8192 + j.val, by omega⟩ : Fin 10240))) (bias := fun j => y1 (ix1 (⟨j.val, by omega⟩ : Fin 2048)))
    (R := fun s k => y0 (ix2 (⟨r.val / 2048 * 2048 + (r.val % 2048 / 128 * 128 + s.val), by omega⟩ : Fin 32768) (⟨k.val, by omega⟩ : Fin 10240)))
    (g := fun j => y2 (ix1 j)) (b := fun j => y3 (ix1 j)) (W := causal y4) (w := fun k j => y6 (ix2 k j)) (fun _ => rfl) (fun _ => rfl)
    (fun s k => congrArg (fun a => y0 (ix2 a _)) (Fin.ext (by dsimp only; omega))) (fun _ => rfl) (fun _ => rfl) (fun _ _ _ => rfl) (fun _ _ => rfl) _ j
end Ref

/-! ## The arrays the pipeline stages -/

variable (m : (ℓ : Loc nD τ sig) → Buf (Elt Ideal) ℓ) (c : Dev nD)

theorem V_mat (g : Fin 8) (t s : Fin 128) :
    (V m c main_v4 : S8x128x128.Idx → EReal) (ix3 g t s) = causal (m ((c : Thread nD τ).loc main_arg4)) g t s := by
  unfold V causal
  after_reads_at
  exact (masked t s _ _).trans (if_congr Iff.rfl rfl (by show Ideal.ofBits .f32 0x00000000#32 = 0; pointwise))

theorem V_groupBias (t : Fin 128) (j : Fin 1024) :
    (V m c main_v7 : S128x1024.Idx → EReal) (ix2 t j) = (m ((c : Thread nD τ).loc main_arg5) : S8x128.Idx → EReal) (ix2 (⟨j.val / 128, by omega⟩ : Fin 8) t) := by
  unfold V
  after_reads_at

theorem V_g (j : Fin 1024) : (V m c main_v8 : S1x1024.Idx → EReal) (ix2 (0 : Fin 1) j) = (m ((c : Thread nD τ).loc main_arg2) : S1024.Idx → EReal) (ix1 j) := by
  unfold V
  after_reads_at

theorem V_b (j : Fin 1024) : (V m c main_v9 : S1x1024.Idx → EReal) (ix2 (0 : Fin 1) j) = (m ((c : Thread nD τ).loc main_arg3) : S1024.Idx → EReal) (ix1 j) := by
  unfold V
  after_reads_at

theorem V_w (k j : Fin 1024) : (V m c main_v10 : S1024x1024.Idx → EReal) (ix2 k j) = (m ((c : Thread nD τ).loc main_arg6) : S1024x1024.Idx → EReal) (ix2 k j) := by
  unfold V
  after_reads_at

theorem V_bias (j : Fin 1024) :
    (V m c main_v12 : S1x1024.Idx → EReal) (ix2 (0 : Fin 1) j) = (m ((c : Thread nD τ).loc main_arg1) : S2048.Idx → EReal) (ix1 (⟨j.val, by omega⟩ : Fin 2048)) := by
  unfold V
  after_reads_at

theorem index_rows : ∀ t : Fin cfg0.N, (win0_0.index t (0 : Fin 2) = t.val ∧ win0_0.index t (1 : Fin 2) = 0) ∧ (win0_1.index t (0 : Fin 2) = t.val ∧ win0_1.index t (1 : Fin 2) = 8)
    ∧ (win0_8.index t (0 : Fin 2) = t.val ∧ win0_8.index t (1 : Fin 2) = 0) :=
  (by decide +kernel : ∀ t : Fin grid0.N, _)
theorem index_whole : ∀ t : Fin cfg0.N, (win0_2.index t (0 : Fin 2) = 0 ∧ win0_2.index t (1 : Fin 2) = 0) ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0) :=
  (by decide +kernel : ∀ t : Fin grid0.N, _)

theorem block_uv (t : Fin cfg0.N) (i : Fin 512) (j : Fin 2048) (r : Fin 32768) (hr : r.val = t.val * 512 + i.val) :
    (iblk m c 0 t : S512x2048.Idx → EReal) (ix2 i j) = (V m c main_arg0 : S32768x10240.Idx → EReal) (ix2 r (⟨j.val, by omega⟩ : Fin 10240)) := by
  refine congrArg (V m c main_arg0) (funext fun a => Fin.ext ?_)
  obtain ⟨e0, e1⟩ := (index_rows t).1
  match a with
  | ⟨0, _⟩ => show win0_0.index t (0 : Fin 2) * 512 + 1 * i.val = r.val; omega
  | ⟨1, _⟩ => show win0_0.index t (1 : Fin 2) * 2048 + 1 * j.val = j.val; omega

theorem block_gate (t : Fin cfg0.N) (i : Fin 512) (j : Fin 1024) (r : Fin 32768) (hr : r.val = t.val * 512 + i.val) :
    (iblk m c 1 t : S512x1024.Idx → EReal) (ix2 i j) = (V m c main_arg0 : S32768x10240.Idx → EReal) (ix2 r (⟨8192 + j.val, by omega⟩ : Fin 10240)) := by
  refine congrArg (V m c main_arg0) (funext fun a => Fin.ext ?_)
  obtain ⟨e0, e1⟩ := (index_rows t).2.1
  match a with
  | ⟨0, _⟩ => show win0_1.index t (0 : Fin 2) * 512 + 1 * i.val = r.val; omega
  | ⟨1, _⟩ => show win0_1.index t (1 : Fin 2) * 1024 + 1 * j.val = 8192 + j.val; omega

theorem block_g (t : Fin cfg0.N) (j : Fin 1024) :
    (iblk m c 2 t : S1x1024.Idx → EReal) (ix2 (0 : Fin 1) j) = (V m c main_v8 : S1x1024.Idx → EReal) (ix2 (0 : Fin 1) j) := by
  refine congrArg (V m c main_v8) (funext fun a => Fin.ext ?_)
  obtain ⟨e0, e1⟩ := (index_whole t).1
  match a with
  | ⟨0, _⟩ => show win0_2.index t (0 : Fin 2) * 1 + 1 * 0 = 0; omega
  | ⟨1, _⟩ => show win0_2.index t (1 : Fin 2) * 1024 + 1 * j.val = j.val; omega

theorem block_b (t : Fin cfg0.N) (j : Fin 1024) :
    (iblk m c 3 t : S1x1024.Idx → EReal) (ix2 (0 : Fin 1) j) = (V m c main_v9 : S1x1024.Idx → EReal) (ix2 (0 : Fin 1) j) := by
  refine congrArg (V m c main_v9) (funext fun a => Fin.ext ?_)
  obtain ⟨e0, e1⟩ := (index_whole t).2.1
  match a with
  | ⟨0, _⟩ => show win0_3.index t (0 : Fin 2) * 1 + 1 * 0 = 0; omega
  | ⟨1, _⟩ => show win0_3.index t (1 : Fin 2) * 1024 + 1 * j.val = j.val; omega

theorem block_mat (t : Fin cfg0.N) (g : Fin 8) (i s : Fin 128) :
    (iblk m c 4 t : S8x128x128.Idx → EReal) (ix3 g i s) = (V m c main_v4 : S8x128x128.Idx → EReal) (ix3 g i s) := by
  refine congrArg (V m c main_v4) (funext fun a => Fin.ext ?_)
  obtain ⟨e0, e1, e2⟩ := (index_whole t).2.2.1
  match a with
  | ⟨0, _⟩ => show win0_4.index t (0 : Fin 3) * 8 + 1 * g.val = g.val; omega
  | ⟨1, _⟩ => show win0_4.index t (1 : Fin 3) * 128 + 1 * i.val = i.val; omega
  | ⟨2, _⟩ => show win0_4.index t (2 : Fin 3) * 128 + 1 * s.val = s.val; omega

theorem block_groupBias (t : Fin cfg0.N) (i : Fin 128) (j : Fin 1024) :
    (iblk m c 5 t : S128x1024.Idx → EReal) (ix2 i j) = (V m c main_v7 : S128x1024.Idx → EReal) (ix2 i j) := by
  refine congrArg (V m c main_v7) (funext fun a => Fin.ext ?_)
  obtain ⟨e0, e1⟩ := (index_whole t).2.2.2.1
  match a with
  | ⟨0, _⟩ => show win0_5.index t (0 : Fin 2) * 128 + 1 * i.val = i.val; omega
  | ⟨1, _⟩ => show win0_5.index t (1 : Fin 2) * 1024 + 1 * j.val = j.val; omega

theorem block_w (t : Fin cfg0.N) (k j : Fin 1024) :
    (iblk m c 6 t : S1024x1024.Idx → EReal) (ix2 k j) = (V m c main_v10 : S1024x1024.Idx → EReal) (ix2 k j) := by
  refine congrArg (V m c main_v10) (funext fun a => Fin.ext ?_)
  obtain ⟨e0, e1⟩ := (index_whole t).2.2.2.2.1
  match a with
  | ⟨0, _⟩ => show win0_6.index t (0 : Fin 2) * 1024 + 1 * k.val = k.val; omega
  | ⟨1, _⟩ => show win0_6.index t (1 : Fin 2) * 1024 + 1 * j.val = j.val; omega

theorem block_bias (t : Fin cfg0.N) (j : Fin 1024) :
    (iblk m c 7 t : S1x1024.Idx → EReal) (ix2 (0 : Fin 1) j) = (V m c main_v12 : S1x1024.Idx → EReal) (ix2 (0 : Fin 1) j) := by
  refine congrArg (V m c main_v12) (funext fun a => Fin.ext ?_)
  obtain ⟨e0, e1⟩ := (index_whole t).2.2.2.2.2
  match a with
  | ⟨0, _⟩ => show win0_7.index t (0 : Fin 2) * 1 + 1 * 0 = 0; omega
  | ⟨1, _⟩ => show win0_7.index t (1 : Fin 2) * 1024 + 1 * j.val = j.val; omega

/-! ## The result -/

/-- The result array: the branch's output row for every row. -/
def G8 : Buf (Elt Ideal) ((c : Thread nD τ).loc main_v13) := fun i : S32768x1024.Idx =>
  rowOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (i 0) (i 1)

/-- Row `i` of what point `t` leaves is row `512 t + i` of that array. -/
theorem point_row (t : Fin cfg0.N) (i : Fin 512) (j : Fin 1024) (r : Fin 32768) (hr : r.val = t.val * 512 + i.val) :
    k0_pay1 (F := Ideal) (k0_pay64 (F := Ideal) (ofTiles (F := Ideal) (tileOf (F := Ideal) (iblk m c 0 t) (iblk m c 2 t) (iblk m c 3 t) (iblk m c 4 t) (iblk m c 5 t))) (iblk m c 6 t))
        (iblk m c 1 t) (iblk m c 7 t) (ix2 i j) = G8 m c (ix2 r j) := by
  refine (pay64_apply _ _ _ _ i j).trans ?_
  rw [funext fun k => tiles_apply (iblk m c 0 t) (iblk m c 2 t) (iblk m c 3 t) (iblk m c 4 t) (iblk m c 5 t) i k
    (fun g s => (m ((c : Thread nD τ).loc main_arg5) : S8x128.Idx → EReal) (ix2 g s)) fun s j => (block_groupBias m c t s j).trans (V_groupBias m c s j)]
  have hi : (⟨i.val % 128, by omega⟩ : Fin 128) = ⟨r.val % 128, by omega⟩ := Fin.ext (by dsimp only; omega)
  rw [hi]
  exact row_congr (fun j => (block_gate m c t i j r hr).trans (congrFun (V_main_arg0 m c) _)) (fun j => (block_bias m c t j).trans (V_bias m c j))
    (fun s k => (block_uv m c t _ k ⟨128 * (r.val / 128) + s.val, by omega⟩ (by dsimp only; omega)).trans (congrFun (V_main_arg0 m c) _))
    (fun j => (block_g m c t j).trans (V_g m c j)) (fun j => (block_b m c t j).trans (V_b m c j)) (fun g s k => (block_mat m c t g s k).trans (V_mat m c g s k))
    (fun k j => (block_w m c t k j).trans (V_w m c k j)) _ j

/-- Point `t` writes back rows `512 t …` of that array. -/
theorem flushed8_eq (t : Fin cfg0.N) : (dats m 0 c).flushed 8 t = ((cfg0.win 8).blk t).view.read (Elt Ideal) (G8 m c) := by
  rw [flushed8_A, out_eq]
  have hN : cfg0.N = 64 := N_0
  obtain ⟨e0, e1⟩ := (index_rows t).2.2
  funext y
  have hy0 : (y 0).val < 512 := (y 0).isLt
  have hy1 : (y 1).val < 1024 := (y 1).isLt
  have ht := t.isLt
  have hx : (cfg0.win 8).xinj (grid0.coords t) y = ix2 (⟨(y 0).val, hy0⟩ : Fin 512) (⟨(y 1).val, hy1⟩ : Fin 1024) := by
    funext a
    match a with
    | ⟨0, _⟩ => rfl
    | ⟨1, _⟩ => rfl
  have hb : ((cfg0.win 8).blk t).view.emb y = ix2 (⟨t.val * 512 + (y 0).val, by omega⟩ : Fin 32768) (⟨(y 1).val, hy1⟩ : Fin 1024) := by
    funext a; apply Fin.ext
    match a with
    | ⟨0, _⟩ => show win0_8.index t (0 : Fin 2) * 512 + 1 * (y 0).val = t.val * 512 + (y 0).val; omega
    | ⟨1, _⟩ => show win0_8.index t (1 : Fin 2) * 1024 + 1 * (y 1).val = (y 1).val; omega
  show k0_pay1 (F := Ideal) _ _ _ ((cfg0.win 8).xinj (grid0.coords t) y) = G8 m c (((cfg0.win 8).blk t).view.emb y)
  rw [hx, hb]
  exact point_row m c t _ _ _ rfl

theorem mem_blk8 (t : Fin cfg0.N) (i : S32768x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v13).slice (win0_8.rect t)).set ↔ _
  rw [View.set_slice_whole, Rect.mem_set_unit]
  exact Iff.rfl

/-- The points' blocks cover the array. -/
theorem covered8 (i : S32768x1024.Idx) : ∃ t : Fin cfg0.N, (cfg0.win 8).flush t = true ∧ i ∈ ((cfg0.win 8).blk t).view.set := by
  have hN : cfg0.N = 64 := N_0
  have h0 : (i 0).val < 32768 := (i 0).isLt
  have h1 : (i 1).val < 1024 := (i 1).isLt
  have ht : (i 0).val / 512 < cfg0.N := by omega
  obtain ⟨e0, e1⟩ := (index_rows ⟨(i 0).val / 512, ht⟩).2.2
  refine ⟨⟨(i 0).val / 512, ht⟩, (by decide +kernel : ∀ t : Fin grid0.N, win0_8.flush t = true) _, (mem_blk8 _ i).2 fun a => ?_⟩
  match a with
  | ⟨0, _⟩ => show win0_8.index _ (0 : Fin 2) * 512 ≤ (i 0).val ∧ (i 0).val < win0_8.index _ (0 : Fin 2) * 512 + 512; rw [e0]; dsimp only; omega
  | ⟨1, _⟩ => show win0_8.index _ (1 : Fin 2) * 1024 ≤ (i 1).val ∧ (i 1).val < win0_8.index _ (1 : Fin 2) * 1024 + 1024; rw [e1]; omega

/-- What the run leaves in the result array. -/
theorem final8 : (dats m 0 c).arrAt 8 cfg0.N = G8 m c :=
  (dats m 0 c).arrAt_eq_of_cover 8 _ (fun t _ => flushed8_eq m c t) covered8

/-- The reference's result array is that array, of the same arguments. -/
theorem same : Cert.Reference4Ideal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    = (dats m 0 c).arrAt 8 cfg0.N := by
  rw [final8]
  funext i
  have h : i = ix2 (i (0 : Fin 2)) (i (1 : Fin 2)) := eq_ix2 i
  rw [h]
  exact ref_out _ _ _ _ _ _ _ _ _

end Cert.Kernel4Ideal.Gmlp

end
-- ==== Proof.PackValue.lean ====
/- The value of the packing of the experts' first table: word (r, j) of the result has row 2r + 1 of the table, rounded to bf16,
   in its high half and row 2r in its low half, each at column j. -/
module

public import proofs.«01_k».proof.Proof.Gen.Kernel5.Value
public import proofs.«01_k».proof.Proof.Gen.Reference5.Read
public import Idealize.ShloMosaic.Lib.Pointwise
public import Idealize.ShloMosaic.Lib.BitcastPair
public import Idealize.ShloMosaic.Lib.BitcastConvert
public import Idealize.ShloMosaic.Lib.ValueIdx
public import Idealize.ShloMosaic.Lib.Pipeline.ValueKit

@[expose] public section

set_option maxRecDepth 16384

noncomputable section

namespace Cert.Kernel5.Pack

open Cert.Kernel5 Cert.Kernel5.Gen Cert.Kernel5.Value
open Idealize.ShloMosaic Idealize.ShloMosaic.TcCoe Idealize.SL.Sem Idealize.ShloMosaic.Tactic

variable {F : FTy → Type} [BitOps F]

/-- The bits of a number rounded to bf16. -/
def half (v : F .f32) : BitVec 16 := BitOps.toBits (FloatOps.truncf .bf16 bitsLt_bf16_f32 v)

/-- Two numbers in one word, `lo` in the low half. -/
def word (lo hi : F .f32) : BitVec 32 := half hi ++ half lo

/-! ## What a point leaves -/

theorem pay1_apply (x : S1024x1024.Idx → F .f32) (i : Fin 512) (j : Fin 1024) :
    k0_pay1 (F := F) x (ix2 i j) = word (x (ix2 (⟨2 * i.val, by omega⟩ : Fin 1024) j)) (x (ix2 (⟨2 * i.val + 1, by omega⟩ : Fin 1024) j)) := by
  unfold k0_pay1
  refine (bitcast_16_32 _ bitcasts_S1024x1024_w16_S512x1024_w32 (ix2 i j)).trans ?_
  unfold word
  refine congrArg₂ (fun a b : BitVec 16 => a ++ b) (congrArg (fun k => half (x k)) (funext fun a => ?_)) (congrArg (fun k => half (x k)) (funext fun a => ?_)) <;>
  match a with
  | ⟨0, _⟩ => exact Fin.ext (Shape.Bitcasts.srcIdx_row _ _ _ _ ⟨0, Nat.zero_lt_two⟩ rfl)
  | ⟨1, _⟩ => exact Fin.ext (Shape.Bitcasts.srcIdx_other _ _ _ _ ⟨1, Nat.one_lt_two⟩ (by show ¬ 1 + 2 = 2; omega))

theorem out_apply (x : S1024x1024.Idx → F .f32) (i : Fin 512) (j : Fin 1024) :
    out0_1 (F := F) x (ix2 i j) = word (x (ix2 (⟨2 * i.val, by omega⟩ : Fin 1024) j)) (x (ix2 (⟨2 * i.val + 1, by omega⟩ : Fin 1024) j)) := by
  unfold out0_1 r0_0
  rw [View.ld_unit_zero (by decide)]
  exact (congrFun (View.canon_cons_unit_zero (by decide) _ _ _) _).trans (pay1_apply x i j)

/-! ## The reference -/

theorem ref_apply (y : S16384x1024.Idx → F .f32) (r : Fin 8192) (j : Fin 1024) :
    Cert.Reference5.Read.val_main_v3 (F := F) y (ix2 r j) = word (y (ix2 (⟨2 * r.val, by omega⟩ : Fin 16384) j)) (y (ix2 (⟨2 * r.val + 1, by omega⟩ : Fin 16384) j)) := by
  unfold Cert.Reference5.Read.val_main_v3
  refine (Host.bitcastConvertWiden_apply_16_32 _ _ _ _).trans ?_
  unfold word
  refine congrArg₂ (fun a b : BitVec 16 => a ++ b) ?_ ?_ <;>
  · show BitOps.toBits (Cert.Reference5.Read.val_main_v2 (F := F) y _) = _
    rw [Cert.Reference5.Read.val_main_v2_apply, Cert.Reference5.Read.val_main_v1_apply]
    refine congrArg (fun k => half (y k)) (funext fun a => Fin.ext ?_)
    have hr := r.isLt
    have hj := j.isLt
    match a with
    | ⟨0, _⟩ => first | (show ((r.val * 2 + 1) * 1024 + j.val) / 1024 = 2 * r.val + 1; omega) | (show ((r.val * 2 + 0) * 1024 + j.val) / 1024 = 2 * r.val; omega)
    | ⟨1, _⟩ => first | (show ((r.val * 2 + 1) * 1024 + j.val) % 1024 = j.val; omega) | (show ((r.val * 2 + 0) * 1024 + j.val) % 1024 = j.val; omega)

/-! ## The result -/

variable (m : (ℓ : Loc nD τ sig) → Buf (Elt F) ℓ) (c : Dev nD)

theorem index_rows : ∀ t : Fin cfg0.N, (win0_0.index t (0 : Fin 2) = t.val ∧ win0_0.index t (1 : Fin 2) = 0) ∧ (win0_1.index t (0 : Fin 2) = t.val ∧ win0_1.index t (1 : Fin 2) = 0) :=
  (by decide +kernel : ∀ t : Fin grid0.N, _)

theorem block_x (t : Fin cfg0.N) (i j : Fin 1024) (r : Fin 16384) (hr : r.val = t.val * 1024 + i.val) :
    (iblk m c 0 t : S1024x1024.Idx → F .f32) (ix2 i j) = (m ((c : Thread nD τ).loc main_arg0) : S16384x1024.Idx → F .f32) (ix2 r j) := by
  refine Eq.trans (congrArg (V m c main_arg0) (funext fun a => Fin.ext ?_)) (congrFun (V_main_arg0 m c) _)
  obtain ⟨e0, e1⟩ := (index_rows t).1
  match a with
  | ⟨0, _⟩ => show win0_0.index t (0 : Fin 2) * 1024 + 1 * i.val = r.val; omega
  | ⟨1, _⟩ => show win0_0.index t (1 : Fin 2) * 1024 + 1 * j.val = j.val; omega

/-- The result array: the reference's. -/
def G1 : Buf (Elt F) ((c : Thread nD τ).loc main_v0) := Cert.Reference5.Read.val_main_v3 (F := F) (m ((c : Thread nD τ).loc main_arg0))

/-- Point `t` writes back rows `512 t …` of that array. -/
theorem flushed1_eq (t : Fin cfg0.N) : (dats m 0 c).flushed 1 t = ((cfg0.win 1).blk t).view.read (Elt F) (G1 m c) := by
  rw [flushed1]
  have hN : cfg0.N = 16 := N_0
  obtain ⟨e0, e1⟩ := (index_rows t).2
  funext y
  have hy0 : (y 0).val < 512 := (y 0).isLt
  have hy1 : (y 1).val < 1024 := (y 1).isLt
  have ht := t.isLt
  have hx : (cfg0.win 1).xinj (grid0.coords t) y = ix2 (⟨(y 0).val, hy0⟩ : Fin 512) (⟨(y 1).val, hy1⟩ : Fin 1024) := by
    funext a
    match a with
    | ⟨0, _⟩ => rfl
    | ⟨1, _⟩ => rfl
  have hb : ((cfg0.win 1).blk t).view.emb y = ix2 (⟨t.val * 512 + (y 0).val, by omega⟩ : Fin 8192) (⟨(y 1).val, hy1⟩ : Fin 1024) := by
    funext a; apply Fin.ext
    match a with
    | ⟨0, _⟩ => show win0_1.index t (0 : Fin 2) * 512 + 1 * (y 0).val = t.val * 512 + (y 0).val; omega
    | ⟨1, _⟩ => show win0_1.index t (1 : Fin 2) * 1024 + 1 * (y 1).val = (y 1).val; omega
  show out0_1 (F := F) _ ((cfg0.win 1).xinj (grid0.coords t) y) = G1 m c (((cfg0.win 1).blk t).view.emb y)
  rw [hx, hb, out_apply]
  unfold G1
  rw [ref_apply]
  exact congrArg₂ word (block_x m c t _ _ _ (by dsimp only; omega)) (block_x m c t _ _ _ (by dsimp only; omega))

theorem mem_blk1 (t : Fin cfg0.N) (i : S8192x1024.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v0).slice (win0_1.rect t)).set ↔ _
  rw [View.set_slice_whole, Rect.mem_set_unit]
  exact Iff.rfl

/-- The points' blocks cover the array. -/
theorem covered1 (i : S8192x1024.Idx) : ∃ t : Fin cfg0.N, (cfg0.win 1).flush t = true ∧ i ∈ ((cfg0.win 1).blk t).view.set := by
  have hN : cfg0.N = 16 := N_0
  have h0 : (i 0).val < 8192 := (i 0).isLt
  have h1 : (i 1).val < 1024 := (i 1).isLt
  have ht : (i 0).val / 512 < cfg0.N := by omega
  obtain ⟨e0, e1⟩ := (index_rows ⟨(i 0).val / 512, ht⟩).2
  refine ⟨⟨(i 0).val / 512, ht⟩, (by decide +kernel : ∀ t : Fin grid0.N, win0_1.flush t = true) _, (mem_blk1 _ i).2 fun a => ?_⟩
  match a with
  | ⟨0, _⟩ => show win0_1.index _ (0 : Fin 2) * 512 ≤ (i 0).val ∧ (i 0).val < win0_1.index _ (0 : Fin 2) * 512 + 512; rw [e0]; dsimp only; omega
  | ⟨1, _⟩ => show win0_1.index _ (1 : Fin 2) * 1024 ≤ (i 1).val ∧ (i 1).val < win0_1.index _ (1 : Fin 2) * 1024 + 1024; rw [e1]; omega

/-- What the run leaves in the result array is what the reference computes of the same table. -/
theorem final1 : (dats m 0 c).arrAt 1 cfg0.N = G1 m c :=
  (dats m 0 c).arrAt_eq_of_cover 1 _ (fun t _ => flushed1_eq m c t) covered1

end Cert.Kernel5.Pack

end
-- ==== Proof.PackTValue.lean ====
/- The value of the packing of the experts' second table, transposed: word (r, j) of the result has column 2r + 1 of the table,
   rounded to bf16, in its high half and column 2r in its low half, each at row j. -/
module

public import proofs.«01_k».proof.Proof.PackValue
public import proofs.«01_k».proof.Proof.Gen.Kernel6.Value
public import proofs.«01_k».proof.Proof.Gen.Reference6.Read
public import Idealize.ShloMosaic.Lib.Pointwise
public import Idealize.ShloMosaic.Lib.BitcastPair
public import Idealize.ShloMosaic.Lib.BitcastConvert
public import Idealize.ShloMosaic.Lib.ValueIdx
public import Idealize.ShloMosaic.Lib.Pipeline.ValueKit

@[expose] public section

set_option maxRecDepth 16384

noncomputable section

namespace Cert.Kernel6.Pack

open Cert.Kernel6 Cert.Kernel6.Gen Cert.Kernel6.Value
open Cert.Kernel5.Pack (half word)
open Idealize.ShloMosaic Idealize.ShloMosaic.TcCoe Idealize.SL.Sem Idealize.ShloMosaic.Tactic

variable {F : FTy → Type} [BitOps F]

/-! ## What a point leaves -/

theorem pay1_apply (x : S1024x1024.Idx → F .f32) (i : Fin 512) (j : Fin 1024) :
    k0_pay1 (F := F) x (ix2 i j) = word (x (ix2 j (⟨2 * i.val, by omega⟩ : Fin 1024))) (x (ix2 j (⟨2 * i.val + 1, by omega⟩ : Fin 1024))) := by
  unfold k0_pay1
  refine (bitcast_16_32 _ bitcasts_S1024x1024_w16_S512x1024_w32 (ix2 i j)).trans ?_
  unfold word
  refine congrArg₂ (fun a b : BitVec 16 => a ++ b) (congrArg half (transpose_apply [1, 0] x _ _ _ fun b => ?_)) (congrArg half (transpose_apply [1, 0] x _ _ _ fun b => ?_)) <;>
  match b with
  | ⟨0, _⟩ => exact (Shape.Bitcasts.srcIdx_row bitcasts_S1024x1024_w16_S512x1024_w32 (ix2 i j) _ _ ⟨0, Nat.zero_lt_two⟩ rfl).symm
  | ⟨1, _⟩ => exact (Shape.Bitcasts.srcIdx_other bitcasts_S1024x1024_w16_S512x1024_w32 (ix2 i j) _ _ ⟨1, Nat.one_lt_two⟩ (by show ¬ 1 + 2 = 2; omega)).symm

theorem out_apply (x : S1024x1024.Idx → F .f32) (i : Fin 512) (j : Fin 1024) :
    out0_1 (F := F) x (ix2 i j) = word (x (ix2 j (⟨2 * i.val, by omega⟩ : Fin 1024))) (x (ix2 j (⟨2 * i.val + 1, by omega⟩ : Fin 1024))) := by
  unfold out0_1 r0_0
  rw [View.ld_unit_zero (by decide)]
  exact (congrFun (View.canon_cons_unit_zero (by decide) _ _ _) _).trans (pay1_apply x i j)

/-! ## The reference -/

theorem ref_apply (y : S16384x1024.Idx → F .f32) (r : Fin 512) (j : Fin 16384) :
    Cert.Reference6.Read.val_main_v3 (F := F) y (ix2 r j) = word (y (ix2 j (⟨2 * r.val, by omega⟩ : Fin 1024))) (y (ix2 j (⟨2 * r.val + 1, by omega⟩ : Fin 1024))) := by
  unfold Cert.Reference6.Read.val_main_v3
  refine (Host.bitcastConvertWiden_apply_16_32 _ _ _ _).trans ?_
  unfold word
  refine congrArg₂ (fun a b : BitVec 16 => a ++ b) ?_ ?_ <;>
  · show BitOps.toBits (Cert.Reference6.Read.val_main_v2 (F := F) y _) = _
    rw [Cert.Reference6.Read.val_main_v2_apply, Cert.Reference6.Read.val_main_v1_apply]
    refine congrArg (fun k => half (y k)) (funext fun a => Fin.ext ?_)
    have hr := r.isLt
    have hj := j.isLt
    match a with
    | ⟨0, _⟩ => first | (show ((j.val * 512 + r.val) * 2 + 1) / 1024 = j.val; omega) | (show ((j.val * 512 + r.val) * 2 + 0) / 1024 = j.val; omega)
    | ⟨1, _⟩ => first | (show ((j.val * 512 + r.val) * 2 + 1) % 1024 = 2 * r.val + 1; omega) | (show ((j.val * 512 + r.val) * 2 + 0) % 1024 = 2 * r.val; omega)

/-! ## The result -/

variable (m : (ℓ : Loc nD τ sig) → Buf (Elt F) ℓ) (c : Dev nD)

theorem index_rows : ∀ t : Fin cfg0.N, (win0_0.index t (0 : Fin 2) = t.val ∧ win0_0.index t (1 : Fin 2) = 0) ∧ (win0_1.index t (0 : Fin 2) = 0 ∧ win0_1.index t (1 : Fin 2) = t.val) :=
  (by decide +kernel : ∀ t : Fin grid0.N, _)

theorem block_x (t : Fin cfg0.N) (i j : Fin 1024) (r : Fin 16384) (hr : r.val = t.val * 1024 + i.val) :
    (iblk m c 0 t : S1024x1024.Idx → F .f32) (ix2 i j) = (m ((c : Thread nD τ).loc main_arg0) : S16384x1024.Idx → F .f32) (ix2 r j) := by
  refine Eq.trans (congrArg (V m c main_arg0) (funext fun a => Fin.ext ?_)) (congrFun (V_main_arg0 m c) _)
  obtain ⟨e0, e1⟩ := (index_rows t).1
  match a with
  | ⟨0, _⟩ => show win0_0.index t (0 : Fin 2) * 1024 + 1 * i.val = r.val; omega
  | ⟨1, _⟩ => show win0_0.index t (1 : Fin 2) * 1024 + 1 * j.val = j.val; omega

/-- The result array: the reference's. -/
def G1 : Buf (Elt F) ((c : Thread nD τ).loc main_v0) := Cert.Reference6.Read.val_main_v3 (F := F) (m ((c : Thread nD τ).loc main_arg0))

/-- Point `t` writes back columns `1024 t …` of that array. -/
theorem flushed1_eq (t : Fin cfg0.N) : (dats m 0 c).flushed 1 t = ((cfg0.win 1).blk t).view.read (Elt F) (G1 m c) := by
  rw [flushed1]
  have hN : cfg0.N = 16 := N_0
  obtain ⟨e0, e1⟩ := (index_rows t).2
  funext y
  have hy0 : (y 0).val < 512 := (y 0).isLt
  have hy1 : (y 1).val < 1024 := (y 1).isLt
  have ht := t.isLt
  have hx : (cfg0.win 1).xinj (grid0.coords t) y = ix2 (⟨(y 0).val, hy0⟩ : Fin 512) (⟨(y 1).val, hy1⟩ : Fin 1024) := by
    funext a
    match a with
    | ⟨0, _⟩ => rfl
    | ⟨1, _⟩ => rfl
  have hb : ((cfg0.win 1).blk t).view.emb y = ix2 (⟨(y 0).val, hy0⟩ : Fin 512) (⟨t.val * 1024 + (y 1).val, by omega⟩ : Fin 16384) := by
    funext a; apply Fin.ext
    match a with
    | ⟨0, _⟩ => show win0_1.index t (0 : Fin 2) * 512 + 1 * (y 0).val = (y 0).val; omega
    | ⟨1, _⟩ => show win0_1.index t (1 : Fin 2) * 1024 + 1 * (y 1).val = t.val * 1024 + (y 1).val; omega
  show out0_1 (F := F) _ ((cfg0.win 1).xinj (grid0.coords t) y) = G1 m c (((cfg0.win 1).blk t).view.emb y)
  rw [hx, hb, out_apply]
  unfold G1
  rw [ref_apply]
  exact congrArg₂ word (block_x m c t _ _ _ rfl) (block_x m c t _ _ _ rfl)

theorem mem_blk1 (t : Fin cfg0.N) (i : S512x16384.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v0).slice (win0_1.rect t)).set ↔ _
  rw [View.set_slice_whole, Rect.mem_set_unit]
  exact Iff.rfl

/-- The points' blocks cover the array. -/
theorem covered1 (i : S512x16384.Idx) : ∃ t : Fin cfg0.N, (cfg0.win 1).flush t = true ∧ i ∈ ((cfg0.win 1).blk t).view.set := by
  have hN : cfg0.N = 16 := N_0
  have h0 : (i 0).val < 512 := (i 0).isLt
  have h1 : (i 1).val < 16384 := (i 1).isLt
  have ht : (i 1).val / 1024 < cfg0.N := by omega
  obtain ⟨e0, e1⟩ := (index_rows ⟨(i 1).val / 1024, ht⟩).2
  refine ⟨⟨(i 1).val / 1024, ht⟩, (by decide +kernel : ∀ t : Fin grid0.N, win0_1.flush t = true) _, (mem_blk1 _ i).2 fun a => ?_⟩
  match a with
  | ⟨0, _⟩ => show win0_1.index _ (0 : Fin 2) * 512 ≤ (i 0).val ∧ (i 0).val < win0_1.index _ (0 : Fin 2) * 512 + 512; rw [e0]; omega
  | ⟨1, _⟩ => show win0_1.index _ (1 : Fin 2) * 1024 ≤ (i 1).val ∧ (i 1).val < win0_1.index _ (1 : Fin 2) * 1024 + 1024; rw [e1]; dsimp only; omega

/-- What the run leaves in the result array is what the reference computes of the same table. -/
theorem final1 : (dats m 0 c).arrAt 1 cfg0.N = G1 m c :=
  (dats m 0 c).arrAt_eq_of_cover 1 _ (fun t _ => flushed1_eq m c t) covered1

end Cert.Kernel6.Pack

end
-- ==== Proof.lean ====
/- The claims about the six calls: each program runs and leaves its arguments as they were, the idealized program is the
   printed one read over the extended reals, and a kernel and its reference compute the same array (of the two packing calls:
   the same bits). -/
module

public import proofs.«01_k».proof.Defs
public import proofs.«01_k».proof.Proof.Gen.Kernel
public import proofs.«01_k».proof.Proof.SsdValue
public import proofs.«01_k».proof.Proof.Gen.ReferenceIdeal.Run
public import proofs.«01_k».proof.Proof.SsdEq
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Value
public import proofs.«01_k».proof.Proof.Gen.Reference5.Run
public import proofs.«01_k».proof.Proof.Gen.Reference5.Read
public import proofs.«01_k».proof.Proof.Gen.Kernel6.Value
public import proofs.«01_k».proof.Proof.Gen.Reference6.Run
public import proofs.«01_k».proof.Proof.Gen.Reference6.Read
public import proofs.«01_k».proof.Proof.InprojValue
public import proofs.«01_k».proof.Proof.MergeValue
public import proofs.«01_k».proof.Proof.GmlpValue
public import proofs.«01_k».proof.Proof.PackValue
public import proofs.«01_k».proof.Proof.PackTValue
public import Idealize.ShloMosaic.Lib.Tactic
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.Tactic Idealize.ShloMosaic.TcCoe Idealize.SL.Sem

/-! ## The frames -/

section Transport

local instance : Cert.Kernel.Facts := Cert.Kernel.Gen.facts
local instance : Cert.KernelIdeal.Facts := Cert.KernelIdeal.Gen.facts

/-- The printed SSD program and its idealization are one text, so their runs from one memory are the same. -/
theorem ssd_runs_same (m : (ℓ : Loc Cert.KernelIdeal.nD Cert.KernelIdeal.τ Cert.KernelIdeal.sig) → Buf (Elt Bits) ℓ) (ρ : Dev Cert.KernelIdeal.nD → PrngReg) :
    θ_run (Cert.Kernel.defs (F := Bits)) (onTc (τ := Cert.Kernel.τ) (Cert.Kernel.main (F := Bits))) ⟨m, fun _ => 0, ρ⟩
      = θ_run (Cert.KernelIdeal.defs (F := Bits)) (onTc (τ := Cert.KernelIdeal.τ) (Cert.KernelIdeal.main (F := Bits))) ⟨m, fun _ => 0, ρ⟩ := by
  sl_kernel_rfl

set_option maxHeartbeats 2000000 in
/-- Hence the one frame, proved of the idealization's text at any float type, is the printed program's at the machine's. -/
theorem ssd_frame : Cert.quiescent_Kernel := by
  unfold quiescent_Kernel
  intro m ρ _
  have h := Cert.KernelIdeal.Gen.frame (F := Bits) m ρ
  rw [← ssd_runs_same m ρ] at h
  exact h

end Transport

/-! ## The values -/

/-- The input projection: from equal arguments both programs leave `x @ w_in` without the dt columns. -/
theorem inproj_algebraic : Cert.algebraic_Kernel2Ideal_Reference2Ideal (hKernel2Ideal := Cert.Kernel2Ideal.Gen.facts)
    (hReference2Ideal := Cert.Reference2Ideal.Gen.facts) := by
  intro m ρ m' ρ' _ agree
  refine ⟨_, Cert.Kernel2Ideal.Value.run (F := Ideal) m ρ, ?_⟩
  refine (θ_run Cert.Reference2Ideal.defs _ _).mono (fun _ h c => ⟨(h c).1.trans ?_, (h c).2⟩)
    (Cert.Reference2Ideal.Value.run (F := Ideal) m' ρ')
  rw [(agree c).1, (agree c).2]
  exact Cert.Kernel2Ideal.Inproj.same m c

/-- The SSD call and its reference compute the same array. -/
theorem ssd_algebraic : Cert.algebraic_KernelIdeal_ReferenceIdeal (hKernelIdeal := Cert.KernelIdeal.Gen.facts)
    (hReferenceIdeal := Cert.ReferenceIdeal.Gen.facts) := by
  intro m ρ m' ρ' _ agree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := agree c
  have e := Cert.KernelIdeal.Ssd.same m c
  rw [← a0, ← a1, ← a2, ← a3, ← a4, ← a5, ← a6, ← a7, ← a8] at e
  exact (Cert.ReferenceIdeal.Read.val_main_v268_eq _).trans e

/-- The merge and its reference compute the same array. -/
theorem merge_algebraic : Cert.algebraic_Kernel3Ideal_Reference3Ideal (hKernel3Ideal := Cert.Kernel3Ideal.Gen.facts)
    (hReference3Ideal := Cert.Reference3Ideal.Gen.facts) := by
  intro m ρ m' ρ' _ agree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨a0, a1, a2, a3, a4, a5, a6, a7, a8⟩ := agree c
  rw [Cert.Reference3Ideal.Read.val_main_v43_eq, a0, a1, a2, a3, a4, a5, a6, a7, a8]
  exact Cert.Kernel3Ideal.Merge.same m c

/-- The gMLP branch and its reference compute the same array. -/
theorem gmlp_algebraic : Cert.algebraic_Kernel4Ideal_Reference4Ideal (hKernel4Ideal := Cert.Kernel4Ideal.Gen.facts)
    (hReference4Ideal := Cert.Reference4Ideal.Gen.facts) := by
  intro m ρ m' ρ' _ agree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨a0, a1, a2, a3, a4, a5, a6⟩ := agree c
  rw [Cert.Reference4Ideal.Read.val_main_v70_eq, a0, a1, a2, a3, a4, a5, a6]
  exact Cert.Kernel4Ideal.Gmlp.same m c

/-- The packing of the experts' first table leaves the reference's words. -/
theorem pack_bitexact : Cert.bitexact_Kernel5_Reference5 (hKernel5 := Cert.Kernel5.Gen.facts)
    (hReference5 := Cert.Reference5.Gen.facts) := by
  intro m ρ m' ρ' _ agree
  refine ⟨_, Cert.Kernel5.Value.run_blocks (F := Bits) m ρ, ?_⟩
  refine (θ_run Cert.Reference5.defs _ _).mono (fun _ h c => ⟨(h c).1.trans ?_, (h c).2⟩)
    (Cert.Reference5.Value.run (F := Bits) m' ρ')
  have a0 := agree c
  rw [Cert.Reference5.Read.val_main_v3_eq, a0]
  exact (Cert.Kernel5.Pack.final1 m c).symm

/-- So does the packing of the second table, transposed. -/
theorem packT_bitexact : Cert.bitexact_Kernel6_Reference6 (hKernel6 := Cert.Kernel6.Gen.facts)
    (hReference6 := Cert.Reference6.Gen.facts) := by
  intro m ρ m' ρ' _ agree
  refine ⟨_, Cert.Kernel6.Value.run_blocks (F := Bits) m ρ, ?_⟩
  refine (θ_run Cert.Reference6.defs _ _).mono (fun _ h c => ⟨(h c).1.trans ?_, (h c).2⟩)
    (Cert.Reference6.Value.run (F := Bits) m' ρ')
  have a0 := agree c
  rw [Cert.Reference6.Read.val_main_v3_eq, a0]
  exact (Cert.Kernel6.Pack.final1 m c).symm

/-- The certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Reference5.Gen.facts, Cert.Kernel6.Gen.facts, Cert.Reference6.Gen.facts,
    ssd_frame,
    fun m ρ _ => Cert.KernelIdeal.Gen.frame m ρ,
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono (fun r h => ⟨fun c => (h c).2, sem_eq_zero_of_no_sems (by decide) r.2⟩)
      (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2, sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2, sem_eq_zero_of_no_sems (by decide) r.2⟩)
      (Cert.Reference4Ideal.Value.run (F := Ideal) m ρ),
    fun m ρ _ => Cert.Kernel5.Gen.frame m ρ,
    fun m ρ _ => (θ_run Cert.Reference5.defs _ _).mono (fun r h => ⟨fun c => (h c).2, sem_eq_zero_of_no_sems (by decide) r.2⟩)
      (Cert.Reference5.Value.run (F := Bits) m ρ),
    fun m ρ _ => Cert.Kernel6.Gen.frame m ρ,
    fun m ρ _ => (θ_run Cert.Reference6.defs _ _).mono (fun r h => ⟨fun c => (h c).2, sem_eq_zero_of_no_sems (by decide) r.2⟩)
      (Cert.Reference6.Value.run (F := Bits) m ρ),
    trivial,
    ssd_algebraic,
    trivial,
    inproj_algebraic,
    trivial,
    merge_algebraic,
    trivial,
    gmlp_algebraic,
    pack_bitexact,
    packT_bitexact⟩

end Cert.Proof

end
